-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v31)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v104_0)) (v1 : (c : Dev Cert.Kernel3Ideal.nD) → Buf (Elt Ideal) ((c.tc : Thread Cert.Kernel3Ideal.nD Cert.Kernel3Ideal.τ).loc Cert.Kernel3Ideal.main_v104_1)) (v2 : (c : Dev Cert.Kernel3Ideal.nD) → Buf (Elt Ideal) ((c.tc : Thread Cert.Kernel3Ideal.nD Cert.Kernel3Ideal.τ).loc Cert.Kernel3Ideal.main_v104_2)) (v3 : (c : Dev Cert.Kernel3Ideal.nD) → Buf (Elt Ideal) ((c.tc : Thread Cert.Kernel3Ideal.nD Cert.Kernel3Ideal.τ).loc Cert.Kernel3Ideal.main_v104_3)) (v4 : (c : Dev Cert.Kernel3Ideal.nD) → Buf (Elt Ideal) ((c.tc : Thread Cert.Kernel3Ideal.nD Cert.Kernel3Ideal.τ).loc Cert.Kernel3Ideal.main_v104_4)) (v5 : (c : Dev Cert.Kernel3Ideal.nD) → Buf (Elt Ideal) ((c.tc : Thread Cert.Kernel3Ideal.nD Cert.Kernel3Ideal.τ).loc Cert.Kernel3Ideal.main_v104_5)) (v6 : (c : Dev Cert.Kernel3Ideal.nD) → Buf (Elt Ideal) ((c.tc : Thread Cert.Kernel3Ideal.nD Cert.Kernel3Ideal.τ).loc Cert.Kernel3Ideal.main_v104_6)) (v7 : (c : Dev Cert.Kernel3Ideal.nD) → Buf (Elt Ideal) ((c.tc : Thread Cert.Kernel3Ideal.nD Cert.Kernel3Ideal.τ).loc Cert.Kernel3Ideal.main_v104_7)) (v8 : (c : Dev Cert.Kernel3Ideal.nD) → Buf (Elt Ideal) ((c.tc : Thread Cert.Kernel3Ideal.nD Cert.Kernel3Ideal.τ).loc Cert.Kernel3Ideal.main_v104_8)) (v9 : (c : Dev Cert.Kernel3Ideal.nD) → Buf (Elt Ideal) ((c.tc : Thread Cert.Kernel3Ideal.nD Cert.Kernel3Ideal.τ).loc Cert.Kernel3Ideal.main_v104_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v104_0) = v0 c
          ∧ r.2.mem ((c.tc : Thread Cert.Kernel3Ideal.nD Cert.Kernel3Ideal.τ).loc Cert.Kernel3Ideal.main_v104_1) = v1 c
          ∧ r.2.mem ((c.tc : Thread Cert.Kernel3Ideal.nD Cert.Kernel3Ideal.τ).loc Cert.Kernel3Ideal.main_v104_2) = v2 c
          ∧ r.2.mem ((c.tc : Thread Cert.Kernel3Ideal.nD Cert.Kernel3Ideal.τ).loc Cert.Kernel3Ideal.main_v104_3) = v3 c
          ∧ r.2.mem ((c.tc : Thread Cert.Kernel3Ideal.nD Cert.Kernel3Ideal.τ).loc Cert.Kernel3Ideal.main_v104_4) = v4 c
          ∧ r.2.mem ((c.tc : Thread Cert.Kernel3Ideal.nD Cert.Kernel3Ideal.τ).loc Cert.Kernel3Ideal.main_v104_5) = v5 c
          ∧ r.2.mem ((c.tc : Thread Cert.Kernel3Ideal.nD Cert.Kernel3Ideal.τ).loc Cert.Kernel3Ideal.main_v104_6) = v6 c
          ∧ r.2.mem ((c.tc : Thread Cert.Kernel3Ideal.nD Cert.Kernel3Ideal.τ).loc Cert.Kernel3Ideal.main_v104_7) = v7 c
          ∧ r.2.mem ((c.tc : Thread Cert.Kernel3Ideal.nD Cert.Kernel3Ideal.τ).loc Cert.Kernel3Ideal.main_v104_8) = v8 c
          ∧ r.2.mem ((c.tc : Thread Cert.Kernel3Ideal.nD Cert.Kernel3Ideal.τ).loc Cert.Kernel3Ideal.main_v104_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v293) = v0 c
          ∧ r.2.mem ((c.tc : Thread Cert.Reference3Ideal.nD Cert.Reference3Ideal.τ).loc Cert.Reference3Ideal.main_v298) = v1 c
          ∧ r.2.mem ((c.tc : Thread Cert.Reference3Ideal.nD Cert.Reference3Ideal.τ).loc Cert.Reference3Ideal.main_v300) = v2 c
          ∧ r.2.mem ((c.tc : Thread Cert.Reference3Ideal.nD Cert.Reference3Ideal.τ).loc Cert.Reference3Ideal.main_v303) = v3 c
          ∧ r.2.mem ((c.tc : Thread Cert.Reference3Ideal.nD Cert.Reference3Ideal.τ).loc Cert.Reference3Ideal.main_v306) = v4 c
          ∧ r.2.mem ((c.tc : Thread Cert.Reference3Ideal.nD Cert.Reference3Ideal.τ).loc Cert.Reference3Ideal.main_v309) = v5 c
          ∧ r.2.mem ((c.tc : Thread Cert.Reference3Ideal.nD Cert.Reference3Ideal.τ).loc Cert.Reference3Ideal.main_v313) = v6 c
          ∧ r.2.mem ((c.tc : Thread Cert.Reference3Ideal.nD Cert.Reference3Ideal.τ).loc Cert.Reference3Ideal.main_v316) = v7 c
          ∧ r.2.mem ((c.tc : Thread Cert.Reference3Ideal.nD Cert.Reference3Ideal.τ).loc Cert.Reference3Ideal.main_v319) = v8 c
          ∧ r.2.mem ((c.tc : Thread Cert.Reference3Ideal.nD Cert.Reference3Ideal.τ).loc Cert.Reference3Ideal.main_v322) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S8x2048x8x96 : Shape := ⟨4, ![8, 2048, 8, 96]⟩
abbrev S8x2048x8x64 : Shape := ⟨4, ![8, 2048, 8, 64]⟩
abbrev S16384x512 : Shape := ⟨2, ![16384, 512]⟩
abbrev S_ : Shape := ⟨0, ![]⟩

class Facts : Prop where
  bcast_S_S8x2048x8x96 : S_.BroadcastsInDim S8x2048x8x96 (![] : Fin 0 → Fin S8x2048x8x96.rank)
  reducesTo_S8x2048x8x96_S_d0_1_2_3 : S8x2048x8x96.ReducesTo [0, 1, 2, 3] S_
  h_S_ : 0 < S_.numel

variable [Facts]

def fn {F : FTy → Type} [FloatOps F] (main_arg0 : FVec F S8x2048x8x96 .f32) (main_arg1 : FVec F S8x2048x8x96 .f32) (main_arg2 : FVec F S8x2048x8x64 .f32) (main_arg3 : FVec F S16384x512 .f32) : IVec S_ 1 :=
  let main_v0 : FVec F S8x2048x8x96 .f32 := Host.absf main_arg0
  let main_cst : FVec F S_ .f32 := constant S_ .f32 0x7F800000#32
  let main_v1 : FVec F S8x2048x8x96 .f32 := broadcastInDim S8x2048x8x96 ![] bcast_S_S8x2048x8x96 main_cst
  let main_v2 : IVec S8x2048x8x96 1 := cmpf .olt main_v0 main_v1
  let main_c : IVec S_ 1 := constantI S_ 1 1#1
  let main_v3 : IVec S_ 1 := (fun x v => Host.reduce IntOp.andi x v reducesTo_S8x2048x8x96_S_d0_1_2_3 h_S_) main_v2 main_c
  let main_v4 : FVec F S8x2048x8x96 .f32 := Host.absf main_arg1
  let main_cst_0 : FVec F S_ .f32 := constant S_ .f32 0x7F800000#32
  let main_v5 : FVec F S8x2048x8x96 .f32 := broadcastInDim S8x2048x8x96 ![] bcast_S_S8x2048x8x96 main_cst_0
  let main_v6 : IVec S8x2048x8x96 1 := cmpf .olt main_v4 main_v5
  let main_c_1 : IVec S_ 1 := constantI S_ 1 1#1
  let main_v7 : IVec S_ 1 := (fun x v => Host.reduce IntOp.andi x v reducesTo_S8x2048x8x96_S_d0_1_2_3 h_S_) main_v6 main_c_1
  let main_v8 : IVec S_ 1 := andi main_v3 main_v7
  main_v8
-- ==== Kernel.lean ====
abbrev S8x2048x8x96 : Shape := ⟨4, ![8, 2048, 8, 96]⟩
abbrev S8x2048x8x64 : Shape := ⟨4, ![8, 2048, 8, 64]⟩
abbrev S16384x512 : Shape := ⟨2, ![16384, 512]⟩
abbrev S_ : Shape := ⟨0, ![]⟩
abbrev S8x2048x8x128 : Shape := ⟨4, ![8, 2048, 8, 128]⟩
abbrev S16384x1024 : Shape := ⟨2, ![16384, 1024]⟩
abbrev S1024x16384 : Shape := ⟨2, ![1024, 16384]⟩
abbrev S512x16384 : Shape := ⟨2, ![512, 16384]⟩
abbrev S1024x2048 : Shape := ⟨2, ![1024, 2048]⟩
abbrev S2048x1024 : Shape := ⟨2, ![2048, 1024]⟩
abbrev S512x2048 : Shape := ⟨2, ![512, 2048]⟩
abbrev S2048x512 : Shape := ⟨2, ![2048, 512]⟩
abbrev S8x256x256 : Shape := ⟨3, ![8, 256, 256]⟩
abbrev S2048x256 : Shape := ⟨2, ![2048, 256]⟩
abbrev S2x4096x256 : Shape := ⟨3, ![2, 4096, 256]⟩
abbrev S8x512x256 : Shape := ⟨3, ![8, 512, 256]⟩
abbrev S1x256 : Shape := ⟨2, ![1, 256]⟩
abbrev S256x256 : Shape := ⟨2, ![256, 256]⟩
abbrev S1x256x256 : Shape := ⟨3, ![1, 256, 256]⟩
abbrev S1024x256 : Shape := ⟨2, ![1024, 256]⟩
abbrev S128x256 : Shape := ⟨2, ![128, 256]⟩
abbrev S8x256 : Shape := ⟨2, ![8, 256]⟩
abbrev S256x128 : Shape := ⟨2, ![256, 128]⟩
abbrev S32x8x256 : Shape := ⟨3, ![32, 8, 256]⟩
abbrev S1x4096x256 : Shape := ⟨3, ![1, 4096, 256]⟩
abbrev S4096x256 : Shape := ⟨2, ![4096, 256]⟩
abbrev S256 : Shape := ⟨1, ![256]⟩
abbrev S64x256 : Shape := ⟨2, ![64, 256]⟩
abbrev S1x512x256 : Shape := ⟨3, ![1, 512, 256]⟩
abbrev S512x256 : Shape := ⟨2, ![512, 256]⟩
abbrev S256x512 : Shape := ⟨2, ![256, 512]⟩
abbrev S64x512 : Shape := ⟨2, ![64, 512]⟩
abbrev S64x768 : Shape := ⟨2, ![64, 768]⟩
abbrev S768x256 : Shape := ⟨2, ![768, 256]⟩
abbrev S64x1024 : Shape := ⟨2, ![64, 1024]⟩
abbrev S64x1280 : Shape := ⟨2, ![64, 1280]⟩
abbrev S1280x256 : Shape := ⟨2, ![1280, 256]⟩
abbrev S64x1536 : Shape := ⟨2, ![64, 1536]⟩
abbrev S1536x256 : Shape := ⟨2, ![1536, 256]⟩
abbrev S64x1792 : Shape := ⟨2, ![64, 1792]⟩
abbrev S1792x256 : Shape := ⟨2, ![1792, 256]⟩
abbrev S64x2048 : Shape := ⟨2, ![64, 2048]⟩

abbrev nBuf : Space → Nat
  | .hbm => 26
  | .vmem => 12
  | .smem => 0
  | _ => 0

abbrev bufTy : (tb : Table) → Fin (tcTables nBuf tb) → BufTy
  | .hbm, ⟨0, _⟩ => ⟨S8x2048x8x96, .f32⟩
  | .hbm, ⟨1, _⟩ => ⟨S8x2048x8x96, .f32⟩
  | .hbm, ⟨2, _⟩ => ⟨S8x2048x8x64, .f32⟩
  | .hbm, ⟨3, _⟩ => ⟨S16384x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x2048x8x96, .f32⟩
  | .hbm, ⟨10, _⟩ => ⟨S8x2048x8x96, .f32⟩
  | .hbm, ⟨11, _⟩ => ⟨S_, .i32⟩
  | .hbm, ⟨12, _⟩ => ⟨S_, .f32⟩
  | .hbm, ⟨13, _⟩ => ⟨S8x2048x8x128, .f32⟩
  | .hbm, ⟨14, _⟩ => ⟨S16384x1024, .f32⟩
  | .hbm, ⟨15, _⟩ => ⟨S1024x16384, .f32⟩
  | .hbm, ⟨16, _⟩ => ⟨S1024x16384, .bf16⟩
  | .hbm, ⟨17, _⟩ => ⟨S_, .i32⟩
  | .hbm, ⟨18, _⟩ => ⟨S_, .f32⟩
  | .hbm, ⟨19, _⟩ => ⟨S8x2048x8x128, .f32⟩
  | .hbm, ⟨20, _⟩ => ⟨S16384x1024, .f32⟩
  | .hbm, ⟨21, _⟩ => ⟨S16384x1024, .bf16⟩
  | .hbm, ⟨22, _⟩ => ⟨S16384x512, .f32⟩
  | .hbm, ⟨23, _⟩ => ⟨S512x16384, .f32⟩
  | .hbm, ⟨24, _⟩ => ⟨S512x16384, .bf16⟩
  | .hbm, ⟨25, _⟩ => ⟨S16384x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .f32⟩
  | .local _ .vmem, ⟨7, _⟩ => ⟨S2048x512, .f32⟩
  | .local _ .vmem, ⟨8, _⟩ => ⟨S8x256x256, .f32⟩
  | .local _ .vmem, ⟨9, _⟩ => ⟨S2048x256, .f32⟩
  | .local _ .vmem, ⟨10, _⟩ => ⟨S2x4096x256, .bf16⟩
  | .local _ .vmem, ⟨11, _⟩ => ⟨S8x512x256, .f32⟩
  | _, _ => ⟨S8x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8x2048x8x96 : Shape := ⟨4, ![8, 2048, 8, 96]⟩
abbrev S8x2048x8x64 : Shape := ⟨4, ![8, 2048, 8, 64]⟩
abbrev S16384x512 : Shape := ⟨2, ![16384, 512]⟩
abbrev S2048 : Shape := ⟨1, ![2048]⟩
abbrev S8x8x2048x2048 : Shape := ⟨4, ![8, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x8x96, .f32⟩
  | .hbm, ⟨1, _⟩ => ⟨S8x2048x8x96, .f32⟩
  | .hbm, ⟨2, _⟩ => ⟨S8x2048x8x64, .f32⟩
  | .hbm, ⟨3, _⟩ => ⟨S16384x512, .f32⟩
  | .hbm, ⟨4, _⟩ => ⟨S2048, .i32⟩
  | .hbm, ⟨5, _⟩ => ⟨S8x8x2048x2048, .f32⟩
  | .hbm, ⟨6, _⟩ => ⟨S_, .f32⟩
  | .hbm, ⟨7, _⟩ => ⟨S_, .f32⟩
  | .hbm, ⟨8, _⟩ => ⟨S8x8x2048x2048, .f32⟩
  | .hbm, ⟨9, _⟩ => ⟨S8x8x2048x2048, .f32⟩
  | .hbm, ⟨10, _⟩ => ⟨S1x2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S1x1x2048x2048, .i1⟩
  | .hbm, ⟨16, _⟩ => ⟨S_, .f32⟩
  | .hbm, ⟨17, _⟩ => ⟨S_, .f32⟩
  | .hbm, ⟨18, _⟩ => ⟨S8x8x2048x2048, .i1⟩
  | .hbm, ⟨19, _⟩ => ⟨S8x8x2048x2048, .f32⟩
  | .hbm, ⟨20, _⟩ => ⟨S8x8x2048x2048, .f32⟩
  | .hbm, ⟨21, _⟩ => ⟨S_, .f32⟩
  | .hbm, ⟨22, _⟩ => ⟨S8x8x2048, .f32⟩
  | .hbm, ⟨23, _⟩ => ⟨S_, .f32⟩
  | .hbm, ⟨24, _⟩ => ⟨S8x8x2048, .f32⟩
  | .hbm, ⟨25, _⟩ => ⟨S8x8x2048, .f32⟩
  | .hbm, ⟨26, _⟩ => ⟨S8x8x2048x1, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .f32⟩
  | .hbm, ⟨30, _⟩ => ⟨S_, .f32⟩
  | .hbm, ⟨31, _⟩ => ⟨S8x8x2048, .f32⟩
  | .hbm, ⟨32, _⟩ => ⟨S8x8x2048x1, .f32⟩
  | .hbm, ⟨33, _⟩ => ⟨S8x8x2048x2048, .f32⟩
  | .hbm, ⟨34, _⟩ => ⟨S8x8x2048x2048, .f32⟩
  | .hbm, ⟨35, _⟩ => ⟨S8x8x64x2048, .f32⟩
  | .hbm, ⟨36, _⟩ => ⟨S8x2048x8x64, .f32⟩
  | .hbm, ⟨37, _⟩ => ⟨S16384x512, .f32⟩
  | _, _ => ⟨S8x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x8x64 : Shape := ⟨4, ![8, 2048, 8, 64]⟩
abbrev S8x2048x4x128 : Shape := ⟨4, ![8, 2048, 4, 128]⟩
abbrev S1x1024 : Shape := ⟨2, ![1, 1024]⟩
abbrev S1x384 : Shape := ⟨2, ![1, 384]⟩
abbrev S1x256 : Shape := ⟨2, ![1, 256]⟩
abbrev S1x1024x7912 : Shape := ⟨3, ![1, 1024, 7912]⟩
abbrev S1x3x512x1024 : Shape := ⟨4, ![1, 3, 512, 1024]⟩
abbrev S1x1024x1024 : Shape := ⟨3, ![1, 1024, 1024]⟩
abbrev S1024x7912 : Shape := ⟨2, ![1024, 7912]⟩
abbrev S1024x512 : Shape := ⟨2, ![1024, 512]⟩
abbrev S1x1024x512 : Shape := ⟨3, ![1, 1024, 512]⟩
abbrev S3x1024x512 : Shape := ⟨3, ![3, 1024, 512]⟩
abbrev S1024x3072 : Shape := ⟨2, ![1024, 3072]⟩
abbrev S3x512x1024 : Shape := ⟨3, ![3, 512, 1024]⟩
abbrev S1024x1024 : Shape := ⟨2, ![1024, 1024]⟩
abbrev S1024 : Shape := ⟨1, ![1024]⟩
abbrev S384 : Shape := ⟨1, ![384]⟩
abbrev S256 : Shape := ⟨1, ![256]⟩
abbrev S_ : Shape := ⟨0, ![]⟩
abbrev S3x1024 : Shape := ⟨2, ![3, 1024]⟩
abbrev S16384x1024 : Shape := ⟨2, ![16384, 1024]⟩
abbrev S16384x512 : Shape := ⟨2, ![16384, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 48
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x8x64, .f32⟩
  | .hbm, ⟨2, _⟩ => ⟨S8x2048x8x64, .f32⟩
  | .hbm, ⟨3, _⟩ => ⟨S8x2048x4x128, .f32⟩
  | .hbm, ⟨4, _⟩ => ⟨S1x1024, .f32⟩
  | .hbm, ⟨5, _⟩ => ⟨S1x384, .f32⟩
  | .hbm, ⟨6, _⟩ => ⟨S1x256, .f32⟩
  | .hbm, ⟨7, _⟩ => ⟨S1x1024x7912, .f32⟩
  | .hbm, ⟨8, _⟩ => ⟨S1x3x512x1024, .f32⟩
  | .hbm, ⟨9, _⟩ => ⟨S1x1024x1024, .f32⟩
  | .hbm, ⟨10, _⟩ => ⟨S1024x7912, .f32⟩
  | .hbm, ⟨11, _⟩ => ⟨S1024x512, .f32⟩
  | .hbm, ⟨12, _⟩ => ⟨S1024x512, .bf16⟩
  | .hbm, ⟨13, _⟩ => ⟨S1024x512, .f32⟩
  | .hbm, ⟨14, _⟩ => ⟨S1024x512, .bf16⟩
  | .hbm, ⟨15, _⟩ => ⟨S1024x512, .f32⟩
  | .hbm, ⟨16, _⟩ => ⟨S1024x512, .bf16⟩
  | .hbm, ⟨17, _⟩ => ⟨S1x1024x512, .bf16⟩
  | .hbm, ⟨18, _⟩ => ⟨S1x1024x512, .bf16⟩
  | .hbm, ⟨19, _⟩ => ⟨S1x1024x512, .bf16⟩
  | .hbm, ⟨20, _⟩ => ⟨S3x1024x512, .bf16⟩
  | .hbm, ⟨21, _⟩ => ⟨S1024x3072, .f32⟩
  | .hbm, ⟨22, _⟩ => ⟨S1024x3072, .bf16⟩
  | .hbm, ⟨23, _⟩ => ⟨S3x512x1024, .f32⟩
  | .hbm, ⟨24, _⟩ => ⟨S3x512x1024, .bf16⟩
  | .hbm, ⟨25, _⟩ => ⟨S1024x1024, .f32⟩
  | .hbm, ⟨26, _⟩ => ⟨S1024x1024, .bf16⟩
  | .hbm, ⟨27, _⟩ => ⟨S1024, .f32⟩
  | .hbm, ⟨28, _⟩ => ⟨S384, .f32⟩
  | .hbm, ⟨29, _⟩ => ⟨S256, .f32⟩
  | .hbm, ⟨30, _⟩ => ⟨S_, .i32⟩
  | .hbm, ⟨31, _⟩ => ⟨S_, .f32⟩
  | .hbm, ⟨32, _⟩ => ⟨S1024, .f32⟩
  | .hbm, ⟨33, _⟩ => ⟨S_, .i32⟩
  | .hbm, ⟨34, _⟩ => ⟨S_, .f32⟩
  | .hbm, ⟨35, _⟩ => ⟨S1024, .f32⟩
  | .hbm, ⟨36, _⟩ => ⟨S_, .i32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S3x1024, .f32⟩
  | .hbm, ⟨43, _⟩ => ⟨S16384x1024, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S3x1024, .f32⟩
  | .local _ .vmem, ⟨9, _⟩ => ⟨S3x1024x512, .bf16⟩
  | .local _ .vmem, ⟨10, _⟩ => ⟨S1024x3072, .bf16⟩
  | .local _ .vmem, ⟨11, _⟩ => ⟨S3x512x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_c_0 : Ref sig .tc := ⟨.hbm, 33, rfl⟩
abbrev main_call1_v0 : Ref sig .tc := ⟨.hbm, 34, rfl⟩
abbrev main_v21 : Ref sig .tc := ⟨.hbm, 35, rfl⟩
abbrev main_c_1 : Ref sig .tc := ⟨.hbm, 36, rfl⟩
abbrev main_call2_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8x2048x1024 : Shape := ⟨3, ![8, 2048, 1024]⟩
abbrev S8x2048x8x64 : Shape := ⟨4, ![8, 2048, 8, 64]⟩
abbrev S8x2048x4x128 : Shape := ⟨4, ![8, 2048, 4, 128]⟩
abbrev S1x1024 : Shape := ⟨2, ![1, 1024]⟩
abbrev S1x384 : Shape := ⟨2, ![1, 384]⟩
abbrev S1x256 : Shape := ⟨2, ![1, 256]⟩
abbrev S1x1024x7912 : Shape := ⟨3, ![1, 1024, 7912]⟩
abbrev S1x3x512x1024 : Shape := ⟨4, ![1, 3, 512, 1024]⟩
abbrev S1x1024x1024 : Shape := ⟨3, ![1, 1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x7912 : Shape := ⟨2, ![1024, 7912]⟩
abbrev S8x2048x7912 : Shape := ⟨3, ![8, 2048, 7912]⟩
abbrev S8x2048x512 : Shape := ⟨3, ![8, 2048, 512]⟩
abbrev S8x2048x3072 : Shape := ⟨3, ![8, 2048, 3072]⟩
abbrev S1x8x2048x512 : Shape := ⟨4, ![1, 8, 2048, 512]⟩
abbrev S3x8x2048x512 : Shape := ⟨4, ![3, 8, 2048, 512]⟩
abbrev S3x512x1024 : Shape := ⟨3, ![3, 512, 1024]⟩
abbrev S3x8x2048x1024 : Shape := ⟨4, ![3, 8, 2048, 1024]⟩
abbrev S8x2048x3x1024 : Shape := ⟨4, ![8, 2048, 3, 1024]⟩
abbrev S1024x1024 : Shape := ⟨2, ![1024, 1024]⟩
abbrev S16384x1024 : Shape := ⟨2, ![16384, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x8x64, .f32⟩
  | .hbm, ⟨2, _⟩ => ⟨S8x2048x8x64, .f32⟩
  | .hbm, ⟨3, _⟩ => ⟨S8x2048x4x128, .f32⟩
  | .hbm, ⟨4, _⟩ => ⟨S1x1024, .f32⟩
  | .hbm, ⟨5, _⟩ => ⟨S1x384, .f32⟩
  | .hbm, ⟨6, _⟩ => ⟨S1x256, .f32⟩
  | .hbm, ⟨7, _⟩ => ⟨S1x1024x7912, .f32⟩
  | .hbm, ⟨8, _⟩ => ⟨S1x3x512x1024, .f32⟩
  | .hbm, ⟨9, _⟩ => ⟨S1x1024x1024, .f32⟩
  | .hbm, ⟨10, _⟩ => ⟨S1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S1024x7912, .f32⟩
  | .hbm, ⟨28, _⟩ => ⟨S8x2048x7912, .f32⟩
  | .hbm, ⟨29, _⟩ => ⟨S8x2048x512, .f32⟩
  | .hbm, ⟨30, _⟩ => ⟨S8x2048x512, .f32⟩
  | .hbm, ⟨31, _⟩ => ⟨S8x2048x512, .f32⟩
  | .hbm, ⟨32, _⟩ => ⟨S8x2048x3072, .f32⟩
  | .hbm, ⟨33, _⟩ => ⟨S8x2048x512, .f32⟩
  | .hbm, ⟨34, _⟩ => ⟨S8x2048x512, .f32⟩
  | .hbm, ⟨35, _⟩ => ⟨S8x2048x512, .f32⟩
  | .hbm, ⟨36, _⟩ => ⟨S_, .f32⟩
  | .hbm, ⟨37, _⟩ => ⟨S8x2048x512, .f32⟩
  | .hbm, ⟨38, _⟩ => ⟨S8x2048x512, .f32⟩
  | .hbm, ⟨39, _⟩ => ⟨S_, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S8x2048x512, .f32⟩
  | .hbm, ⟨44, _⟩ => ⟨S8x2048x512, .f32⟩
  | .hbm, ⟨45, _⟩ => ⟨S8x2048x512, .f32⟩
  | .hbm, ⟨46, _⟩ => ⟨S8x2048x512, .f32⟩
  | .hbm, ⟨47, _⟩ => ⟨S_, .f32⟩
  | .hbm, ⟨48, _⟩ => ⟨S8x2048x512, .f32⟩
  | .hbm, ⟨49, _⟩ => ⟨S8x2048x512, .f32⟩
  | .hbm, ⟨50, _⟩ => ⟨S_, .f32⟩
  | .hbm, ⟨51, _⟩ => ⟨S8x2048x512, .f32⟩
  | .hbm, ⟨52, _⟩ => ⟨S8x2048x512, .f32⟩
  | .hbm, ⟨53, _⟩ => ⟨S8x2048x512, .f32⟩
  | .hbm, ⟨54, _⟩ => ⟨S8x2048x512, .f32⟩
  | .hbm, ⟨55, _⟩ => ⟨S8x2048x512, .f32⟩
  | .hbm, ⟨56, _⟩ => ⟨S8x2048x512, .f32⟩
  | .hbm, ⟨57, _⟩ => ⟨S8x2048x512, .f32⟩
  | .hbm, ⟨58, _⟩ => ⟨S_, .f32⟩
  | .hbm, ⟨59, _⟩ => ⟨S8x2048x512, .f32⟩
  | .hbm, ⟨60, _⟩ => ⟨S8x2048x512, .f32⟩
  | .hbm, ⟨61, _⟩ => ⟨S_, .f32⟩
  | .hbm, ⟨62, _⟩ => ⟨S8x2048x512, .f32⟩
  | .hbm, ⟨63, _⟩ => ⟨S8x2048x512, .f32⟩
  | .hbm, ⟨64, _⟩ => ⟨S8x2048x512, .f32⟩
  | .hbm, ⟨65, _⟩ => ⟨S8x2048x512, .f32⟩
  | .hbm, ⟨66, _⟩ => ⟨S1x8x2048x512, .f32⟩
  | .hbm, ⟨67, _⟩ => ⟨S1x8x2048x512, .f32⟩
  | .hbm, ⟨68, _⟩ => ⟨S1x8x2048x512, .f32⟩
  | .hbm, ⟨69, _⟩ => ⟨S3x8x2048x512, .f32⟩
  | .hbm, ⟨70, _⟩ => ⟨S3x512x1024, .f32⟩
  | .hbm, ⟨71, _⟩ => ⟨S3x8x2048x1024, .f32⟩
  | .hbm, ⟨72, _⟩ => ⟨S8x2048x3x1024, .f32⟩
  | .hbm, ⟨73, _⟩ => ⟨S8x2048x3x1024, .f32⟩
  | .hbm, ⟨74, _⟩ => ⟨S8x2048x3x1024, .f32⟩
  | .hbm, ⟨75, _⟩ => ⟨S_, .f32⟩
  | .hbm, ⟨76, _⟩ => ⟨S8x2048x3x1024, .f32⟩
  | .hbm, ⟨77, _⟩ => ⟨S8x2048x3x1024, .f32⟩
  | .hbm, ⟨78, _⟩ => ⟨S_, .f32⟩
  | .hbm, ⟨79, _⟩ => ⟨S8x2048x3x1024, .f32⟩
  | .hbm, ⟨80, _⟩ => ⟨S8x2048x3x1024, .f32⟩
  | .hbm, ⟨81, _⟩ => ⟨S8x2048x1024, .f32⟩
  | .hbm, ⟨82, _⟩ => ⟨S1024x1024, .f32⟩
  | .hbm, ⟨83, _⟩ => ⟨S8x2048x1024, .f32⟩
  | .hbm, ⟨84, _⟩ => ⟨S8x2048x1024, .f32⟩
  | .hbm, ⟨85, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_2 : Ref sig .tc := ⟨.hbm, 75, rfl⟩
abbrev main_v38 : Ref sig .tc := ⟨.hbm, 76, rfl⟩
abbrev main_v39 : Ref sig .tc := ⟨.hbm, 77, rfl⟩
abbrev main_cst_3 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048 : Shape := ⟨2, ![8, 2048]⟩
abbrev S1x1024 : Shape := ⟨2, ![1, 1024]⟩
abbrev S1x1024x7912 : Shape := ⟨3, ![1, 1024, 7912]⟩
abbrev S1x64 : Shape := ⟨2, ![1, 64]⟩
abbrev S1x384 : Shape := ⟨2, ![1, 384]⟩
abbrev S1x256 : Shape := ⟨2, ![1, 256]⟩
abbrev S1x384x768 : Shape := ⟨3, ![1, 384, 768]⟩
abbrev S1x256x1024 : Shape := ⟨3, ![1, 256, 1024]⟩
abbrev S1x96 : Shape := ⟨2, ![1, 96]⟩
abbrev S1x128 : Shape := ⟨2, ![1, 128]⟩
abbrev S1024x7912 : Shape := ⟨2, ![1024, 7912]⟩
abbrev S1024x512 : Shape := ⟨2, ![1024, 512]⟩
abbrev S512x1024 : Shape := ⟨2, ![512, 1024]⟩
abbrev S1024x64 : Shape := ⟨2, ![1024, 64]⟩
abbrev S64x1024 : Shape := ⟨2, ![64, 1024]⟩
abbrev S1024x32 : Shape := ⟨2, ![1024, 32]⟩
abbrev S32x1024 : Shape := ⟨2, ![32, 1024]⟩
abbrev S1024x8 : Shape := ⟨2, ![1024, 8]⟩
abbrev S8x1024 : Shape := ⟨2, ![8, 1024]⟩
abbrev S_ : Shape := ⟨0, ![]⟩
abbrev S16x1024 : Shape := ⟨2, ![16, 1024]⟩
abbrev S1024x384 : Shape := ⟨2, ![1024, 384]⟩
abbrev S1024x256 : Shape := ⟨2, ![1024, 256]⟩
abbrev S384x768 : Shape := ⟨2, ![384, 768]⟩
abbrev S384x8x96 : Shape := ⟨3, ![384, 8, 96]⟩
abbrev S384x8x128 : Shape := ⟨3, ![384, 8, 128]⟩
abbrev S384x1024 : Shape := ⟨2, ![384, 1024]⟩
abbrev S256x1024 : Shape := ⟨2, ![256, 1024]⟩
abbrev S256x8x128 : Shape := ⟨3, ![256, 8, 128]⟩
abbrev S256x8x64 : Shape := ⟨3, ![256, 8, 64]⟩
abbrev S256x512 : Shape := ⟨2, ![256, 512]⟩
abbrev S512x256 : Shape := ⟨2, ![512, 256]⟩
abbrev S8 : Shape := ⟨1, ![8]⟩
abbrev S16 : Shape := ⟨1, ![16]⟩
abbrev S64 : Shape := ⟨1, ![64]⟩
abbrev S96 : Shape := ⟨1, ![96]⟩
abbrev S128 : Shape := ⟨1, ![128]⟩
abbrev S128x1 : Shape := ⟨2, ![128, 1]⟩
abbrev S128x7 : Shape := ⟨2, ![128, 7]⟩
abbrev S1024 : Shape := ⟨1, ![1024]⟩
abbrev S384 : Shape := ⟨1, ![384]⟩
abbrev S256 : Shape := ⟨1, ![256]⟩
abbrev S3x1024 : Shape := ⟨2, ![3, 1024]⟩
abbrev S16384x1024 : Shape := ⟨2, ![16384, 1024]⟩
abbrev S1x16384 : Shape := ⟨2, ![1, 16384]⟩
abbrev S1024x16384 : Shape := ⟨2, ![1024, 16384]⟩
abbrev S64x128x2048 : Shape := ⟨3, ![64, 128, 2048]⟩
abbrev S8x16384 : Shape := ⟨2, ![8, 16384]⟩
abbrev S4x16384x128 : Shape := ⟨3, ![4, 16384, 128]⟩
abbrev S512x16384 : Shape := ⟨2, ![512, 16384]⟩
abbrev S16384x128 : Shape := ⟨2, ![16384, 128]⟩
abbrev S1x512 : Shape := ⟨2, ![1, 512]⟩
abbrev S2x128x2048 : Shape := ⟨3, ![2, 128, 2048]⟩
abbrev S8x512 : Shape := ⟨2, ![8, 512]⟩
abbrev S4x512x128 : Shape := ⟨3, ![4, 512, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S8x1 : Shape := ⟨2, ![8, 1]⟩
abbrev S16x1 : Shape := ⟨2, ![16, 1]⟩
abbrev S16x512 : Shape := ⟨2, ![16, 512]⟩
abbrev S512x384 : Shape := ⟨2, ![512, 384]⟩
abbrev S32x512 : Shape := ⟨2, ![32, 512]⟩
abbrev S64x1 : Shape := ⟨2, ![64, 1]⟩
abbrev S64x512 : Shape := ⟨2, ![64, 512]⟩
abbrev S48x512 : Shape := ⟨2, ![48, 512]⟩
abbrev S128x512 : Shape := ⟨2, ![128, 512]⟩
abbrev S1x512x128 : Shape := ⟨3, ![1, 512, 128]⟩
abbrev S64x256 : Shape := ⟨2, ![64, 256]⟩
abbrev S1x64x256 : Shape := ⟨3, ![1, 64, 256]⟩
abbrev S2x64x2048 : Shape := ⟨3, ![2, 64, 2048]⟩

abbrev nBuf : Space → Nat
  | .hbm => 162
  | .vmem => 39
  | .smem => 0
  | _ => 0

abbrev hbmTy0_0 (i : Nat) : BufTy := match i % 128 with
  | 0 => ⟨S8x2048x1024, .f32⟩
  | 1 => ⟨S8x2048, .i32⟩
  | 2 => ⟨S1x1024, .f32⟩
  | 3 => ⟨S1x1024x7912, .f32⟩
  | 4 => ⟨S1x64, .f32⟩
  | 5 => ⟨S1x64, .f32⟩
  | 6 => ⟨S1x384, .f32⟩
  | 7 => ⟨S1x256, .f32⟩
  | 8 => ⟨S1x384x768, .f32⟩
  | 9 => ⟨S1x256x1024, .f32⟩
  | 10 => ⟨S1x96, .f32⟩
  | 11 => ⟨S1x96, .f32⟩
  | 12 => ⟨S1x128, .f32⟩
  | 13 => ⟨S1024x7912, .f32⟩
  | 14 => ⟨S1024x512, .f32⟩
  | 15 => ⟨S512x1024, .f32⟩
  | 16 => ⟨S512x1024, .bf16⟩
  | 17 => ⟨S1024x512, .f32⟩
  | 18 => ⟨S512x1024, .f32⟩
  | 19 => ⟨S512x1024, .bf16⟩
  | 20 => ⟨S1024x512, .f32⟩
  | 21 => ⟨S512x1024, .f32⟩
  | 22 => ⟨S512x1024, .bf16⟩
  | 23 => ⟨S1024x512, .f32⟩
  | 24 => ⟨S512x1024, .f32⟩
  | 25 => ⟨S512x1024, .bf16⟩
  | 26 => ⟨S1024x512, .f32⟩
  | 27 => ⟨S512x1024, .f32⟩
  | 28 => ⟨S512x1024, .bf16⟩
  | 29 => ⟨S1024x64, .f32⟩
  | 30 => ⟨S64x1024, .f32⟩
  | 31 => ⟨S64x1024, .bf16⟩
  | 32 => ⟨S1024x32, .f32⟩
  | 33 => ⟨S32x1024, .f32⟩
  | 34 => ⟨S32x1024, .bf16⟩
  | 35 => ⟨S1024x8, .f32⟩
  | 36 => ⟨S8x1024, .f32⟩
  | 37 => ⟨S_, .i32⟩
  | 38 => ⟨S_, .f32⟩
  | 39 => ⟨S16x1024, .f32⟩
  | 40 => ⟨S16x1024, .bf16⟩
  | 41 => ⟨S1024x384, .f32⟩
  | 42 => ⟨S1024x384, .bf16⟩
  | 43 => ⟨S1024x256, .f32⟩
  | 44 => ⟨S1024x256, .bf16⟩
  | 45 => ⟨S384x768, .f32⟩
  | 46 => ⟨S384x8x96, .f32⟩
  | 47 => ⟨S_, .i32⟩
  | 48 => ⟨S_, .f32⟩
  | 49 => ⟨S384x8x128, .f32⟩
  | 50 => ⟨S384x1024, .f32⟩
  | 51 => ⟨S1024x384, .f32⟩
  | 52 => ⟨S1024x384, .bf16⟩
  | 53 => ⟨S256x1024, .f32⟩
  | 54 => ⟨S256x8x128, .f32⟩
  | 55 => ⟨S256x8x64, .f32⟩
  | 56 => ⟨S256x512, .f32⟩
  | 57 => ⟨S512x256, .f32⟩
  | 58 => ⟨S512x256, .bf16⟩
  | 59 => ⟨S256x8x64, .f32⟩
  | 60 => ⟨S256x512, .f32⟩
  | 61 => ⟨S512x256, .f32⟩
  | 62 => ⟨S512x256, .bf16⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S_, .f32⟩
  | 71 => ⟨S8, .f32⟩
  | 72 => ⟨S8, .f32⟩
  | 73 => ⟨S8, .f32⟩
  | 74 => ⟨S_, .f32⟩
  | 75 => ⟨S8, .f32⟩
  | 76 => ⟨S8, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S16, .f32⟩
  | 88 => ⟨S_, .f32⟩
  | 89 => ⟨S16, .f32⟩
  | 90 => ⟨S16, .f32⟩
  | 91 => ⟨S64, .f32⟩
  | 92 => ⟨S_, .f32⟩
  | 93 => ⟨S64, .f32⟩
  | 94 => ⟨S64, .f32⟩
  | 95 => ⟨S64, .f32⟩
  | 96 => ⟨S96, .f32⟩
  | 97 => ⟨S_, .f32⟩
  | 98 => ⟨S96, .f32⟩
  | 99 => ⟨S96, .f32⟩
  | 100 => ⟨S96, .f32⟩
  | 101 => ⟨S128, .f32⟩
  | 102 => ⟨S_, .f32⟩
  | 103 => ⟨S128, .f32⟩
  | 104 => ⟨S128, .f32⟩
  | 105 => ⟨S_, .i32⟩
  | 106 => ⟨S_, .f32⟩
  | 107 => ⟨S128, .f32⟩
  | 108 => ⟨S_, .i32⟩
  | 109 => ⟨S_, .f32⟩
  | 110 => ⟨S128, .f32⟩
  | 111 => ⟨S_, .i32⟩
  | 112 => ⟨S_, .f32⟩
  | 113 => ⟨S128, .f32⟩
  | 114 => ⟨S_, .i32⟩
  | 115 => ⟨S_, .f32⟩
  | 116 => ⟨S128, .f32⟩
  | 117 => ⟨S_, .i32⟩
  | 118 => ⟨S_, .f32⟩
  | 119 => ⟨S128, .f32⟩
  | 120 => ⟨S_, .i32⟩
  | 121 => ⟨S_, .f32⟩
  | 122 => ⟨S128, .f32⟩
  | 123 => ⟨S_, .i32⟩
  | 124 => ⟨S_, .f32⟩
  | 125 => ⟨S128, .f32⟩
  | 126 => ⟨S128x1, .f32⟩
  | 127 => ⟨S128x1, .f32⟩
  | _ => ⟨S8x2048x1024, .f32⟩

abbrev hbmTy0_1 (i : Nat) : BufTy := match i % 128 with
  | 0 => ⟨S128x1, .f32⟩
  | 1 => ⟨S128x1, .f32⟩
  | 2 => ⟨S128x1, .f32⟩
  | 3 => ⟨S128x1, .f32⟩
  | 4 => ⟨S128x1, .f32⟩
  | 5 => ⟨S128x7, .f32⟩
  | 6 => ⟨S1024, .f32⟩
  | 7 => ⟨S384, .f32⟩
  | 8 => ⟨S256, .f32⟩
  | 9 => ⟨S_, .i32⟩
  | 10 => ⟨S_, .f32⟩
  | 11 => ⟨S1024, .f32⟩
  | 12 => ⟨S_, .i32⟩
  | 13 => ⟨S_, .f32⟩
  | 14 => ⟨S1024, .f32⟩
  | 15 => ⟨S_, .i32⟩
  | 16 => ⟨S_, .f32⟩
  | 17 => ⟨S1024, .f32⟩
  | 18 => ⟨S1x1024, .f32⟩
  | 19 => ⟨S1x1024, .f32⟩
  | 20 => ⟨S1x1024, .f32⟩
  | 21 => ⟨S3x1024, .f32⟩
  | 22 => ⟨S16384x1024, .f32⟩
  | 23 => ⟨S1x16384, .i32⟩
  | 24 => ⟨S1024x16384, .bf16⟩
  | 25 => ⟨S64x128x2048, .bf16⟩
  | 26 => ⟨S8x16384, .f32⟩
  | 27 => ⟨S4x16384x128, .bf16⟩
  | 28 => ⟨S512x16384, .bf16⟩
  | 29 => ⟨S16384x128, .bf16⟩
  | 30 => ⟨S1024x16384, .bf16⟩
  | 31 => ⟨S16384x1024, .bf16⟩
  | 32 => ⟨S512x16384, .bf16⟩
  | 33 => ⟨S512x16384, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x512, .i32⟩
  | .local _ .vmem, ⟨3, _⟩ => ⟨S1x512, .i32⟩
  | .local _ .vmem, ⟨4, _⟩ => ⟨S3x1024, .f32⟩
  | .local _ .vmem, ⟨5, _⟩ => ⟨S128x7, .f32⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S512x1024, .bf16⟩
  | .local _ .vmem, ⟨10, _⟩ => ⟨S512x1024, .bf16⟩
  | .local _ .vmem, ⟨11, _⟩ => ⟨S64x1024, .bf16⟩
  | .local _ .vmem, ⟨12, _⟩ => ⟨S1024x384, .bf16⟩
  | .local _ .vmem, ⟨13, _⟩ => ⟨S1024x256, .bf16⟩
  | .local _ .vmem, ⟨14, _⟩ => ⟨S32x1024, .bf16⟩
  | .local _ .vmem, ⟨15, _⟩ => ⟨S512x1024, .bf16⟩
  | .local _ .vmem, ⟨16, _⟩ => ⟨S1024x384, .bf16⟩
  | .local _ .vmem, ⟨17, _⟩ => ⟨S512x256, .bf16⟩
  | .local _ .vmem, ⟨18, _⟩ => ⟨S512x256, .bf16⟩
  | .local _ .vmem, ⟨19, _⟩ => ⟨S1024x512, .bf16⟩
  | .local _ .vmem, ⟨20, _⟩ => ⟨S1024x512, .bf16⟩
  | .local _ .vmem, ⟨21, _⟩ => ⟨S2x128x2048, .bf16⟩
  | .local _ .vmem, ⟨22, _⟩ => ⟨S2x128x2048, .bf16⟩
  | .local _ .vmem, ⟨23, _⟩ => ⟨S8x512, .f32⟩
  | .local _ .vmem, ⟨24, _⟩ => ⟨S8x512, .f32⟩
  | .local _ .vmem, ⟨25, _⟩ => ⟨S4x512x128, .bf16⟩
  | .local _ .vmem, ⟨26, _⟩ => ⟨S4x512x128, .bf16⟩
  | .local _ .vmem, ⟨27, _⟩ => ⟨S512x512, .bf16⟩
  | .local _ .vmem, ⟨28, _⟩ => ⟨S512x512, .bf16⟩
  | .local _ .vmem, ⟨29, _⟩ => ⟨S512x128, .bf16⟩
  | .local _ .vmem, ⟨30, _⟩ => ⟨S512x128, .bf16⟩
  | .local _ .vmem, ⟨31, _⟩ => ⟨S1024x512, .bf16⟩
  | .local _ .vmem, ⟨32, _⟩ => ⟨S1024x512, .bf16⟩
  | .local _ .vmem, ⟨33, _⟩ => ⟨S512x1024, .bf16⟩
  | .local _ .vmem, ⟨34, _⟩ => ⟨S512x1024, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_0 : Ref sig .tc := ⟨.hbm, 47, rfl⟩
abbrev main_call1_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst : Ref sig .tc := ⟨.hbm, 64, rfl⟩
abbrev main_v47 : Ref sig .tc := ⟨.hbm, 65, rfl⟩
abbrev main_v48 : Ref sig .tc := ⟨.hbm, 66, rfl⟩
abbrev main_cst_1 : Ref sig .tc := ⟨.hbm, 67, rfl⟩
abbrev main_v49 : Ref sig .tc := ⟨.hbm, 68, rfl⟩
abbrev main_v50 : Ref sig .tc := ⟨.hbm, 69, rfl⟩
abbrev main_cst_2 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_3 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_4 : Ref sig .tc := ⟨.hbm, 78, rfl⟩
abbrev main_v57 : Ref sig .tc := ⟨.hbm, 79, rfl⟩
abbrev main_v58 : Ref sig .tc := ⟨.hbm, 80, rfl⟩
abbrev main_cst_5 : Ref sig .tc := ⟨.hbm, 81, rfl⟩
abbrev main_v59 : Ref sig .tc := ⟨.hbm, 82, rfl⟩
abbrev main_v60 : Ref sig .tc := ⟨.hbm, 83, rfl⟩
abbrev main_cst_6 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_7 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_8 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_9 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_10 : Ref sig .tc := ⟨.hbm, 102, rfl⟩
abbrev main_v75 : Ref sig .tc := ⟨.hbm, 103, rfl⟩
abbrev main_v76 : Ref sig .tc := ⟨.hbm, 104, rfl⟩
abbrev main_c_11 : Ref sig .tc := ⟨.hbm, 105, rfl⟩
abbrev main_call2_v0 : Ref sig .tc := ⟨.hbm, 106, rfl⟩
abbrev main_v77 : Ref sig .tc := ⟨.hbm, 107, rfl⟩
abbrev main_c_12 : Ref sig .tc := ⟨.hbm, 108, rfl⟩
abbrev main_call3_v0 : Ref sig .tc := ⟨.hbm, 109, rfl⟩
abbrev main_v78 : Ref sig .tc := ⟨.hbm, 110, rfl⟩
abbrev main_c_13 : Ref sig .tc := ⟨.hbm, 111, rfl⟩
abbrev main_call4_v0 : Ref sig .tc := ⟨.hbm, 112, rfl⟩
abbrev main_v79 : Ref sig .tc := ⟨.hbm, 113, rfl⟩
abbrev main_c_14 : Ref sig .tc := ⟨.hbm, 114, rfl⟩
abbrev main_call5_v0 : Ref sig .tc := ⟨.hbm, 115, rfl⟩
abbrev main_v80 : Ref sig .tc := ⟨.hbm, 116, rfl⟩
abbrev main_c_15 : Ref sig .tc := ⟨.hbm, 117, rfl⟩
abbrev main_call6_v0 : Ref sig .tc := ⟨.hbm, 118, rfl⟩
abbrev main_v81 : Ref sig .tc := ⟨.hbm, 119, rfl⟩
abbrev main_c_16 : Ref sig .tc := ⟨.hbm, 120, rfl⟩
abbrev main_call7_v0 : Ref sig .tc := ⟨.hbm, 121, rfl⟩
abbrev main_v82 : Ref sig .tc := ⟨.hbm, 122, rfl⟩
abbrev main_c_17 : Ref sig .tc := ⟨.hbm, 123, rfl⟩
abbrev main_call8_v0 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_c_18 : Ref sig .tc := ⟨.hbm, 137, rfl⟩
abbrev main_call9_v0 : Ref sig .tc := ⟨.hbm, 138, rfl⟩
abbrev main_v95 : Ref sig .tc := ⟨.hbm, 139, rfl⟩
abbrev main_c_19 : Ref sig .tc := ⟨.hbm, 140, rfl⟩
abbrev main_call10_v0 : Ref sig .tc := ⟨.hbm, 141, rfl⟩
abbrev main_v96 : Ref sig .tc := ⟨.hbm, 142, rfl⟩
abbrev main_c_20 : Ref sig .tc := ⟨.hbm, 143, rfl⟩
abbrev main_call11_v0 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104_0 : Ref sig .tc := ⟨.hbm, 152, rfl⟩
abbrev main_v104_1 : Ref sig .tc := ⟨.hbm, 153, rfl⟩
abbrev main_v104_2 : Ref sig .tc := ⟨.hbm, 154, rfl⟩
abbrev main_v104_3 : Ref sig .tc := ⟨.hbm, 155, rfl⟩
abbrev main_v104_4 : Ref sig .tc := ⟨.hbm, 156, rfl⟩
abbrev main_v104_5 : Ref sig .tc := ⟨.hbm, 157, rfl⟩
abbrev main_v104_6 : Ref sig .tc := ⟨.hbm, 158, rfl⟩
abbrev main_v104_7 : Ref sig .tc := ⟨.hbm, 159, rfl⟩
abbrev main_v104_8 : Ref sig .tc := ⟨.hbm, 160, rfl⟩
abbrev main_v104_9 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x384 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x128x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S4x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1024x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== Reference3Ideal.lean ====
abbrev S8x2048x1024 : Shape := ⟨3, ![8, 2048, 1024]⟩
abbrev S8x2048 : Shape := ⟨2, ![8, 2048]⟩
abbrev S1x1024 : Shape := ⟨2, ![1, 1024]⟩
abbrev S1x1024x7912 : Shape := ⟨3, ![1, 1024, 7912]⟩
abbrev S1x64 : Shape := ⟨2, ![1, 64]⟩
abbrev S1x384 : Shape := ⟨2, ![1, 384]⟩
abbrev S1x256 : Shape := ⟨2, ![1, 256]⟩
abbrev S1x384x768 : Shape := ⟨3, ![1, 384, 768]⟩
abbrev S1x256x1024 : Shape := ⟨3, ![1, 256, 1024]⟩
abbrev S1x96 : Shape := ⟨2, ![1, 96]⟩
abbrev S1x128 : Shape := ⟨2, ![1, 128]⟩
abbrev S8 : Shape := ⟨1, ![8]⟩
abbrev S_ : Shape := ⟨0, ![]⟩
abbrev S8x2048x1 : Shape := ⟨3, ![8, 2048, 1]⟩
abbrev S1x1x8 : Shape := ⟨3, ![1, 1, 8]⟩
abbrev S8x2048x8 : Shape := ⟨3, ![8, 2048, 8]⟩
abbrev S16 : Shape := ⟨1, ![16]⟩
abbrev S1x1x16 : Shape := ⟨3, ![1, 1, 16]⟩
abbrev S8x2048x16 : Shape := ⟨3, ![8, 2048, 16]⟩
abbrev S1024 : Shape := ⟨1, ![1024]⟩
abbrev S1x1x1024 : Shape := ⟨3, ![1, 1, 1024]⟩
abbrev S1024x7912 : Shape := ⟨2, ![1024, 7912]⟩
abbrev S8x2048x7912 : Shape := ⟨3, ![8, 2048, 7912]⟩
abbrev S8x2048x512 : Shape := ⟨3, ![8, 2048, 512]⟩
abbrev S8x2048x64 : Shape := ⟨3, ![8, 2048, 64]⟩
abbrev S8x2048x384 : Shape := ⟨3, ![8, 2048, 384]⟩
abbrev S8x2048x256 : Shape := ⟨3, ![8, 2048, 256]⟩
abbrev S8x2048x32 : Shape := ⟨3, ![8, 2048, 32]⟩
abbrev S8x2048x8x64 : Shape := ⟨4, ![8, 2048, 8, 64]⟩
abbrev S64 : Shape := ⟨1, ![64]⟩
abbrev S8x2048x8x1 : Shape := ⟨4, ![8, 2048, 8, 1]⟩
abbrev S1x1x1x64 : Shape := ⟨4, ![1, 1, 1, 64]⟩
abbrev S8x2048x1x8 : Shape := ⟨4, ![8, 2048, 1, 8]⟩
abbrev S8x2048x8x16 : Shape := ⟨4, ![8, 2048, 8, 16]⟩
abbrev S8x2048x8x8 : Shape := ⟨4, ![8, 2048, 8, 8]⟩
abbrev S8x2048x8x48 : Shape := ⟨4, ![8, 2048, 8, 48]⟩
abbrev S8x2048x48 : Shape := ⟨3, ![8, 2048, 48]⟩
abbrev S384 : Shape := ⟨1, ![384]⟩
abbrev S1x1x384 : Shape := ⟨3, ![1, 1, 384]⟩
abbrev S384x768 : Shape := ⟨2, ![384, 768]⟩
abbrev S8x2048x768 : Shape := ⟨3, ![8, 2048, 768]⟩
abbrev S8x2048x8x96 : Shape := ⟨4, ![8, 2048, 8, 96]⟩
abbrev S256 : Shape := ⟨1, ![256]⟩
abbrev S1x1x256 : Shape := ⟨3, ![1, 1, 256]⟩
abbrev S256x1024 : Shape := ⟨2, ![256, 1024]⟩
abbrev S8x2048x8x128 : Shape := ⟨4, ![8, 2048, 8, 128]⟩
abbrev S8x2048x1x32 : Shape := ⟨4, ![8, 2048, 1, 32]⟩
abbrev S8x2048x8x32 : Shape := ⟨4, ![8, 2048, 8, 32]⟩
abbrev S96 : Shape := ⟨1, ![96]⟩
abbrev S1x1x1x96 : Shape := ⟨4, ![1, 1, 1, 96]⟩
abbrev S8x2048x1x16 : Shape := ⟨4, ![8, 2048, 1, 16]⟩
abbrev S8x2048x4x128 : Shape := ⟨4, ![8, 2048, 4, 128]⟩
abbrev S128 : Shape := ⟨1, ![128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S16384x4x2x64 : Shape := ⟨4, ![16384, 4, 2, 64]⟩
abbrev S16384x4x1x64 : Shape := ⟨4, ![16384, 4, 1, 64]⟩
abbrev S16384x4x64 : Shape := ⟨3, ![16384, 4, 64]⟩
abbrev S16384x4x128 : Shape := ⟨3, ![16384, 4, 128]⟩
abbrev S16384x4x1x128 : Shape := ⟨4, ![16384, 4, 1, 128]⟩
abbrev S16384x4x2x128 : Shape := ⟨4, ![16384, 4, 2, 128]⟩
abbrev S16384x1024 : Shape := ⟨2, ![16384, 1024]⟩
abbrev S1024x16384 : Shape := ⟨2, ![1024, 16384]⟩
abbrev S64x256x8x128 : Shape := ⟨4, ![64, 256, 8, 128]⟩
abbrev S64x128x8x256 : Shape := ⟨4, ![64, 128, 8, 256]⟩
abbrev S64x128x2048 : Shape := ⟨3, ![64, 128, 2048]⟩
abbrev S16384x8 : Shape := ⟨2, ![16384, 8]⟩
abbrev S8x16384 : Shape := ⟨2, ![8, 16384]⟩
abbrev S4x16384x128 : Shape := ⟨3, ![4, 16384, 128]⟩
abbrev S16384x512 : Shape := ⟨2, ![16384, 512]⟩
abbrev S512x16384 : Shape := ⟨2, ![512, 16384]⟩
abbrev S8x2048x128 : Shape := ⟨3, ![8, 2048, 128]⟩
abbrev S16384x128 : Shape := ⟨2, ![16384, 128]⟩

abbrev nBuf : Space → Nat
  | .hbm => 382
  | .vmem => 0
  | .smem => 0
  | _ => 0

abbrev hbmTy0_0 (i : Nat) : BufTy := match i % 128 with
  | 0 => ⟨S8x2048x1024, .f32⟩
  | 1 => ⟨S8x2048, .i32⟩
  | 2 => ⟨S1x1024, .f32⟩
  | 3 => ⟨S1x1024x7912, .f32⟩
  | 4 => ⟨S1x64, .f32⟩
  | 5 => ⟨S1x64, .f32⟩
  | 6 => ⟨S1x384, .f32⟩
  | 7 => ⟨S1x256, .f32⟩
  | 8 => ⟨S1x384x768, .f32⟩
  | 9 => ⟨S1x256x1024, .f32⟩
  | 10 => ⟨S1x96, .f32⟩
  | 11 => ⟨S1x96, .f32⟩
  | 12 => ⟨S1x128, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S8, .f32⟩
  | 24 => ⟨S_, .f32⟩
  | 25 => ⟨S8, .f32⟩
  | 26 => ⟨S8, .f32⟩
  | 27 => ⟨S8x2048, .f32⟩
  | 28 => ⟨S8x2048x1, .f32⟩
  | 29 => ⟨S1x1x8, .f32⟩
  | 30 => ⟨S8x2048x8, .f32⟩
  | 31 => ⟨S8x2048x8, .f32⟩
  | 32 => ⟨S8x2048x8, .f32⟩
  | 33 => ⟨S8x2048x8, .f32⟩
  | 34 => ⟨S8x2048x8, .f32⟩
  | 35 => ⟨S16, .f32⟩
  | 36 => ⟨S_, .f32⟩
  | 37 => ⟨S16, .f32⟩
  | 38 => ⟨S16, .f32⟩
  | 39 => ⟨S_, .f32⟩
  | 40 => ⟨S16, .f32⟩
  | 41 => ⟨S16, .f32⟩
  | 42 => ⟨S_, .f32⟩
  | 43 => ⟨S16, .f32⟩
  | 44 => ⟨S16, .f32⟩
  | 45 => ⟨S16, .f32⟩
  | 46 => ⟨S_, .f32⟩
  | 47 => ⟨S16, .f32⟩
  | 48 => ⟨S16, .f32⟩
  | 49 => ⟨S8x2048, .f32⟩
  | 50 => ⟨S8x2048x1, .f32⟩
  | 51 => ⟨S1x1x16, .f32⟩
  | 52 => ⟨S8x2048x16, .f32⟩
  | 53 => ⟨S8x2048x16, .f32⟩
  | 54 => ⟨S8x2048x16, .f32⟩
  | 55 => ⟨S8x2048x16, .f32⟩
  | 56 => ⟨S8x2048x16, .f32⟩
  | 57 => ⟨S1024, .f32⟩
  | 58 => ⟨S8x2048x1024, .f32⟩
  | 59 => ⟨S_, .f32⟩
  | 60 => ⟨S8x2048, .f32⟩
  | 61 => ⟨S8x2048x1, .f32⟩
  | 62 => ⟨S_, .f32⟩
  | 63 => ⟨S8x2048x1, .f32⟩
  | 64 => ⟨S8x2048x1, .f32⟩
  | 65 => ⟨S_, .f32⟩
  | 66 => ⟨S8x2048x1, .f32⟩
  | 67 => ⟨S8x2048x1, .f32⟩
  | 68 => ⟨S8x2048x1, .f32⟩
  | 69 => ⟨S8x2048x1024, .f32⟩
  | 70 => ⟨S8x2048x1024, .f32⟩
  | 71 => ⟨S1x1x1024, .f32⟩
  | 72 => ⟨S8x2048x1024, .f32⟩
  | 73 => ⟨S8x2048x1024, .f32⟩
  | 74 => ⟨S1024x7912, .f32⟩
  | 75 => ⟨S8x2048x7912, .f32⟩
  | 76 => ⟨S8x2048x512, .f32⟩
  | 77 => ⟨S8x2048x512, .f32⟩
  | 78 => ⟨S8x2048x512, .f32⟩
  | 79 => ⟨S8x2048x512, .f32⟩
  | 80 => ⟨S8x2048x64, .f32⟩
  | 81 => ⟨S8x2048x8, .f32⟩
  | 82 => ⟨S8x2048x384, .f32⟩
  | 83 => ⟨S8x2048x256, .f32⟩
  | 84 => ⟨S8x2048x32, .f32⟩
  | 85 => ⟨S8x2048x512, .f32⟩
  | 86 => ⟨S8x2048x8x64, .f32⟩
  | 87 => ⟨S64, .f32⟩
  | 88 => ⟨S8x2048x8x64, .f32⟩
  | 89 => ⟨S_, .f32⟩
  | 90 => ⟨S8x2048x8, .f32⟩
  | 91 => ⟨S8x2048x8x1, .f32⟩
  | 92 => ⟨S_, .f32⟩
  | 93 => ⟨S8x2048x8x1, .f32⟩
  | 94 => ⟨S8x2048x8x1, .f32⟩
  | 95 => ⟨S_, .f32⟩
  | 96 => ⟨S8x2048x8x1, .f32⟩
  | 97 => ⟨S8x2048x8x1, .f32⟩
  | 98 => ⟨S8x2048x8x1, .f32⟩
  | 99 => ⟨S8x2048x8x64, .f32⟩
  | 100 => ⟨S8x2048x8x64, .f32⟩
  | 101 => ⟨S1x1x1x64, .f32⟩
  | 102 => ⟨S8x2048x8x64, .f32⟩
  | 103 => ⟨S8x2048x8x64, .f32⟩
  | 104 => ⟨S8x2048x1x8, .f32⟩
  | 105 => ⟨S8x2048x1x8, .f32⟩
  | 106 => ⟨S8x2048x8x16, .f32⟩
  | 107 => ⟨S8x2048x8x8, .f32⟩
  | 108 => ⟨S8x2048x8x8, .f32⟩
  | 109 => ⟨S8x2048x8x8, .f32⟩
  | 110 => ⟨S8x2048x8x8, .f32⟩
  | 111 => ⟨S8x2048x8x8, .f32⟩
  | 112 => ⟨S8x2048x8x8, .f32⟩
  | 113 => ⟨S8x2048x8x8, .f32⟩
  | 114 => ⟨S8x2048x8x8, .f32⟩
  | 115 => ⟨S8x2048x8x8, .f32⟩
  | 116 => ⟨S8x2048x8x8, .f32⟩
  | 117 => ⟨S8x2048x8x8, .f32⟩
  | 118 => ⟨S8x2048x8x8, .f32⟩
  | 119 => ⟨S8x2048x8x16, .f32⟩
  | 120 => ⟨S8x2048x8x48, .f32⟩
  | 121 => ⟨S8x2048x8x64, .f32⟩
  | 122 => ⟨S8x2048x8x64, .f32⟩
  | 123 => ⟨S64, .f32⟩
  | 124 => ⟨S8x2048x8x64, .f32⟩
  | 125 => ⟨S_, .f32⟩
  | 126 => ⟨S8x2048x8, .f32⟩
  | 127 => ⟨S8x2048x8x1, .f32⟩
  | _ => ⟨S8x2048x1024, .f32⟩

abbrev hbmTy0_1 (i : Nat) : BufTy := match i % 128 with
  | 0 => ⟨S_, .f32⟩
  | 1 => ⟨S8x2048x8x1, .f32⟩
  | 2 => ⟨S8x2048x8x1, .f32⟩
  | 3 => ⟨S_, .f32⟩
  | 4 => ⟨S8x2048x8x1, .f32⟩
  | 5 => ⟨S8x2048x8x1, .f32⟩
  | 6 => ⟨S8x2048x8x1, .f32⟩
  | 7 => ⟨S8x2048x8x64, .f32⟩
  | 8 => ⟨S8x2048x8x64, .f32⟩
  | 9 => ⟨S1x1x1x64, .f32⟩
  | 10 => ⟨S8x2048x8x64, .f32⟩
  | 11 => ⟨S8x2048x8x64, .f32⟩
  | 12 => ⟨S8x2048x1x8, .f32⟩
  | 13 => ⟨S8x2048x1x8, .f32⟩
  | 14 => ⟨S8x2048x8x16, .f32⟩
  | 15 => ⟨S8x2048x8x8, .f32⟩
  | 16 => ⟨S8x2048x8x8, .f32⟩
  | 17 => ⟨S8x2048x8x8, .f32⟩
  | 18 => ⟨S8x2048x8x8, .f32⟩
  | 19 => ⟨S8x2048x8x8, .f32⟩
  | 20 => ⟨S8x2048x8x8, .f32⟩
  | 21 => ⟨S8x2048x8x8, .f32⟩
  | 22 => ⟨S8x2048x8x8, .f32⟩
  | 23 => ⟨S8x2048x8x8, .f32⟩
  | 24 => ⟨S8x2048x8x8, .f32⟩
  | 25 => ⟨S8x2048x8x8, .f32⟩
  | 26 => ⟨S8x2048x8x8, .f32⟩
  | 27 => ⟨S8x2048x8x16, .f32⟩
  | 28 => ⟨S8x2048x8x48, .f32⟩
  | 29 => ⟨S8x2048x8x64, .f32⟩
  | 30 => ⟨S8x2048x8x64, .f32⟩
  | 31 => ⟨S8x2048x1x8, .f32⟩
  | 32 => ⟨S8x2048x1x8, .f32⟩
  | 33 => ⟨S8x2048x8x16, .f32⟩
  | 34 => ⟨S8x2048x8x8, .f32⟩
  | 35 => ⟨S8x2048x8x8, .f32⟩
  | 36 => ⟨S8x2048x8x8, .f32⟩
  | 37 => ⟨S8x2048x8x8, .f32⟩
  | 38 => ⟨S8x2048x8x8, .f32⟩
  | 39 => ⟨S8x2048x8x8, .f32⟩
  | 40 => ⟨S8x2048x8x8, .f32⟩
  | 41 => ⟨S8x2048x8x8, .f32⟩
  | 42 => ⟨S8x2048x8x8, .f32⟩
  | 43 => ⟨S8x2048x8x8, .f32⟩
  | 44 => ⟨S8x2048x8x8, .f32⟩
  | 45 => ⟨S8x2048x8x8, .f32⟩
  | 46 => ⟨S8x2048x8x16, .f32⟩
  | 47 => ⟨S8x2048x8x48, .f32⟩
  | 48 => ⟨S8x2048x8x64, .f32⟩
  | 49 => ⟨S_, .f32⟩
  | 50 => ⟨S8x2048x8x64, .f32⟩
  | 51 => ⟨S8x2048x8x64, .f32⟩
  | 52 => ⟨S8x2048x16, .f32⟩
  | 53 => ⟨S8x2048x8, .f32⟩
  | 54 => ⟨S8x2048x8, .f32⟩
  | 55 => ⟨S8x2048x8, .f32⟩
  | 56 => ⟨S8x2048x8, .f32⟩
  | 57 => ⟨S8x2048x8, .f32⟩
  | 58 => ⟨S8x2048x8, .f32⟩
  | 59 => ⟨S8x2048x8, .f32⟩
  | 60 => ⟨S8x2048x8, .f32⟩
  | 61 => ⟨S8x2048x16, .f32⟩
  | 62 => ⟨S8x2048x48, .f32⟩
  | 63 => ⟨S8x2048x64, .f32⟩
  | 64 => ⟨S_, .f32⟩
  | 65 => ⟨S8x2048x8, .f32⟩
  | 66 => ⟨S8x2048x8, .f32⟩
  | 67 => ⟨S384, .f32⟩
  | 68 => ⟨S8x2048x384, .f32⟩
  | 69 => ⟨S_, .f32⟩
  | 70 => ⟨S8x2048, .f32⟩
  | 71 => ⟨S8x2048x1, .f32⟩
  | 72 => ⟨S_, .f32⟩
  | 73 => ⟨S8x2048x1, .f32⟩
  | 74 => ⟨S8x2048x1, .f32⟩
  | 75 => ⟨S_, .f32⟩
  | 76 => ⟨S8x2048x1, .f32⟩
  | 77 => ⟨S8x2048x1, .f32⟩
  | 78 => ⟨S8x2048x1, .f32⟩
  | 79 => ⟨S8x2048x384, .f32⟩
  | 80 => ⟨S8x2048x384, .f32⟩
  | 81 => ⟨S1x1x384, .f32⟩
  | 82 => ⟨S8x2048x384, .f32⟩
  | 83 => ⟨S8x2048x384, .f32⟩
  | 84 => ⟨S384x768, .f32⟩
  | 85 => ⟨S8x2048x768, .f32⟩
  | 86 => ⟨S8x2048x8x96, .f32⟩
  | 87 => ⟨S256, .f32⟩
  | 88 => ⟨S8x2048x256, .f32⟩
  | 89 => ⟨S_, .f32⟩
  | 90 => ⟨S8x2048, .f32⟩
  | 91 => ⟨S8x2048x1, .f32⟩
  | 92 => ⟨S_, .f32⟩
  | 93 => ⟨S8x2048x1, .f32⟩
  | 94 => ⟨S8x2048x1, .f32⟩
  | 95 => ⟨S_, .f32⟩
  | 96 => ⟨S8x2048x1, .f32⟩
  | 97 => ⟨S8x2048x1, .f32⟩
  | 98 => ⟨S8x2048x1, .f32⟩
  | 99 => ⟨S8x2048x256, .f32⟩
  | 100 => ⟨S8x2048x256, .f32⟩
  | 101 => ⟨S1x1x256, .f32⟩
  | 102 => ⟨S8x2048x256, .f32⟩
  | 103 => ⟨S8x2048x256, .f32⟩
  | 104 => ⟨S256x1024, .f32⟩
  | 105 => ⟨S8x2048x1024, .f32⟩
  | 106 => ⟨S8x2048x8x128, .f32⟩
  | 107 => ⟨S8x2048x8x64, .f32⟩
  | 108 => ⟨S8x2048x8x64, .f32⟩
  | 109 => ⟨S8x2048x1x32, .f32⟩
  | 110 => ⟨S8x2048x8x32, .f32⟩
  | 111 => ⟨S8x2048x8x96, .f32⟩
  | 112 => ⟨S96, .f32⟩
  | 113 => ⟨S8x2048x8x96, .f32⟩
  | 114 => ⟨S_, .f32⟩
  | 115 => ⟨S8x2048x8, .f32⟩
  | 116 => ⟨S8x2048x8x1, .f32⟩
  | 117 => ⟨S_, .f32⟩
  | 118 => ⟨S8x2048x8x1, .f32⟩
  | 119 => ⟨S8x2048x8x1, .f32⟩
  | 120 => ⟨S_, .f32⟩
  | 121 => ⟨S8x2048x8x1, .f32⟩
  | 122 => ⟨S8x2048x8x1, .f32⟩
  | 123 => ⟨S8x2048x8x1, .f32⟩
  | 124 => ⟨S8x2048x8x96, .f32⟩
  | 125 => ⟨S8x2048x8x96, .f32⟩
  | 126 => ⟨S1x1x1x96, .f32⟩
  | 127 => ⟨S8x2048x8x96, .f32⟩
  | _ => ⟨S8x2048x1024, .f32⟩

abbrev hbmTy0_2 (i : Nat) : BufTy := match i % 128 with
  | 0 => ⟨S8x2048x8x96, .f32⟩
  | 1 => ⟨S96, .f32⟩
  | 2 => ⟨S8x2048x8x96, .f32⟩
  | 3 => ⟨S_, .f32⟩
  | 4 => ⟨S8x2048x8, .f32⟩
  | 5 => ⟨S8x2048x8x1, .f32⟩
  | 6 => ⟨S_, .f32⟩
  | 7 => ⟨S8x2048x8x1, .f32⟩
  | 8 => ⟨S8x2048x8x1, .f32⟩
  | 9 => ⟨S_, .f32⟩
  | 10 => ⟨S8x2048x8x1, .f32⟩
  | 11 => ⟨S8x2048x8x1, .f32⟩
  | 12 => ⟨S8x2048x8x1, .f32⟩
  | 13 => ⟨S8x2048x8x96, .f32⟩
  | 14 => ⟨S8x2048x8x96, .f32⟩
  | 15 => ⟨S1x1x1x96, .f32⟩
  | 16 => ⟨S8x2048x8x96, .f32⟩
  | 17 => ⟨S8x2048x8x96, .f32⟩
  | 18 => ⟨S8x2048x8x64, .f32⟩
  | 19 => ⟨S8x2048x8x32, .f32⟩
  | 20 => ⟨S8x2048x1x16, .f32⟩
  | 21 => ⟨S8x2048x1x16, .f32⟩
  | 22 => ⟨S8x2048x8x16, .f32⟩
  | 23 => ⟨S8x2048x8x16, .f32⟩
  | 24 => ⟨S8x2048x8x16, .f32⟩
  | 25 => ⟨S8x2048x8x16, .f32⟩
  | 26 => ⟨S8x2048x8x16, .f32⟩
  | 27 => ⟨S8x2048x8x16, .f32⟩
  | 28 => ⟨S8x2048x8x16, .f32⟩
  | 29 => ⟨S8x2048x8x16, .f32⟩
  | 30 => ⟨S8x2048x8x16, .f32⟩
  | 31 => ⟨S8x2048x8x16, .f32⟩
  | 32 => ⟨S8x2048x8x16, .f32⟩
  | 33 => ⟨S8x2048x8x16, .f32⟩
  | 34 => ⟨S8x2048x8x32, .f32⟩
  | 35 => ⟨S8x2048x8x96, .f32⟩
  | 36 => ⟨S8x2048x8x64, .f32⟩
  | 37 => ⟨S8x2048x8x32, .f32⟩
  | 38 => ⟨S8x2048x1x16, .f32⟩
  | 39 => ⟨S8x2048x1x16, .f32⟩
  | 40 => ⟨S8x2048x8x16, .f32⟩
  | 41 => ⟨S8x2048x8x16, .f32⟩
  | 42 => ⟨S8x2048x8x16, .f32⟩
  | 43 => ⟨S8x2048x8x16, .f32⟩
  | 44 => ⟨S8x2048x8x16, .f32⟩
  | 45 => ⟨S8x2048x8x16, .f32⟩
  | 46 => ⟨S8x2048x8x16, .f32⟩
  | 47 => ⟨S8x2048x8x16, .f32⟩
  | 48 => ⟨S8x2048x8x16, .f32⟩
  | 49 => ⟨S8x2048x8x16, .f32⟩
  | 50 => ⟨S8x2048x8x16, .f32⟩
  | 51 => ⟨S8x2048x8x16, .f32⟩
  | 52 => ⟨S8x2048x8x32, .f32⟩
  | 53 => ⟨S8x2048x8x96, .f32⟩
  | 54 => ⟨S8x2048x4x128, .f32⟩
  | 55 => ⟨S128, .f32⟩
  | 56 => ⟨S8x2048x4x128, .f32⟩
  | 57 => ⟨S_, .f32⟩
  | 58 => ⟨S8x2048x4, .f32⟩
  | 59 => ⟨S8x2048x4x1, .f32⟩
  | 60 => ⟨S_, .f32⟩
  | 61 => ⟨S8x2048x4x1, .f32⟩
  | 62 => ⟨S8x2048x4x1, .f32⟩
  | 63 => ⟨S_, .f32⟩
  | 64 => ⟨S8x2048x4x1, .f32⟩
  | 65 => ⟨S8x2048x4x1, .f32⟩
  | 66 => ⟨S8x2048x4x1, .f32⟩
  | 67 => ⟨S8x2048x4x128, .f32⟩
  | 68 => ⟨S8x2048x4x128, .f32⟩
  | 69 => ⟨S1x1x1x128, .f32⟩
  | 70 => ⟨S8x2048x4x128, .f32⟩
  | 71 => ⟨S8x2048x4x128, .f32⟩
  | 72 => ⟨S16384x4x2x64, .f32⟩
  | 73 => ⟨S16384x4x1x64, .f32⟩
  | 74 => ⟨S16384x4x64, .f32⟩
  | 75 => ⟨S_, .i32⟩
  | 76 => ⟨S_, .f32⟩
  | 77 => ⟨S16384x4x128, .f32⟩
  | 78 => ⟨S16384x4x1x64, .f32⟩
  | 79 => ⟨S16384x4x64, .f32⟩
  | 80 => ⟨S_, .i32⟩
  | 81 => ⟨S_, .f32⟩
  | 82 => ⟨S16384x4x128, .f32⟩
  | 83 => ⟨S16384x4x1x128, .f32⟩
  | 84 => ⟨S16384x4x1x128, .f32⟩
  | 85 => ⟨S16384x4x2x128, .f32⟩
  | 86 => ⟨S16384x1024, .f32⟩
  | 87 => ⟨S1024x16384, .f32⟩
  | 88 => ⟨S1024x16384, .bf16⟩
  | 89 => ⟨S_, .i32⟩
  | 90 => ⟨S_, .f32⟩
  | 91 => ⟨S8x2048x8x128, .f32⟩
  | 92 => ⟨S64x256x8x128, .f32⟩
  | 93 => ⟨S64x128x8x256, .f32⟩
  | 94 => ⟨S64x128x2048, .f32⟩
  | 95 => ⟨S64x128x2048, .bf16⟩
  | 96 => ⟨S16384x8, .f32⟩
  | 97 => ⟨S8x16384, .f32⟩
  | 98 => ⟨S16384x4x128, .f32⟩
  | 99 => ⟨S4x16384x128, .f32⟩
  | 100 => ⟨S4x16384x128, .bf16⟩
  | 101 => ⟨S16384x512, .f32⟩
  | 102 => ⟨S512x16384, .f32⟩
  | 103 => ⟨S512x16384, .bf16⟩
  | 104 => ⟨S_, .i32⟩
  | 105 => ⟨S_, .f32⟩
  | 106 => ⟨S8x2048x128, .f32⟩
  | 107 => ⟨S16384x128, .f32⟩
  | 108 => ⟨S16384x128, .bf16⟩
  | 109 => ⟨S_, .i32⟩
  | 110 => ⟨S_, .f32⟩
  | 111 => ⟨S8x2048x8x128, .f32⟩
  | 112 => ⟨S16384x1024, .f32⟩
  | 113 => ⟨S1024x16384, .f32⟩
  | 114 => ⟨S1024x16384, .bf16⟩
  | 115 => ⟨S_, .i32⟩
  | 116 => ⟨S_, .f32⟩
  | 117 => ⟨S8x2048x8x128, .f32⟩
  | 118 => ⟨S16384x1024, .f32⟩
  | 119 => ⟨S16384x1024, .bf16⟩
  | 120 => ⟨S16384x512, .f32⟩
  | 121 => ⟨S512x16384, .f32⟩
  | 122 => ⟨S512x16384, .bf16⟩
  | 123 => ⟨S16384x512, .f32⟩
  | 124 => ⟨S512x16384, .f32⟩
  | 125 => ⟨S512x16384, .bf16⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_13 : Ref sig .tc := ⟨.hbm, 125, rfl⟩
abbrev main_v98 : Ref sig .tc := ⟨.hbm, 126, rfl⟩
abbrev main_v99 : Ref sig .tc := ⟨.hbm, 127, rfl⟩
abbrev main_cst_14 : Ref sig .tc := ⟨.hbm, 128, rfl⟩
abbrev main_v100 : Ref sig .tc := ⟨.hbm, 129, rfl⟩
abbrev main_v101 : Ref sig .tc := ⟨.hbm, 130, rfl⟩
abbrev main_cst_15 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_cst_16 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_cst_17 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_cst_18 : Ref sig .tc := ⟨.hbm, 197, rfl⟩
abbrev main_v165 : Ref sig .tc := ⟨.hbm, 198, rfl⟩
abbrev main_v166 : Ref sig .tc := ⟨.hbm, 199, rfl⟩
abbrev main_cst_19 : Ref sig .tc := ⟨.hbm, 200, rfl⟩
abbrev main_v167 : Ref sig .tc := ⟨.hbm, 201, rfl⟩
abbrev main_v168 : Ref sig .tc := ⟨.hbm, 202, rfl⟩
abbrev main_cst_20 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_cst_21 : Ref sig .tc := ⟨.hbm, 217, rfl⟩
abbrev main_v182 : Ref sig .tc := ⟨.hbm, 218, rfl⟩
abbrev main_v183 : Ref sig .tc := ⟨.hbm, 219, rfl⟩
abbrev main_cst_22 : Ref sig .tc := ⟨.hbm, 220, rfl⟩
abbrev main_v184 : Ref sig .tc := ⟨.hbm, 221, rfl⟩
abbrev main_v185 : Ref sig .tc := ⟨.hbm, 222, rfl⟩
abbrev main_cst_23 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_cst_24 : Ref sig .tc := ⟨.hbm, 242, rfl⟩
abbrev main_v204 : Ref sig .tc := ⟨.hbm, 243, rfl⟩
abbrev main_v205 : Ref sig .tc := ⟨.hbm, 244, rfl⟩
abbrev main_cst_25 : Ref sig .tc := ⟨.hbm, 245, rfl⟩
abbrev main_v206 : Ref sig .tc := ⟨.hbm, 246, rfl⟩
abbrev main_v207 : Ref sig .tc := ⟨.hbm, 247, rfl⟩
abbrev main_cst_26 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_cst_27 : Ref sig .tc := ⟨.hbm, 259, rfl⟩
abbrev main_v218 : Ref sig .tc := ⟨.hbm, 260, rfl⟩
abbrev main_v219 : Ref sig .tc := ⟨.hbm, 261, rfl⟩
abbrev main_cst_28 : Ref sig .tc := ⟨.hbm, 262, rfl⟩
abbrev main_v220 : Ref sig .tc := ⟨.hbm, 263, rfl⟩
abbrev main_v221 : Ref sig .tc := ⟨.hbm, 264, rfl⟩
abbrev main_cst_29 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_cst_30 : Ref sig .tc := ⟨.hbm, 313, rfl⟩
abbrev main_v269 : Ref sig .tc := ⟨.hbm, 314, rfl⟩
abbrev main_v270 : Ref sig .tc := ⟨.hbm, 315, rfl⟩
abbrev main_cst_31 : Ref sig .tc := ⟨.hbm, 316, rfl⟩
abbrev main_v271 : Ref sig .tc := ⟨.hbm, 317, rfl⟩
abbrev main_v272 : Ref sig .tc := ⟨.hbm, 318, rfl⟩
abbrev main_cst_32 : Ref sig .tc := ⟨.hbm, 319, rfl⟩
abbrev main_v273 : Ref sig .tc := ⟨.hbm, 320, rfl⟩
abbrev main_v274 : Ref sig .tc := ⟨.hbm, 321, rfl⟩
abbrev main_v275 : Ref sig .tc := ⟨.hbm, 322, rfl⟩
abbrev main_v276 : Ref sig .tc := ⟨.hbm, 323, rfl⟩
abbrev main_v277 : Ref sig .tc := ⟨.hbm, 324, rfl⟩
abbrev main_v278 : Ref sig .tc := ⟨.hbm, 325, rfl⟩
abbrev main_v279 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_c : Ref sig .tc := ⟨.hbm, 331, rfl⟩
abbrev main_call0_v0 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_c_33 : Ref sig .tc := ⟨.hbm, 336, rfl⟩
abbrev main_call1_v0 : Ref sig .tc := ⟨.hbm, 337, rfl⟩
abbrev main_v287 : Ref sig .tc := ⟨.hbm, 338, rfl⟩
abbrev main_v288 : Ref sig .tc := ⟨.hbm, 339, rfl⟩
abbrev main_v289 : Ref sig .tc := ⟨.hbm, 340, rfl⟩
abbrev main_v290 : Ref sig .tc := ⟨.hbm, 341, rfl⟩
abbrev main_v291 : Ref sig .tc := ⟨.hbm, 342, rfl⟩
abbrev main_v292 : Ref sig .tc := ⟨.hbm, 343, rfl⟩
abbrev main_v293 : Ref sig .tc := ⟨.hbm, 344, rfl⟩
abbrev main_c_34 : Ref sig .tc := ⟨.hbm, 345, rfl⟩
abbrev main_call2_v0 : Ref sig .tc := ⟨.hbm, 346, rfl⟩
abbrev main_v294 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_v298 : Ref sig .tc := ⟨.hbm, 351, rfl⟩
abbrev main_v299 : Ref sig .tc := ⟨.hbm, 352, rfl⟩
abbrev main_v300 : Ref sig .tc := ⟨.hbm, 353, rfl⟩
abbrev main_v301 : Ref sig .tc := ⟨.hbm, 354, rfl⟩
abbrev main_v302 : Ref sig .tc := ⟨.hbm, 355, rfl⟩
abbrev main_v303 : Ref sig .tc := ⟨.hbm, 356, rfl⟩
abbrev main_v304 : Ref sig .tc := ⟨.hbm, 357, rfl⟩
abbrev main_v305 : Ref sig .tc := ⟨.hbm, 358, rfl⟩
abbrev main_v306 : Ref sig .tc := ⟨.hbm, 359, rfl⟩
abbrev main_c_35 : Ref sig .tc := ⟨.hbm, 360, rfl⟩
abbrev main_call3_v0 : Ref sig .tc := ⟨.hbm, 361, rfl⟩
abbrev main_v307 : Ref sig .tc := ⟨.hbm, 362, rfl⟩
abbrev main_v308 : Ref sig .tc := ⟨.hbm, 363, rfl⟩
abbrev main_v309 : Ref sig .tc := ⟨.hbm, 364, rfl⟩
abbrev main_c_36 : Ref sig .tc := ⟨.hbm, 365, rfl⟩
abbrev main_call4_v0 : Ref sig .tc := ⟨.hbm, 366, rfl⟩
abbrev main_v310 : Ref sig .tc := ⟨.hbm, 367, rfl⟩
abbrev main_v311 : Ref sig .tc := ⟨.hbm, 368, rfl⟩
abbrev main_v312 : Ref sig .tc := ⟨.hbm, 369, rfl⟩
abbrev main_v313 : Ref sig .tc := ⟨.hbm, 370, rfl⟩
abbrev main_c_37 : Ref sig .tc := ⟨.hbm, 371, rfl⟩
abbrev main_call5_v0 : Ref sig .tc := ⟨.hbm, 372, rfl⟩
abbrev main_v314 : Ref sig .tc := ⟨.hbm, 373, rfl⟩
abbrev main_v315 : Ref sig .tc := ⟨.hbm, 374, rfl⟩
abbrev main_v316 : Ref sig .tc := ⟨.hbm, 375, rfl⟩
abbrev main_v317 : Ref sig .tc := ⟨.hbm, 376, rfl⟩
abbrev main_v318 : Ref sig .tc := ⟨.hbm, 377, rfl⟩
abbrev main_v319 : Ref sig .tc := ⟨.hbm, 378, rfl⟩
abbrev main_v320 : Ref sig .tc := ⟨.hbm, 379, rfl⟩
abbrev main_v321 : Ref sig .tc := ⟨.hbm, 380, rfl⟩
abbrev main_v322 : Ref sig .tc := ⟨.hbm, 381, rfl⟩

abbrev nD : Nat := 1
abbrev τ : Topo := Topo.v7x

variable {F : FTy → Type} [FloatOps F]
-- ==== Proof.FinalSpec.lean ====
/-
  Hand-written, untrusted. One row of the gated merge, as the mathematics has it: the row is normalised, projected to the
  three branches' gates and to the merge gates, the branches' outputs are gated and multiplied by their branch matrices,
  the merge gates weigh the three products, and the merged row goes through the output matrix onto the residual.
-/
module

public import Idealize.ShloMosaic.PureOps.Ideal

@[expose] public section

noncomputable section

namespace Cert.Proof.Final

open Idealize.ShloMosaic

/-- The row `x` times the reciprocal root of its mean square (plus the printed epsilon) times the gain `g`. -/
def normed (x g : Fin 1024 → EReal) (d : Fin 1024) : EReal :=
  x d * Ideal.rsqrt (Ideal.div (∑ k, x k * x k) (Ideal.ofBits .f32 0x44800000#32) + Ideal.ofBits .f32 0x358637BD#32) * g d

/-- Branch `n`'s output, gated by `z · σ(z)` of its projection `z`, times the branch matrix. -/
def branch (h : Fin 1024 → EReal) (o : Fin 512 → EReal) (wz : Fin 1024 → Fin 512 → EReal) (wb : Fin 512 → Fin 1024 → EReal)
    (e : Fin 1024) : EReal :=
  ∑ w, o w * ((∑ d, h d * wz d w) * Ideal.logistic (∑ d, h d * wz d w)) * wb w e

/-- The three branch products, each weighed by the sigmoid of its merge gate's projection. -/
def merged (h : Fin 1024 → EReal) (o : Fin 3 → Fin 512 → EReal) (wz : Fin 3 → Fin 1024 → Fin 512 → EReal)
    (wg : Fin 3 → Fin 1024 → Fin 1024 → EReal) (wb : Fin 3 → Fin 512 → Fin 1024 → EReal) (e : Fin 1024) : EReal :=
  ∑ n, Ideal.logistic (∑ d, h d * wg n d e) * branch h (o n) (wz n) (wb n) e

/-- The row of the result: the residual plus the merged row times the output matrix. -/
def rowOut (x g : Fin 1024 → EReal) (o : Fin 3 → Fin 512 → EReal) (wz : Fin 3 → Fin 1024 → Fin 512 → EReal)
    (wg : Fin 3 → Fin 1024 → Fin 1024 → EReal) (wb : Fin 3 → Fin 512 → Fin 1024 → EReal) (wo : Fin 1024 → Fin 1024 → EReal)
    (e : Fin 1024) : EReal :=
  x e + ∑ e', merged (normed x g) o wz wg wb e' * wo e' e

end Cert.Proof.Final

end
-- ==== Proof.FinalRef.lean ====
/-
  Hand-written, untrusted. The plain text of the gated merge, read at one element of its result: a row of the result
  (FinalSpec.lean `rowOut`) of the rows and matrices of its arguments.
-/
module

public import proofs.«01_k».proof.Proof.FinalSpec
public import proofs.«01_k».proof.Proof.Gen.Reference2Ideal.Read
public import Idealize.ShloMosaic.Lib.Pointwise

@[expose] public section

noncomputable section

namespace Cert.Proof.Final

open Idealize.ShloMosaic Idealize.SL.Sem Cert.Reference2Ideal Cert.Reference2Ideal.Read

variable (x : Vec Ideal S8x2048x1024 .f32) (oa ob : Vec Ideal S8x2048x8x64 .f32) (om : Vec Ideal S8x2048x4x128 .f32)
  (g : Vec Ideal S1x1024 .f32) (win : Vec Ideal S1x1024x7912 .f32) (wb : Vec Ideal S1x3x512x1024 .f32) (wo : Vec Ideal S1x1024x1024 .f32)

/-- Token `n`'s row of the input. -/
def xRow (n : Fin 16384) (d : Fin 1024) : EReal := x (ix3 ⟨n.val / 2048, by omega⟩ ⟨n.val % 2048, by omega⟩ d)

/-- Token `n`'s rows of the three branches' outputs, heads side by side. -/
def oRow (n : Fin 16384) (b : Fin 3) (w : Fin 512) : EReal :=
  ![oa (ix4 ⟨n.val / 2048, by omega⟩ ⟨n.val % 2048, by omega⟩ ⟨w.val / 64, by omega⟩ ⟨w.val % 64, by omega⟩),
    ob (ix4 ⟨n.val / 2048, by omega⟩ ⟨n.val % 2048, by omega⟩ ⟨w.val / 64, by omega⟩ ⟨w.val % 64, by omega⟩),
    om (ix4 ⟨n.val / 2048, by omega⟩ ⟨n.val % 2048, by omega⟩ ⟨w.val / 128, by omega⟩ ⟨w.val % 128, by omega⟩)] b

/-- The columns of the input projection that make the branches' gates. -/
def wzCols (b : Fin 3) (d : Fin 1024) (w : Fin 512) : EReal :=
  ![win (ix3 0 d ⟨2120 + w.val, by omega⟩), win (ix3 0 d ⟨3304 + w.val, by omega⟩), win (ix3 0 d ⟨4328 + w.val, by omega⟩)] b

/-- The columns of the input projection that make the merge gates. -/
def wgCols (b : Fin 3) (d : Fin 1024) (e : Fin 1024) : EReal := win (ix3 0 d ⟨4840 + (b.val * 1024 + e.val), by omega⟩)

/-- Row `n` of the result. -/
def resRow (n : Fin 16384) (e : Fin 1024) : EReal :=
  rowOut (xRow x n) (fun d => g (ix2 0 d)) (oRow oa ob om n) (wzCols win) (wgCols win)
    (fun b w e => wb (ix4 0 b w e)) (fun e' e => wo (ix3 0 e' e)) e

set_option maxRecDepth 16384 in
/-- The normalised input at an element. -/
theorem ref_normed (b : Fin 8) (q : Fin 2048) (d : Fin 1024) :
    val_main_v13 (F := Ideal) x g (ix3 b q d) = normed (fun d => x (ix3 b q d)) (fun d => g (ix2 0 d)) d := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1, normed]

set_option maxRecDepth 16384 in
/-- The whole projection at an element. -/
theorem ref_proj (b : Fin 8) (q : Fin 2048) (j : Fin 7912) :
    val_main_v15 (F := Ideal) x g win (ix3 b q j) =
      ∑ d, normed (fun d => x (ix3 b q d)) (fun d => g (ix2 0 d)) d * win (ix3 0 d j) := by
  simp only [← ref_normed]
  generalize hh : val_main_v13 (F := Ideal) x g = h
  unfold val_main_v15
  rw [hh]
  pointwise [val_main_v14]

set_option maxRecDepth 16384 in
set_option maxHeartbeats 4000000 in
/-- The result at an element. -/
theorem ref_apply (n : Fin 16384) (e : Fin 1024) :
    val_main_v46 (F := Ideal) x oa ob om g win wb wo (ix2 n e) = resRow x oa ob om g win wb wo n e := by
  unfold resRow rowOut merged branch wgCols
  simp only [Fin.sum_univ_three]
  unfold oRow wzCols xRow
  simp only [Matrix.cons_val]
  pointwise [val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_cst_2, val_main_cst_3, val_main_call0_v0, val_main_call0_v1, val_main_call0_v2, val_main_call0_v3, val_main_call0_v4, val_main_call0_v5, val_main_call0_cst, val_main_call0_cst_0, val_main_call1_v0, val_main_call1_v1, val_main_call1_v2, val_main_call1_v3, val_main_call1_v4, val_main_call1_v5, val_main_call1_cst, val_main_call1_cst_0, val_main_call2_v0, val_main_call2_v1, val_main_call2_v2, val_main_call2_v3, val_main_call2_v4, val_main_call2_v5, val_main_call2_cst, val_main_call2_cst_0, Ideal.logistic]
  simp only [ref_proj]
  simp only [Fin.sum_univ_three, Fin.val_zero, Fin.val_one, Fin.val_two, Nat.reduceSub, Nat.reduceLT, Nat.reduceMul, ↓reduceDIte, Nat.one_mul, Nat.zero_mul, Nat.zero_add, Nat.lt_irrefl, Nat.zero_lt_one]

end Cert.Proof.Final

end
-- ==== Proof.FinalBody.lean ====
/-
  Hand-written, untrusted. The body of the gated merge's kernel, read at one element of the block it stores: a row of the
  result (FinalSpec.lean `rowOut`) of the rows and matrices of the blocks it loads.
-/
module

public import proofs.«01_k».proof.Proof.FinalSpec
public import proofs.«01_k».proof.Proof.Gen.Kernel2Ideal.Value
public import Idealize.ShloMosaic.Lib.Pointwise

@[expose] public section

noncomputable section

namespace Cert.Proof.Final

open Idealize.ShloMosaic Idealize.SL.Sem Cert.Kernel2Ideal Cert.Kernel2Ideal.Gen

set_option maxRecDepth 16384 in
/-- The normalised block at an element. -/
theorem normed_apply (x0 : Vec Ideal S512x1024 .f32) (x4 : Vec Ideal S3x1024 .f32) (r : Fin 512) (d : Fin 1024) :
    k0_pay3 (View.ld x0 r0_0) (View.ld x4 r0_1) (ix2 r d) = normed (fun d => x0 (ix2 r d)) (fun d => x4 (ix2 0 d)) d := by
  pointwise [k0_pay3, k0_pay2, normed]

set_option maxRecDepth 16384 in
set_option maxHeartbeats 4000000 in
/-- The stored block at an element. -/
theorem out_apply (x0 : Vec Ideal S512x1024 .f32) (x1 x2 x3 : Vec Ideal S512x512 .f32) (x4 : Vec Ideal S3x1024 .f32)
    (x5 : Vec Ideal S3x1024x512 .bf16) (x6 : Vec Ideal S1024x3072 .bf16) (x7 : Vec Ideal S3x512x1024 .bf16)
    (x8 : Vec Ideal S1024x1024 .bf16) (r : Fin 512) (e : Fin 1024) :
    out0_9 x0 x1 x2 x3 x4 x5 x6 x7 x8 (ix2 r e) =
      rowOut (fun d => x0 (ix2 r d)) (fun d => x4 (ix2 0 d))
        (fun n w => (![x1, x2, x3] n) (ix2 r w)) (fun n d w => x5 (ix3 n d w))
        (fun n d e => x6 (ix2 d ⟨n.val * 1024 + e.val, by omega⟩)) (fun n w e => x7 (ix3 n w e)) (fun e' e => x8 (ix2 e' e)) e := by
  have hz : (![0, 0] : Fin S512x1024.rank → Nat) = fun _ => 0 := funext fun a => by fin_cases a <;> rfl
  unfold out0_9
  rw [View.canon_unit_zero hz]
  have hn := fun d => normed_apply x0 x4 r d
  unfold rowOut merged branch
  simp only [Fin.sum_univ_three, ← hn]
  generalize hh : k0_pay3 (View.ld x0 r0_0) (View.ld x4 r0_1) = h
  unfold k0_pay4 k0_pay5 k0_pay6 k0_pay7 k0_pay8
  rw [hh]
  pointwise [k0_pay1, k0_pay2, k0_pay9]

end Cert.Proof.Final

end
-- ==== Proof.FinalHost.lean ====
/-
  Hand-written, untrusted. The arrays that the gated merge's kernel is launched on, read at an index: the host lines
  before the launch flatten the tokens, cut column blocks out of the input projection and stack them.
-/
module

public import proofs.«01_k».proof.Proof.FinalRef
public import proofs.«01_k».proof.Proof.FinalBody
public import Idealize.ShloMosaic.Lib.StableHlo.ReadAt

@[expose] public section

noncomputable section

namespace Cert.Proof.Final

open Idealize.ShloMosaic Idealize.SL.Sem Cert.Kernel2Ideal Cert.Kernel2Ideal.Gen Idealize.ShloMosaic.TcCoe

variable (m : (ℓ : Loc nD τ sig) → Buf (Elt Ideal) ℓ) (c : Dev nD)

/-- Row `n` of the result, of the launched arguments. -/
def argRow (n : Fin 16384) (e : Fin 1024) : EReal :=
  resRow (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg7))
    (m ((c.tc : Thread nD τ).loc main_arg8)) (m ((c.tc : Thread nD τ).loc main_arg9)) n e

set_option maxRecDepth 16384 in
/-- The flattened input. -/
theorem V_x (n : Fin 16384) (d : Fin 1024) :
    (V m c main_v27 : Vec Ideal S16384x1024 .f32) (ix2 n d) = xRow (m ((c.tc : Thread nD τ).loc main_arg0)) n d := by
  unfold V xRow
  after_reads_at

set_option maxRecDepth 16384 in
/-- The flattened first branch's output. -/
theorem V_oa (n : Fin 16384) (w : Fin 512) :
    (V m c main_v28 : Vec Ideal S16384x512 .f32) (ix2 n w) =
      oRow (m ((c.tc : Thread nD τ).loc main_arg1)) (m ((c.tc : Thread nD τ).loc main_arg2)) (m ((c.tc : Thread nD τ).loc main_arg3)) n 0 w := by
  unfold V oRow
  simp only [Matrix.cons_val]
  after_reads_at

set_option maxRecDepth 16384 in
/-- The flattened second branch's output. -/
theorem V_ob (n : Fin 16384) (w : Fin 512) :
    (V m c main_v29 : Vec Ideal S16384x512 .f32) (ix2 n w) =
      oRow (m ((c.tc : Thread nD τ).loc main_arg1)) (m ((c.tc : Thread nD τ).loc main_arg2)) (m ((c.tc : Thread nD τ).loc main_arg3)) n 1 w := by
  unfold V oRow
  simp only [Matrix.cons_val]
  after_reads_at

set_option maxRecDepth 16384 in
/-- The flattened third branch's output. -/
theorem V_om (n : Fin 16384) (w : Fin 512) :
    (V m c main_v30 : Vec Ideal S16384x512 .f32) (ix2 n w) =
      oRow (m ((c.tc : Thread nD τ).loc main_arg1)) (m ((c.tc : Thread nD τ).loc main_arg2)) (m ((c.tc : Thread nD τ).loc main_arg3)) n 2 w := by
  unfold V oRow
  simp only [Matrix.cons_val]
  after_reads_at

set_option maxRecDepth 16384 in
/-- The gain's row of the stacked gains. -/
theorem V_rows (d : Fin 1024) :
    (V m c main_v26 : Vec Ideal S3x1024 .f32) (ix2 0 d) = (m ((c.tc : Thread nD τ).loc main_arg4) : Vec Ideal S1x1024 .f32) (ix2 0 d) := by
  unfold V
  after_reads_at
  after_reads_at

set_option maxRecDepth 16384 in
/-- The stacked columns of the branches' gates. -/
theorem V_wz (b : Fin 3) (d : Fin 1024) (w : Fin 512) :
    (V m c main_v10 : Vec Ideal S3x1024x512 .bf16) (ix3 b d w) = wzCols (m ((c.tc : Thread nD τ).loc main_arg7)) b d w := by
  unfold V wzCols
  have hb : b = 0 ∨ b = 1 ∨ b = 2 := by omega
  rcases hb with rfl | rfl | rfl
  all_goals
    simp only [Matrix.cons_val]
    after_reads_at
    after_reads_at

set_option maxRecDepth 16384 in
/-- The columns of the merge gates. -/
theorem V_wg (b : Fin 3) (d : Fin 1024) (e : Fin 1024) (h : b.val * 1024 + e.val < 3072) :
    (V m c main_v12 : Vec Ideal S1024x3072 .bf16) (ix2 d ⟨b.val * 1024 + e.val, h⟩) = wgCols (m ((c.tc : Thread nD τ).loc main_arg7)) b d e := by
  unfold V wgCols
  after_reads_at

set_option maxRecDepth 16384 in
/-- The branch matrices. -/
theorem V_wb (b : Fin 3) (w : Fin 512) (e : Fin 1024) :
    (V m c main_v14 : Vec Ideal S3x512x1024 .bf16) (ix3 b w e) = (m ((c.tc : Thread nD τ).loc main_arg8) : Vec Ideal S1x3x512x1024 .f32) (ix4 0 b w e) := by
  unfold V
  after_reads_at

set_option maxRecDepth 16384 in
/-- The output matrix. -/
theorem V_wo (e' e : Fin 1024) :
    (V m c main_v16 : Vec Ideal S1024x1024 .bf16) (ix2 e' e) = (m ((c.tc : Thread nD τ).loc main_arg9) : Vec Ideal S1x1024x1024 .f32) (ix3 0 e' e) := by
  unfold V
  after_reads_at

end Cert.Proof.Final

end
-- ==== Proof.FinalRun.lean ====
/-
  Hand-written, untrusted. The gated merge's kernel run with its value: block by block the stored rows are the rows of the
  plain text, so the result array is the plain text's result, and the claim about the two programs follows.
-/
module

public import proofs.«01_k».proof.Proof.FinalHost
public import proofs.«01_k».proof.Proof.Gen.Kernel2Ideal.Value
public import proofs.«01_k».proof.Proof.Gen.Reference2Ideal.Run
public import proofs.«01_k».proof.Proof.Gen.Reference2Ideal.Read

@[expose] public section

noncomputable section

namespace Cert.Proof.Final

open Idealize.ShloMosaic Idealize.SL.Sem Cert.Kernel2Ideal Cert.Kernel2Ideal.Gen Idealize.ShloMosaic.TcCoe
open Idealize.ShloMosaic.Pipeline (Dat)

variable (m : (ℓ : Loc nD τ sig) → Buf (Elt Ideal) ℓ) (c : Dev nD)

/-- The tiled windows move down the rows with the grid point; the others stay. -/
theorem idx_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0 ∧ win0_5.index t 2 = 0)
    ∧ (win0_6.index t 0 = 0 ∧ win0_6.index t 1 = 0) ∧ (win0_7.index t 0 = 0 ∧ win0_7.index t 1 = 0 ∧ win0_7.index t 2 = 0)
    ∧ (win0_8.index t 0 = 0 ∧ win0_8.index t 1 = 0) ∧ (win0_9.index t 0 = t.val ∧ win0_9.index t 1 = 0) :=
  (by decide +kernel : ∀ t : Fin grid0.N, _)

/-- The grid has 32 points. -/
theorem lt_N (t : Fin cfg0.N) : t.val < 32 := t.isLt

/-- Row `r` of block `t`. -/
def row (t : Fin cfg0.N) (r : Fin 512) : Fin 16384 := ⟨t.val * 512 + r.val, by have := lt_N t; omega⟩

/-- A block of the flattened input. -/
theorem blk0 (t : Fin cfg0.N) (r : Fin 512) (d : Fin 1024) :
    (iblk m c 0 t : Vec Ideal S512x1024 .f32) (ix2 r d) = (V m c main_v27 : Vec Ideal S16384x1024 .f32) (ix2 (row t r) d) := by
  refine congrArg (V m c main_v27 : Vec Ideal S16384x1024 .f32) (funext fun a => Fin.ext ?_)
  have h := (idx_facts t).1
  match a with
  | ⟨0, _⟩ => show win0_0.index t 0 * 512 + 1 * r.val = t.val * 512 + r.val; rw [h.1]; omega
  | ⟨1, _⟩ => show win0_0.index t 1 * 1024 + 1 * d.val = d.val; rw [h.2]; omega

/-- A block of the flattened first branch's output. -/
theorem blk1 (t : Fin cfg0.N) (r : Fin 512) (d : Fin 512) :
    (iblk m c 1 t : Vec Ideal S512x512 .f32) (ix2 r d) = (V m c main_v28 : Vec Ideal S16384x512 .f32) (ix2 (row t r) d) := by
  refine congrArg (V m c main_v28 : Vec Ideal S16384x512 .f32) (funext fun a => Fin.ext ?_)
  have h := (idx_facts t).2.1
  match a with
  | ⟨0, _⟩ => show win0_1.index t 0 * 512 + 1 * r.val = t.val * 512 + r.val; rw [h.1]; omega
  | ⟨1, _⟩ => show win0_1.index t 1 * 512 + 1 * d.val = d.val; rw [h.2]; omega

/-- A block of the flattened second branch's output. -/
theorem blk2 (t : Fin cfg0.N) (r : Fin 512) (d : Fin 512) :
    (iblk m c 2 t : Vec Ideal S512x512 .f32) (ix2 r d) = (V m c main_v29 : Vec Ideal S16384x512 .f32) (ix2 (row t r) d) := by
  refine congrArg (V m c main_v29 : Vec Ideal S16384x512 .f32) (funext fun a => Fin.ext ?_)
  have h := (idx_facts t).2.2.1
  match a with
  | ⟨0, _⟩ => show win0_2.index t 0 * 512 + 1 * r.val = t.val * 512 + r.val; rw [h.1]; omega
  | ⟨1, _⟩ => show win0_2.index t 1 * 512 + 1 * d.val = d.val; rw [h.2]; omega

/-- A block of the flattened third branch's output. -/
theorem blk3 (t : Fin cfg0.N) (r : Fin 512) (d : Fin 512) :
    (iblk m c 3 t : Vec Ideal S512x512 .f32) (ix2 r d) = (V m c main_v30 : Vec Ideal S16384x512 .f32) (ix2 (row t r) d) := by
  refine congrArg (V m c main_v30 : Vec Ideal S16384x512 .f32) (funext fun a => Fin.ext ?_)
  have h := (idx_facts t).2.2.2.1
  match a with
  | ⟨0, _⟩ => show win0_3.index t 0 * 512 + 1 * r.val = t.val * 512 + r.val; rw [h.1]; omega
  | ⟨1, _⟩ => show win0_3.index t 1 * 512 + 1 * d.val = d.val; rw [h.2]; omega

/-- The stacked gains are one block. -/
theorem blk4 (t : Fin cfg0.N) (r : Fin 3) (d : Fin 1024) :
    (iblk m c 4 t : Vec Ideal S3x1024 .f32) (ix2 r d) = (V m c main_v26 : Vec Ideal S3x1024 .f32) (ix2 r d) := by
  refine congrArg (V m c main_v26 : Vec Ideal S3x1024 .f32) (funext fun a => Fin.ext ?_)
  have h := (idx_facts t).2.2.2.2.1
  match a with
  | ⟨0, _⟩ => show win0_4.index t 0 * 3 + 1 * r.val = r.val; rw [h.1]; omega
  | ⟨1, _⟩ => show win0_4.index t 1 * 1024 + 1 * d.val = d.val; rw [h.2]; omega

/-- The columns of the branches' gates are one block. -/
theorem blk5 (t : Fin cfg0.N) (b : Fin 3) (d : Fin 1024) (w : Fin 512) :
    (iblk m c 5 t : Vec Ideal S3x1024x512 .bf16) (ix3 b d w) = (V m c main_v10 : Vec Ideal S3x1024x512 .bf16) (ix3 b d w) := by
  refine congrArg (V m c main_v10 : Vec Ideal S3x1024x512 .bf16) (funext fun a => Fin.ext ?_)
  have h := (idx_facts t).2.2.2.2.2.1
  match a with
  | ⟨0, _⟩ => show win0_5.index t 0 * 3 + 1 * b.val = b.val; rw [h.1]; omega
  | ⟨1, _⟩ => show win0_5.index t 1 * 1024 + 1 * d.val = d.val; rw [h.2.1]; omega
  | ⟨2, _⟩ => show win0_5.index t 2 * 512 + 1 * w.val = w.val; rw [h.2.2]; omega

/-- The columns of the merge gates are one block. -/
theorem blk6 (t : Fin cfg0.N) (d : Fin 1024) (j : Fin 3072) :
    (iblk m c 6 t : Vec Ideal S1024x3072 .bf16) (ix2 d j) = (V m c main_v12 : Vec Ideal S1024x3072 .bf16) (ix2 d j) := by
  refine congrArg (V m c main_v12 : Vec Ideal S1024x3072 .bf16) (funext fun a => Fin.ext ?_)
  have h := (idx_facts t).2.2.2.2.2.2.1
  match a with
  | ⟨0, _⟩ => show win0_6.index t 0 * 1024 + 1 * d.val = d.val; rw [h.1]; omega
  | ⟨1, _⟩ => show win0_6.index t 1 * 3072 + 1 * j.val = j.val; rw [h.2]; omega

/-- The branch matrices are one block. -/
theorem blk7 (t : Fin cfg0.N) (b : Fin 3) (w : Fin 512) (e : Fin 1024) :
    (iblk m c 7 t : Vec Ideal S3x512x1024 .bf16) (ix3 b w e) = (V m c main_v14 : Vec Ideal S3x512x1024 .bf16) (ix3 b w e) := by
  refine congrArg (V m c main_v14 : Vec Ideal S3x512x1024 .bf16) (funext fun a => Fin.ext ?_)
  have h := (idx_facts t).2.2.2.2.2.2.2.1
  match a with
  | ⟨0, _⟩ => show win0_7.index t 0 * 3 + 1 * b.val = b.val; rw [h.1]; omega
  | ⟨1, _⟩ => show win0_7.index t 1 * 512 + 1 * w.val = w.val; rw [h.2.1]; omega
  | ⟨2, _⟩ => show win0_7.index t 2 * 1024 + 1 * e.val = e.val; rw [h.2.2]; omega

/-- The output matrix is one block. -/
theorem blk8 (t : Fin cfg0.N) (e' e : Fin 1024) :
    (iblk m c 8 t : Vec Ideal S1024x1024 .bf16) (ix2 e' e) = (V m c main_v16 : Vec Ideal S1024x1024 .bf16) (ix2 e' e) := by
  refine congrArg (V m c main_v16 : Vec Ideal S1024x1024 .bf16) (funext fun a => Fin.ext ?_)
  have h := (idx_facts t).2.2.2.2.2.2.2.2.1
  match a with
  | ⟨0, _⟩ => show win0_8.index t 0 * 1024 + 1 * e'.val = e'.val; rw [h.1]; omega
  | ⟨1, _⟩ => show win0_8.index t 1 * 1024 + 1 * e.val = e.val; rw [h.2]; omega

/-- The result array: its rows are the plain text's. -/
def result : Vec Ideal S16384x1024 .f32 := fun i => argRow m c (i 0) (i 1)

/-- What point `t` writes back is block `t` of the result. -/
theorem flushed_eq (t : Fin cfg0.N) :
    (dats m 0 c).flushed 9 t = ((cfg0.win 9).blk t).view.read (Elt Ideal) (result m c) := by
  rw [Value.flushed9]
  funext y
  obtain ⟨r, e, rfl⟩ : ∃ (r : Fin 512) (e : Fin 1024), y = ix2 r e := ⟨y 0, y 1, eq_ix2 y⟩
  have hy : (((cfg0.win 9).blk t).view.read (Elt Ideal) (result m c)) (ix2 r e) = argRow m c (row t r) e := by
    refine congrArg₂ (argRow m c) (Fin.ext ?_) (Fin.ext ?_)
    · show win0_9.index t 0 * 512 + 1 * r.val = t.val * 512 + r.val
      rw [(idx_facts t).2.2.2.2.2.2.2.2.2.1]; omega
    · show win0_9.index t 1 * 1024 + 1 * e.val = e.val
      rw [(idx_facts t).2.2.2.2.2.2.2.2.2.2]; omega
  rw [hy]
  show out0_9 (iblk m c 0 t) (iblk m c 1 t) (iblk m c 2 t) (iblk m c 3 t) (iblk m c 4 t) (iblk m c 5 t) (iblk m c 6 t)
    (iblk m c 7 t) (iblk m c 8 t) (ix2 r e) = _
  rw [out_apply]
  unfold argRow resRow
  congr 1
  · funext d; rw [blk0, V_x]
  · funext d; rw [blk4, V_rows]
  · funext b w
    have hb : b = 0 ∨ b = 1 ∨ b = 2 := by omega
    rcases hb with rfl | rfl | rfl
    · exact (blk1 m c t r w).trans (V_oa m c _ w)
    · exact (blk2 m c t r w).trans (V_ob m c _ w)
    · exact (blk3 m c t r w).trans (V_om m c _ w)
  · funext b d w; rw [blk5, V_wz]
  · funext b d e; rw [blk6, V_wg]
  · funext b w e; rw [blk7, V_wb]
  · funext e' e; rw [blk8, V_wo]

/-- An index of the result array lies in point `t`'s block when its row does. -/
theorem mem_blk (t : Fin cfg0.N) (i : S16384x1024.Idx) :
    i ∈ ((cfg0.win 9).blk t).view.set ↔ t.val * 512 ≤ (i 0 : Nat) ∧ (i 0 : Nat) < t.val * 512 + 512 := by
  show i ∈ ((View.whole main_v31).slice (win0_9.rect t)).set ↔ _
  rw [View.set_slice_whole, Rect.mem_set_unit]
  have h1 : (i 1 : Nat) < 1024 := (i 1).isLt
  have e0 := (idx_facts t).2.2.2.2.2.2.2.2.2.1
  have e1 := (idx_facts t).2.2.2.2.2.2.2.2.2.2
  refine ⟨fun h => ?_, fun h a => ?_⟩
  · have : win0_9.index t 0 * 512 ≤ (i 0 : Nat) ∧ (i 0 : Nat) < win0_9.index t 0 * 512 + 512 := h 0
    rw [e0] at this; exact this
  · match a with
    | ⟨0, _⟩ => show win0_9.index t 0 * 512 ≤ (i 0 : Nat) ∧ (i 0 : Nat) < win0_9.index t 0 * 512 + 512
                rw [e0]; exact h
    | ⟨1, _⟩ => show win0_9.index t 1 * 1024 ≤ (i 1 : Nat) ∧ (i 1 : Nat) < win0_9.index t 1 * 1024 + 1024
                rw [e1, Nat.zero_mul, Nat.zero_add]; exact ⟨Nat.zero_le _, h1⟩

/-- Every index lies in the block of its row. -/
theorem cover (i : S16384x1024.Idx) : ∃ t : Fin cfg0.N, (cfg0.win 9).flush t = true ∧ i ∈ ((cfg0.win 9).blk t).view.set := by
  have h0 : (i 0 : Nat) < 16384 := (i 0).isLt
  refine ⟨⟨(i 0 : Nat) / 512, by show (i 0 : Nat) / 512 < 32; omega⟩, flush0_9 _, ?_⟩
  rw [mem_blk]
  dsimp only
  omega

/-- The result array after the run. -/
theorem final_eq : (dats m 0 c).arrAt 9 cfg0.N = result m c :=
  (dats m 0 c).arrAt_eq_of_cover 9 (result m c) (fun t _ => flushed_eq m c t) cover

/-- The plain text's result is the same array. -/
theorem ref_eq : Cert.Reference2Ideal.Read.val_main_v46 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg7)) (m ((c.tc : Thread nD τ).loc main_arg8)) (m ((c.tc : Thread nD τ).loc main_arg9)) = result m c := by
  funext i
  obtain ⟨n, e, rfl⟩ : ∃ (n : Fin 16384) (e : Fin 1024), i = ix2 n e := ⟨i 0, i 1, eq_ix2 i⟩
  exact ref_apply _ _ _ _ _ _ _ _ n e

end Cert.Proof.Final

end
-- ==== Proof.FinalClaim.lean ====
/-
  Hand-written, untrusted. The claim about the gated merge: the kernel's program and the plain program end with one result.
-/
module

public import proofs.«01_k».proof.Defs
public import proofs.«01_k».proof.Proof.FinalRun
public import proofs.«01_k».proof.Proof.Gen.Reference2Ideal

@[expose] public section

noncomputable section

namespace Cert.Proof.Final

open Idealize.ShloMosaic Idealize.SL.Sem Cert.Kernel2Ideal Cert.Kernel2Ideal.Gen Idealize.ShloMosaic.TcCoe

/-- The kernel's program and the plain program, started on the same arguments, end with the same result. -/
theorem algebraic : Cert.algebraic_Kernel2Ideal_Reference2Ideal := by
  intro m g m' g' _ hagree
  refine ⟨fun c => result m c, ?_, ?_⟩
  · refine (θ_run defs _ _).mono (fun r h c => ?_) (Value.run_blocks m g)
    have h := h c
    exact ⟨h.1.trans (final_eq m c), h.2⟩
  · refine (θ_run _ _ _).mono (fun r h c => ?_) (Cert.Reference2Ideal.Value.run (F := Ideal) m' g')
    have h := h c
    refine ⟨?_, h.2⟩
    obtain ⟨a0, a1, a2, a3, a4, a5, a6, a7, a8, a9⟩ := hagree c
    rw [h.1, Cert.Reference2Ideal.Read.val_main_v46_eq, a0, a1, a2, a3, a4, a7, a8, a9]
    exact ref_eq m c

end Cert.Proof.Final

end
-- ==== Proof.MlaTiles.lean ====
/-
  Hand-written, untrusted. The attention kernel's tiles, written once for every class of query rows, head and chunk of keys:
  the chunk's probabilities, the rows of their sums, the head's quotient, and the order in which the probabilities are stored.
-/
module

public import proofs.«01_k».proof.Proof.Gen.KernelIdeal.Frame

@[expose] public section

noncomputable section

namespace Cert.Proof.Mla

open Idealize.ShloMosaic Cert.KernelIdeal Cert.KernelIdeal.Gen Idealize.ShloMosaic.TcCoe

variable {F : FTy → Type} [FloatOps F] [Named F]

section
variable (arg1 : Memref sig .tc .vmem S1024x2048 .bf16) (harg1 : arg1.IsWhole)
  (arg2 : Memref sig .tc .vmem S2048x1024 .bf16) (harg2 : arg2.IsWhole)
  (arg3 : Memref sig .tc .vmem S512x2048 .bf16) (harg3 : arg3.IsWhole)
  (arg6 : Memref sig .tc .vmem S8x256x256 .f32)
  (arg8 : Memref sig .tc .vmem S2x4096x256 .bf16)
  (x0 : Vec F S1024x2048 .bf16) (x1 : Vec F S2048x1024 .bf16) (x2 : Vec F S512x2048 .bf16)

theorem q_inb (i : Fin 8) : ∀ a, (![0, i.val * 256] : Fin 2 → Nat) a + S1024x256.size a ≤ S1024x2048.size a := by
  revert i; decide
theorem qh_inb (h : Fin 8) : ∀ a, (![h.val * 128, 0] : Fin 2 → Nat) a + S128x256.size a ≤ S1024x256.size a := by
  revert h; decide
theorem k_inb (j h : Fin 8) : ∀ a, (![j.val * 256, h.val * 128] : Fin 2 → Nat) a + S256x128.size a ≤ S2048x1024.size a := by
  revert j h; decide

/-- The query tile of a class of rows and a head. -/
def qTile (i h : Fin 8) : FVec F S128x256 .bf16 :=
  shapeCast S128x256 (View.readAt (Elt F) arg1.view
    ((Rect.unit (s := S1024x2048) ![0, i.val * 256] S1024x256.size (q_inb i)).withinL
      (Rect.unit (s := S1024x256) ![h.val * 128, 0] S128x256.size (qh_inb h)).toLoadRect (fun _ => rfl)) (harg1.unread x0))
    shapeCasts_S128x256_S128x256

/-- The key tile of a chunk and a head. -/
def kTile (h j : Fin 8) : FVec F S256x128 .bf16 :=
  shapeCast S256x128 (View.readAt (Elt F) arg2.view
    (Rect.unit (s := S2048x1024) ![j.val * 256, h.val * 128] S256x128.size (k_inb j h)).toLoadRect (harg2.unread x1))
    shapeCasts_S256x128_S256x128

/-- The scores of a chunk of keys against a class's queries. -/
def scoreTile (i h j : Fin 8) : FVec F S256x256 .f32 :=
  matmul dot_S256x128_S128x256_S256x256_1_0_0_1_n_n none (kTile arg2 harg2 x1 h j) (qTile arg1 harg1 x0 i h)
    (constant S256x256 .f32 0x00000000#32)

/-- The mask of a class's last chunk: a key past the query gets the mask constant. -/
def maskTile (i : Fin 8) : FVec F S256x256 .f32 :=
  shapeCast S256x256 (select
    (cmpi .sle (addi (iota .tc S256x256 32 [0] iota_S256x256_d0_w32) (broadcast S256x256 (BitVec.ofNat 32 (i.val * 256))))
      (broadcastTo S256x256 (addi (broadcast S1x256 (BitVec.ofNat 32 (i.val * 256))) (iota .tc S1x256 32 [1] iota_S1x256_d1_w32))
        broadcasts_S1x256_S256x256))
    (broadcast S256x256 (Scalar.ofBits .f32 0x00000000#32 : F .f32))
    (broadcast S256x256 (Named.named κ "mask" 0xF149F2CA#32 : F .f32))) shapeCasts_S256x256_S256x256

theorem m_inb (i : Fin 8) : ∀ a, (![i.val, 0, 0] : Fin 3 → Nat) a + S1x256x256.size a ≤ S8x256x256.size a := by
  revert i; decide

/-- The whole of a class's mask, as a part of the masks' buffer. -/
def maskRect (i : Fin 8) : Rect S8x256x256 :=
  (Rect.unit (s := S8x256x256) ![i.val, 0, 0] S1x256x256.size (m_inb i)).within
    ((Rect.unit (s := S256x256) ![0, 0] S256x256.size (by decide)).consLift ![1, 256, 256] rfl (by decide)) (fun _ => rfl)

/-- The stores of the first `n` masks, last first. -/
def masks : Nat → List (View.Piece (Elt F) S8x256x256 .f32)
  | 0 => []
  | n + 1 => ⟨maskRect (Fin.ofNat 8 n), Rect.payAlong (Rect.numel_consLift (Rect.unit (s := S256x256) ![0, 0] S256x256.size (by decide))
      ![1, 256, 256] rfl (by decide)) (maskTile (Fin.ofNat 8 n))⟩ :: masks n

/-- What a class adds to the scores of its last chunk, as read back from the buffer. -/
def bias (i : Fin 8) : FVec F S256x256 .f32 :=
  LoadRect.valAlong (LoadRect.numel_consLift (Rect.unit (s := S256x256) ![0, 0] S256x256.size (by decide)).toLoadRect
      ![1, 256, 256] rfl (by decide))
    (arg6.view.readCov (masks (i.val + 1)) ((Rect.unit (s := S8x256x256) ![i.val, 0, 0] S1x256x256.size (m_inb i)).withinL
      ((Rect.unit (s := S256x256) ![0, 0] S256x256.size (by decide)).toLoadRect.consLift ![1, 256, 256] rfl (by decide)) (fun _ => rfl)))

/-- A chunk's unnormalised probabilities; the last chunk of a class is masked. -/
def probs (i h j : Fin 8) : FVec F S256x256 .f32 :=
  exp2 (if j.val = i.val then addf (scoreTile arg1 harg1 arg2 harg2 x0 x1 i h j) (bias arg6 i)
    else scoreTile arg1 harg1 arg2 harg2 x0 x1 i h j)

/-- How many chunks behind the scores the quotients run. -/
def depth (i : Nat) : Nat := max 1 (min 7 (8 / (i + 1)))

/-- The 256 rows of the buffer that hold a chunk's probabilities. -/
def slot (i h j : Nat) : Nat := (h % (depth i + 1)) * (i + 1) + j

theorem slot_inb (i h j : Fin 8) :
    ∀ a, (![i.val % 2, slot i h j * 256, 0] : Fin 3 → Nat) a + S1x256x256.size a ≤ S2x4096x256.size a := by
  revert i h j; decide +kernel

/-- One store of a chunk's probabilities. -/
def probPiece (i h j : Fin 8) : View.Piece (Elt F) S2x4096x256 .bf16 :=
  ⟨Rect.unit (s := S2x4096x256) ![i.val % 2, slot i h j * 256, 0] S1x256x256.size (slot_inb i h j),
    shapeCast S1x256x256 (shapeCast S256x256 (truncf .bf16 (probs arg1 harg1 arg2 harg2 arg6 x0 x1 i h j) bitsLt_bf16_f32)
      shapeCasts_S256x256_S256x256) shapeCasts_S256x256_S1x256x256⟩

/-- The class of the `n`-th store: the classes before class `i` make `4 i (i + 1)` stores. -/
def keyClass (n : Nat) : Nat :=
  if n < 8 then 0 else if n < 24 then 1 else if n < 48 then 2 else if n < 80 then 3
  else if n < 120 then 4 else if n < 168 then 5 else if n < 224 then 6 else 7
/-- Its head. -/
def keyHead (n : Nat) : Nat := (n - 4 * keyClass n * (keyClass n + 1)) / (keyClass n + 1)
/-- Its chunk. -/
def keyChunk (n : Nat) : Nat := (n - 4 * keyClass n * (keyClass n + 1)) % (keyClass n + 1)

/-- The first `n` stores, last first. -/
def stored : Nat → List (View.Piece (Elt F) S2x4096x256 .bf16)
  | 0 => []
  | n + 1 => probPiece arg1 harg1 arg2 harg2 arg6 x0 x1 (Fin.ofNat 8 (keyClass n)) (Fin.ofNat 8 (keyHead n))
      (Fin.ofNat 8 (keyChunk n)) :: stored n

/-- The partial sums of a chunk's probabilities, by key modulo eight. -/
def chunkSum (i h j : Fin 8) : FVec F S8x256 .f32 :=
  multiReduction .add [0] S8x256 (shapeCast S32x8x256 (probs arg1 harg1 arg2 harg2 arg6 x0 x1 i h j)
    shapeCasts_S256x256_S32x8x256) 0x00000000#32 reduces_S32x8x256_S8x256 (.inl rfl) rfl

/-- The partial sums over the chunks before chunk `n`. -/
def sumUpTo (i h : Fin 8) : Nat → FVec F S8x256 .f32
  | 0 => broadcast S8x256 (Scalar.ofBits .f32 0x00000000#32)
  | n + 1 => addf (sumUpTo i h n) (chunkSum arg1 harg1 arg2 harg2 arg6 x0 x1 i h (Fin.ofNat 8 n))

/-- The sums of a head's probabilities, a query each. -/
def rowSum (i h : Fin 8) : FVec F S1x256 .f32 :=
  shapeCast S1x256 (multiReduction .add [0] S256 (sumUpTo arg1 harg1 arg2 harg2 arg6 x0 x1 i h (i.val + 1))
    0x00000000#32 reduces_S8x256_S256 (.inl rfl) rfl) shapeCasts_S256_S1x256

theorem v_inb (i h : Fin 8) : ∀ a, (![h.val * 64, 0] : Fin 2 → Nat) a
    + (⟨2, ![64, (i.val + 1) * 256]⟩ : Shape).size a ≤ S512x2048.size a := by
  revert i h; decide
theorem p_inb (i h : Fin 8) : ∀ a, (![slot i h 0 * 256, 0] : Fin 2 → Nat) a
    + (⟨2, ![(i.val + 1) * 256, 256]⟩ : Shape).size a ≤ (⟨2, ![4096, 256]⟩ : Shape).size a := by
  revert i h; decide
theorem p0_inb (i : Fin 8) : ∀ a, (![i.val % 2, 0, 0] : Fin 3 → Nat) a + S1x4096x256.size a ≤ S2x4096x256.size a := by
  revert i; decide

/-- The values of a head's keys up to a class's last chunk. -/
def vTile (i h : Fin 8) : FVec F ⟨2, ![64, (i.val + 1) * 256]⟩ .bf16 :=
  shapeCast ⟨2, ![64, (i.val + 1) * 256]⟩ (View.readAt (Elt F) arg3.view
    (Rect.unit (s := S512x2048) ![h.val * 64, 0] (⟨2, ![64, (i.val + 1) * 256]⟩ : Shape).size (v_inb i h)).toLoadRect
    (harg3.unread x2)) rfl

/-- How many stores come before a head's quotient is formed. -/
def storesBefore (i h : Nat) : Nat := 4 * i * (i + 1) + (i + 1) * min 8 (h + depth i + 1)

/-- The probabilities of a head read back from a list of stores. -/
def pRead (i h : Fin 8) (L : List (View.Piece (Elt F) S2x4096x256 .bf16)) : FVec F ⟨2, ![(i.val + 1) * 256, 256]⟩ .bf16 :=
  LoadRect.valAlong (LoadRect.numel_consLift (Rect.unit (s := ⟨2, ![4096, 256]⟩) ![slot i h 0 * 256, 0]
      (⟨2, ![(i.val + 1) * 256, 256]⟩ : Shape).size (p_inb i h)).toLoadRect ![1, 4096, 256] rfl
      (by decide))
    (arg8.view.readCov L ((Rect.unit (s := S2x4096x256) ![i.val % 2, 0, 0] S1x4096x256.size (p0_inb i)).withinL
      ((Rect.unit (s := ⟨2, ![4096, 256]⟩) ![slot i h 0 * 256, 0] (⟨2, ![(i.val + 1) * 256, 256]⟩ : Shape).size
        (p_inb i h)).toLoadRect.consLift ![1, 4096, 256] rfl (by decide)) (fun _ => rfl)))

/-- A head's quotient for a class's queries, feature by query. -/
def headTile (i h : Fin 8) : FVec F S64x256 .f32 :=
  divf (matmul (DotDims.plain 64 ((i.val + 1) * 256) 256) none (vTile arg3 harg3 x2 i h)
      (pRead arg8 i h (stored arg1 harg1 arg2 harg2 arg6 x0 x1 (storesBefore i h)))
      (constant S64x256 .f32 0x00000000#32))
    (broadcastTo S64x256 (rowSum arg1 harg1 arg2 harg2 arg6 x0 x1 i h) broadcasts_S1x256_S64x256)

theorem o_inb (h : Fin 8) : ∀ a, (![h.val * 64, 0] : Fin 2 → Nat) a + S64x256.size a ≤ S512x256.size a := by
  revert h; decide
theorem o0_inb (i : Fin 8) : ∀ a, (![i.val, 0, 0] : Fin 3 → Nat) a + S1x512x256.size a ≤ S8x512x256.size a := by
  revert i; decide

/-- The store of a head's quotient. -/
def headPiece (i h : Fin 8) : View.Piece (Elt F) S8x512x256 .f32 :=
  ⟨(Rect.unit (s := S8x512x256) ![i.val, 0, 0] S1x512x256.size (o0_inb i)).within
      ((Rect.unit (s := S512x256) ![h.val * 64, 0] S64x256.size (o_inb h)).consLift ![1, 512, 256] rfl (by decide)) (fun _ => rfl),
    Rect.payAlong (Rect.numel_consLift (Rect.unit (s := S512x256) ![h.val * 64, 0] S64x256.size (o_inb h)) ![1, 512, 256] rfl (by decide))
      (shapeCast S64x256 (headTile arg1 harg1 arg2 harg2 arg3 harg3 arg6 arg8 x0 x1 x2 i h) shapeCasts_S64x256_S64x256)⟩

/-- The stores of the first `n` quotients, last first. -/
def heads : Nat → List (View.Piece (Elt F) S8x512x256 .f32)
  | 0 => []
  | n + 1 => headPiece arg1 harg1 arg2 harg2 arg3 harg3 arg6 arg8 x0 x1 x2 (Fin.ofNat 8 (n / 8)) (Fin.ofNat 8 (n % 8)) :: heads n

end

section
variable (c : Dev nD) (i : grid0.Coords)
  (arg1 : Memref sig .tc .vmem S1024x2048 .bf16) (harg1 : arg1.IsWhole)
  (arg2 : Memref sig .tc .vmem S2048x1024 .bf16) (harg2 : arg2.IsWhole)
  (arg3 : Memref sig .tc .vmem S512x2048 .bf16) (harg3 : arg3.IsWhole)
  (arg5 : Memref sig .tc .vmem S2048x512 .f32) (harg5 : arg5.IsWhole)
  (arg6 : Memref sig .tc .vmem S8x256x256 .f32) (harg6 : arg6.IsWhole)
  (arg7 : Memref sig .tc .vmem S2048x256 .f32) (harg7 : arg7.IsWhole)
  (arg8 : Memref sig .tc .vmem S2x4096x256 .bf16) (harg8 : arg8.IsWhole)
  (arg9 : Memref sig .tc .vmem S8x512x256 .f32) (harg9 : arg9.IsWhole)
  (x0 : Vec F S1024x2048 .bf16) (x1 : Vec F S2048x1024 .bf16) (x2 : Vec F S512x2048 .bf16)

theorem r_inb (n : Fin 8) : ∀ a, (![n.val * 256, 0] : Fin 2 → Nat) a + S256x512.size a ≤ S2048x512.size a := by
  revert n; decide

/-- The store of a class's rows of the result: every head's quotient, turned. -/
def rowsPiece (n : Fin 8) : View.Piece (Elt F) S2048x512 .f32 :=
  ⟨Rect.unit (s := S2048x512) ![n.val * 256, 0] S256x512.size (r_inb n),
    transpose S256x512 [1, 0] (shapeCast S512x256 (arg9.view.readCov
      (heads arg1 harg1 arg2 harg2 arg3 harg3 arg6 arg8 x0 x1 x2 ((n.val + 1) * 8))
      (Rect.unit (s := S8x512x256) ![n.val, 0, 0] S1x512x256.size (o0_inb n)).toLoadRect)
      shapeCasts_S1x512x256_S512x256) transposes_S512x256_p1_0_S256x512⟩

/-- The stores of the first `n` classes' rows, last first. -/
def rowsStored : Nat → List (View.Piece (Elt F) S2048x512 .f32)
  | 0 => []
  | n + 1 => rowsPiece arg1 harg1 arg2 harg2 arg3 harg3 arg6 arg8 arg9 x0 x1 x2 (Fin.ofNat 8 n) :: rowsStored n

/-- The body's stores to the result are the eight classes' rows. -/
theorem run_pieces : (kernelRun0_A c i arg1 harg1 arg2 harg2 arg3 harg3 arg5 harg5 arg6 harg6 arg7 harg7 arg8 harg8 arg9 harg9
      x0 x1 x2).1 = rowsStored arg1 harg1 arg2 harg2 arg3 harg3 arg6 arg8 arg9 x0 x1 x2 8 := by
  sl_kernel_rfl
end

end Cert.Proof.Mla
-- ==== Proof.MlaRead.lean ====
/-
  Hand-written, untrusted. What the attention kernel reads back from its buffers: the masks, the probabilities and the quotients
  come back as they were stored, because no later store that matters lies over them.
-/
module

public import proofs.«01_k».proof.Proof.MlaTiles
public import Idealize.ShloMosaic.Lib.Pointwise
public import Idealize.ShloMosaic.Lib.Pointwise.IndexVar
public import Idealize.ShloMosaic.Lib.Pipeline.FrameBody

@[expose] public section

noncomputable section

namespace Cert.Proof.Mla

open Idealize.ShloMosaic Cert.KernelIdeal Cert.KernelIdeal.Gen Idealize.ShloMosaic.TcCoe

variable
  (arg1 : Memref sig .tc .vmem S1024x2048 .bf16) (harg1 : arg1.IsWhole)
  (arg2 : Memref sig .tc .vmem S2048x1024 .bf16) (harg2 : arg2.IsWhole)
  (arg3 : Memref sig .tc .vmem S512x2048 .bf16) (harg3 : arg3.IsWhole)
  (arg6 : Memref sig .tc .vmem S8x256x256 .f32)
  (arg8 : Memref sig .tc .vmem S2x4096x256 .bf16)
  (arg9 : Memref sig .tc .vmem S8x512x256 .f32)
  (x0 : Vec Ideal S1024x2048 .bf16) (x1 : Vec Ideal S2048x1024 .bf16) (x2 : Vec Ideal S512x2048 .bf16)

/-- A point off a rectangle on one axis is not in it. -/
theorem off_axis {s : Shape} (r : Rect s) (a : Fin s.rank) (hs : r.stride a = 1) {y : s.Idx}
    (h : (y a).val < r.off a ∨ r.off a + r.size a ≤ (y a).val) : y ∉ r.set := by
  intro hm
  obtain ⟨j, hj, he⟩ := r.mem_set.mp hm a
  rw [hs, Nat.one_mul] at he
  omega

/-- The mask comes back from the buffer as it was stored. -/
theorem bias_eq (i : Fin 8) : bias (F := Ideal) arg6 i = maskTile i := by
  funext x
  unfold bias
  rw [View.readCov_eq_canon']
  have hi : Fin.ofNat 8 i.val = i := Fin.ext (Nat.mod_eq_of_lt i.isLt)
  have hm : (masks (F := Ideal) (i.val + 1)) = ⟨maskRect i, Rect.payAlong (Rect.numel_consLift (Rect.unit (s := S256x256) ![0, 0] S256x256.size (by decide))
      ![1, 256, 256] rfl (by decide)) (maskTile i)⟩ :: masks i.val := by
    conv_lhs => unfold masks
    rw [hi]
  rw [hm]
  refine (View.canon_cons_emb (maskRect i) _ _ _).trans ?_
  show maskTile i (Shape.reshapeEquiv _ (Shape.reshapeEquiv _ x)) = _
  exact congrArg (maskTile i) ((Shape.reshapeEquiv_reshapeEquiv _ _ x).trans (Shape.reshapeEquiv_self _ x))

/-- The mask: zero where the key is at or before the query, minus infinity past it. -/
theorem maskTile_at (i : Fin 8) (k q : Fin 256) :
    maskTile (F := Ideal) i (ix2 k q) = if k.val ≤ q.val then (0 : EReal) else ⊥ := by
  unfold maskTile
  pointwise []
  have hn : (Named.named κ "mask" 0xF149F2CA#32 : Ideal .f32) = ⊥ := IdealRules.named_const.ideal_named_scalar _ _ _ _ rfl
  have hk := k.isLt
  have hq := q.isLt
  have hi := i.isLt
  have hs : (BitVec.ofNat 32 k.val + BitVec.ofNat 32 (i.val * 256)).sle (BitVec.ofNat 32 (i.val * 256) + BitVec.ofNat 32 q.val)
      = decide (k.val ≤ q.val) := by
    rw [BitVec.sle_eq_decide, decide_eq_decide, BitVec.toInt_eq_toNat_of_lt, BitVec.toInt_eq_toNat_of_lt]
    all_goals simp only [BitVec.toNat_add, BitVec.toNat_ofNat]
    all_goals omega
  show Scalar.select (BitVec.ofBool (BitVec.sle (BitVec.ofNat 32 k.val + BitVec.ofNat 32 (i.val * 256))
    (BitVec.ofNat 32 (i.val * 256) + BitVec.ofNat 32 q.val))) (0 : EReal) (Named.named κ "mask" 0xF149F2CA#32 : Ideal .f32) = _
  rw [hs, hn]
  by_cases h : k.val ≤ q.val
  · rw [if_pos h, decide_eq_true h]; rfl
  · rw [if_neg h, decide_eq_false h]; rfl

/-- The class, the head and the chunk of the `n`-th store. -/
def cls (n : Nat) : Fin 8 := Fin.ofNat 8 (keyClass n)
def hd (n : Nat) : Fin 8 := Fin.ofNat 8 (keyHead n)
def chk (n : Nat) : Fin 8 := Fin.ofNat 8 (keyChunk n)
/-- Where the `n`-th store lies. -/
def cell (n : Nat) : Nat × Nat := ((cls n).val % 2, slot (cls n) (hd n) (chk n))

/-- A stored probability comes back if no later store lies over it. -/
theorem canon_stored (k : Nat) (r q : Fin 256) (y : S2x4096x256.Idx) (hy0 : (y 0).val = (cell k).1)
    (hy1 : (y 1).val = (cell k).2 * 256 + r.val) (hy2 : (y 2).val = q.val) (n : Nat) (hk : k < n)
    (hn : ∀ k', k < k' → k' < n → cell k' ≠ cell k) :
    View.canon (stored arg1 harg1 arg2 harg2 arg6 x0 x1 n) y
      = probs arg1 harg1 arg2 harg2 arg6 x0 x1 (cls k) (hd k) (chk k) (ix2 r q) := by
  induction n with
  | zero => omega
  | succ n ih =>
    by_cases hkn : k = n
    · subst hkn
      have hy : y = (probPiece arg1 harg1 arg2 harg2 arg6 x0 x1 (cls k) (hd k) (chk k)).1.emb (ix3 (0 : Fin 1) r q) := by
        funext a; apply Fin.ext
        match a with
        | ⟨0, _⟩ => show (y 0).val = (cls k).val % 2 + 1 * 0; rw [hy0]; rfl
        | ⟨1, _⟩ => show (y 1).val = slot (cls k) (hd k) (chk k) * 256 + 1 * r.val; rw [hy1, Nat.one_mul]; rfl
        | ⟨2, _⟩ => show (y 2).val = 0 + 1 * q.val; omega
      rw [hy]
      refine (View.canon_cons_emb _ _ _ _).trans ?_
      pointwise []
      rfl
    · have hmiss : y ∉ (probPiece arg1 harg1 arg2 harg2 arg6 x0 x1 (cls n) (hd n) (chk n)).1.set := by
        by_cases h0 : (cell n).1 = (cell k).1
        · have h1 : (cell n).2 ≠ (cell k).2 := fun h1 => hn n (by omega) (by omega) (Prod.ext h0 h1)
          refine off_axis _ (1 : Fin 3) rfl ?_
          show (y 1).val < (cell n).2 * 256 ∨ (cell n).2 * 256 + 256 ≤ (y 1).val
          have := r.isLt
          omega
        · refine off_axis _ (0 : Fin 3) rfl ?_
          show (y 0).val < (cell n).1 ∨ (cell n).1 + 1 ≤ (y 0).val
          omega
      refine (View.canon_cons_of_not_mem _ _ hmiss).trans ?_
      exact ih (by omega) fun k' h1 h2 => hn k' h1 (by omega)

/-- The list a head reads holds its own probabilities: each chunk was stored, and no later store of the list lies over it. -/
theorem kept : ∀ (i h : Fin 8) (j : Fin 8), j.val ≤ i.val →
    let k := 4 * i.val * (i.val + 1) + h.val * (i.val + 1) + j.val
    cls k = i ∧ hd k = h ∧ chk k = j ∧ k < storesBefore i h
      ∧ ∀ k' < storesBefore i h, k < k' → cell k' ≠ cell k := by
  decide +kernel

/-- A head's probabilities come back as they were stored. -/
theorem pRead_at (i h : Fin 8) (r : Fin ((i.val + 1) * 256)) (q : Fin 256) :
    pRead arg8 i h (stored arg1 harg1 arg2 harg2 arg6 x0 x1 (storesBefore i h)) (ix2 r q)
      = probs arg1 harg1 arg2 harg2 arg6 x0 x1 i h ⟨r.val / 256, by have := r.isLt; have := i.isLt; omega⟩
          (ix2 ⟨r.val % 256, Nat.mod_lt _ (by omega)⟩ q) := by
  have hr := r.isLt
  have hi := i.isLt
  obtain ⟨h1, h2, h3, h4, h5⟩ := kept i h ⟨r.val / 256, by omega⟩ (by show r.val / 256 ≤ i.val; omega)
  unfold pRead
  rw [View.readCov_eq_canon']
  have hx : Shape.reshapeEquiv (LoadRect.numel_consLift (Rect.unit (s := ⟨2, ![4096, 256]⟩) ![slot i h 0 * 256, 0]
      (⟨2, ![(i.val + 1) * 256, 256]⟩ : Shape).size (p_inb i h)).toLoadRect ![1, 4096, 256] rfl
      (by decide)) (ix2 r q) = Fin.cons ⟨0, Nat.one_pos⟩ (ix2 r q) := Shape.reshapeEquiv_cons_one _ _
  refine (congrArg (fun z : ((Rect.unit (s := S2x4096x256) ![i.val % 2, 0, 0] S1x4096x256.size (p0_inb i)).withinL
      ((Rect.unit (s := ⟨2, ![4096, 256]⟩) ![slot i h 0 * 256, 0] (⟨2, ![(i.val + 1) * 256, 256]⟩ : Shape).size
        (p_inb i h)).toLoadRect.consLift ![1, 4096, 256] rfl (by decide)) (fun _ => rfl)).shape.Idx =>
    View.canon (stored arg1 harg1 arg2 harg2 arg6 x0 x1 (storesBefore i h))
      (((Rect.unit (s := S2x4096x256) ![i.val % 2, 0, 0] S1x4096x256.size (p0_inb i)).withinL
      ((Rect.unit (s := ⟨2, ![4096, 256]⟩) ![slot i h 0 * 256, 0] (⟨2, ![(i.val + 1) * 256, 256]⟩ : Shape).size
        (p_inb i h)).toLoadRect.consLift ![1, 4096, 256] rfl (by decide)) (fun _ => rfl)).idx z)) hx).trans ?_
  refine (canon_stored arg1 harg1 arg2 harg2 arg6 x0 x1 _ ⟨r.val % 256, Nat.mod_lt _ (by omega)⟩ q _ ?_ ?_ ?_ _ h4
    fun k' a b => h5 k' b a).trans ?_
  · unfold cell; rw [h1]; rfl
  · unfold cell; rw [h1, h2, h3]
    show 0 + (slot i h 0 * 256) + 1 * r.val = slot i h (r.val / 256) * 256 + r.val % 256
    unfold slot
    omega
  · show 0 + 0 + 1 * q.val = q.val
    omega
  · rw [h1, h2, h3]

/-- The store of a given tile as a head's quotient. -/
def pieceOf (i h : Fin 8) (T : FVec Ideal S64x256 .f32) : View.Piece (Elt Ideal) S8x512x256 .f32 :=
  ⟨(Rect.unit (s := S8x512x256) ![i.val, 0, 0] S1x512x256.size (o0_inb i)).within
      ((Rect.unit (s := S512x256) ![h.val * 64, 0] S64x256.size (o_inb h)).consLift ![1, 512, 256] rfl (by decide)) (fun _ => rfl),
    Rect.payAlong (Rect.numel_consLift (Rect.unit (s := S512x256) ![h.val * 64, 0] S64x256.size (o_inb h)) ![1, 512, 256] rfl (by decide))
      (shapeCast S64x256 T shapeCasts_S64x256_S64x256)⟩

theorem pieceOf_hit (i h : Fin 8) (T : FVec Ideal S64x256 .f32) (L : List (View.Piece (Elt Ideal) S8x512x256 .f32))
    (a : Fin 64) (q : Fin 256) (y : S8x512x256.Idx) (hy0 : (y 0).val = i.val) (hy1 : (y 1).val = h.val * 64 + a.val)
    (hy2 : (y 2).val = q.val) : View.canon (pieceOf i h T :: L) y = T (ix2 a q) := by
  have hy : y = (pieceOf i h T).1.emb (ix3 (0 : Fin 1) a q) := by
    funext b; apply Fin.ext
    match b with
    | ⟨0, _⟩ => show (y 0).val = i.val + 0 + 1 * 0; omega
    | ⟨1, _⟩ => show (y 1).val = 0 + h.val * 64 + 1 * a.val; omega
    | ⟨2, _⟩ => show (y 2).val = 0 + 0 + 1 * q.val; omega
  rw [hy]
  refine (View.canon_cons_emb _ _ _ _).trans ?_
  have hx : Shape.reshapeEquiv (Rect.numel_consLift (Rect.unit (s := S512x256) ![h.val * 64, 0] S64x256.size (o_inb h)) ![1, 512, 256]
      rfl (by decide)) (ix3 (0 : Fin 1) a q) = ix2 a q := by
    funext b; apply Fin.ext
    have e := (Rect.unit (s := S512x256) ![h.val * 64, 0] S64x256.size (o_inb h)).reshapeEquiv_consLift_succ ![1, 512, 256]
      rfl (by decide) (ix3 (0 : Fin 1) a q) b
    refine e.symm.trans ?_
    match b with
    | ⟨0, _⟩ => rfl
    | ⟨1, _⟩ => rfl
  refine (congrArg (shapeCast S64x256 T shapeCasts_S64x256_S64x256) hx).trans ?_
  exact congrArg T (Shape.reshapeEquiv_self _ _)

theorem pieceOf_miss (i h : Fin 8) (T : FVec Ideal S64x256 .f32) (L : List (View.Piece (Elt Ideal) S8x512x256 .f32))
    (y : S8x512x256.Idx) (hy : (y 0).val ≠ i.val ∨ (y 1).val < h.val * 64 ∨ h.val * 64 + 64 ≤ (y 1).val) :
    View.canon (pieceOf i h T :: L) y = View.canon L y := by
  refine View.canon_cons_of_not_mem _ _ ?_
  by_cases h0 : (y 0).val = i.val
  · refine off_axis _ (1 : Fin 3) rfl ?_
    show (y 1).val < 0 + h.val * 64 ∨ 0 + h.val * 64 + 64 ≤ (y 1).val
    omega
  · refine off_axis _ (0 : Fin 3) rfl ?_
    show (y 0).val < i.val + 0 ∨ i.val + 0 + 1 ≤ (y 0).val
    omega

/-- A stored quotient comes back: no two of the 64 quotients lie over each other. -/
theorem canon_heads (k : Nat) (hk8 : k < 64) (a : Fin 64) (q : Fin 256) (y : S8x512x256.Idx) (hy0 : (y 0).val = k / 8)
    (hy1 : (y 1).val = k % 8 * 64 + a.val) (hy2 : (y 2).val = q.val) (n : Nat) (hk : k < n) (hn : n ≤ 64) :
    View.canon (heads arg1 harg1 arg2 harg2 arg3 harg3 arg6 arg8 x0 x1 x2 n) y
      = headTile arg1 harg1 arg2 harg2 arg3 harg3 arg6 arg8 x0 x1 x2 (Fin.ofNat 8 (k / 8)) (Fin.ofNat 8 (k % 8)) (ix2 a q) := by
  induction n with
  | zero => omega
  | succ n ih =>
    have e0 : (Fin.ofNat 8 (n / 8)).val = n / 8 := by show n / 8 % 8 = n / 8; omega
    have e1 : (Fin.ofNat 8 (n % 8)).val = n % 8 := by show n % 8 % 8 = n % 8; omega
    have ha := a.isLt
    by_cases hkn : k = n
    · rw [hkn]
      exact pieceOf_hit _ _ _ (heads arg1 harg1 arg2 harg2 arg3 harg3 arg6 arg8 x0 x1 x2 n) a q y (by omega) (by omega) hy2
    · refine (pieceOf_miss _ _ _ (heads arg1 harg1 arg2 harg2 arg3 harg3 arg6 arg8 x0 x1 x2 n) y (by omega)).trans ?_
      exact ih (by omega) (by omega)

/-- The store of a given buffer's part, turned, as a class's rows. -/
def rowsOf (n : Fin 8) (R : FVec Ideal S1x512x256 .f32) : View.Piece (Elt Ideal) S2048x512 .f32 :=
  ⟨Rect.unit (s := S2048x512) ![n.val * 256, 0] S256x512.size (r_inb n),
    transpose S256x512 [1, 0] (shapeCast S512x256 R shapeCasts_S1x512x256_S512x256) transposes_S512x256_p1_0_S256x512⟩

theorem rowsOf_hit (n : Fin 8) (R : FVec Ideal S1x512x256 .f32) (L : List (View.Piece (Elt Ideal) S2048x512 .f32))
    (d : Fin 512) (q : Fin 256) (y : S2048x512.Idx) (hy0 : (y 0).val = n.val * 256 + q.val) (hy1 : (y 1).val = d.val) :
    View.canon (rowsOf n R :: L) y = R (ix3 (0 : Fin 1) d q) := by
  have hy : y = (rowsOf n R).1.emb (ix2 q d) := by
    funext b; apply Fin.ext
    match b with
    | ⟨0, _⟩ => show (y 0).val = n.val * 256 + 1 * q.val; omega
    | ⟨1, _⟩ => show (y 1).val = 0 + 1 * d.val; omega
  rw [hy]
  refine (View.canon_cons_emb _ _ _ _).trans ?_
  pointwise []

theorem rowsOf_miss (n : Fin 8) (R : FVec Ideal S1x512x256 .f32) (L : List (View.Piece (Elt Ideal) S2048x512 .f32))
    (y : S2048x512.Idx) (hy : (y 0).val < n.val * 256 ∨ n.val * 256 + 256 ≤ (y 0).val) :
    View.canon (rowsOf n R :: L) y = View.canon L y :=
  View.canon_cons_of_not_mem _ _ (off_axis _ (0 : Fin 2) rfl hy)

/-- What a class reads back before it turns its rows. -/
theorem read_heads (k h : Fin 8) (a : Fin 64) (q : Fin 256) (d : Fin 512) (hd : d.val = h.val * 64 + a.val) :
    arg9.view.readCov (heads arg1 harg1 arg2 harg2 arg3 harg3 arg6 arg8 x0 x1 x2 ((k.val + 1) * 8))
          (Rect.unit (s := S8x512x256) ![k.val, 0, 0] S1x512x256.size (o0_inb k)).toLoadRect (ix3 (0 : Fin 1) d q)
      = headTile arg1 harg1 arg2 harg2 arg3 harg3 arg6 arg8 x0 x1 x2 k h (ix2 a q) := by
  have hh := h.isLt
  have hkl := k.isLt
  have ha := a.isLt
  have f0 : Fin.ofNat 8 ((k.val * 8 + h.val) / 8) = k := Fin.ext (by show (k.val * 8 + h.val) / 8 % 8 = k.val; omega)
  have f1 : Fin.ofNat 8 ((k.val * 8 + h.val) % 8) = h := Fin.ext (by show (k.val * 8 + h.val) % 8 % 8 = h.val; omega)
  rw [View.readCov_eq_canon']
  refine (canon_heads arg1 harg1 arg2 harg2 arg3 harg3 arg6 arg8 x0 x1 x2 (k.val * 8 + h.val) (by omega) a q _ ?_ ?_ ?_ _
    (by omega) (by omega)).trans ?_
  · show k.val + 1 * 0 = _; omega
  · show 0 + 1 * d.val = _; omega
  · show 0 + 1 * q.val = _; omega
  · rw [f0, f1]

/-- A class's rows come back: every head's quotient, turned. -/
theorem canon_rows (k : Fin 8) (h : Fin 8) (a : Fin 64) (q : Fin 256) (y : S2048x512.Idx) (hy0 : (y 0).val = k.val * 256 + q.val)
    (hy1 : (y 1).val = h.val * 64 + a.val) (n : Nat) (hk : k.val < n) (hn : n ≤ 8) :
    View.canon (rowsStored arg1 harg1 arg2 harg2 arg3 harg3 arg6 arg8 arg9 x0 x1 x2 n) y
      = headTile arg1 harg1 arg2 harg2 arg3 harg3 arg6 arg8 x0 x1 x2 k h (ix2 a q) := by
  have hh := h.isLt
  have ha := a.isLt
  have hq := q.isLt
  induction n with
  | zero => omega
  | succ n ih =>
    have e0 : (Fin.ofNat 8 n).val = n := by show n % 8 = n; omega
    by_cases hkn : k.val = n
    · have e1 : Fin.ofNat 8 n = k := Fin.ext (e0.trans hkn.symm)
      unfold rowsStored
      rw [e1]
      refine (rowsOf_hit k _ _ ⟨h.val * 64 + a.val, by omega⟩ q y hy0 hy1).trans ?_
      exact read_heads arg1 harg1 arg2 harg2 arg3 harg3 arg6 arg8 arg9 x0 x1 x2 k h a q _ rfl
    · refine (rowsOf_miss (Fin.ofNat 8 n) _ (rowsStored arg1 harg1 arg2 harg2 arg3 harg3 arg6 arg8 arg9 x0 x1 x2 n) y (by omega)).trans ?_
      exact ih (by omega) (by omega)

end Cert.Proof.Mla
-- ==== Proof.MlaValue.lean ====
/-
  Hand-written, untrusted. The attention kernel's result for one batch entry, read at a query and a feature: the values' sum
  weighted by two to the scores of the keys up to the query, over the sum of those weights.
-/
module

public import proofs.«01_k».proof.Proof.MlaRead

@[expose] public section

noncomputable section

namespace Cert.Proof.Mla

open Idealize.ShloMosaic Cert.KernelIdeal Cert.KernelIdeal.Gen Idealize.ShloMosaic.TcCoe

variable
  (arg1 : Memref sig .tc .vmem S1024x2048 .bf16) (harg1 : arg1.IsWhole)
  (arg2 : Memref sig .tc .vmem S2048x1024 .bf16) (harg2 : arg2.IsWhole)
  (arg3 : Memref sig .tc .vmem S512x2048 .bf16) (harg3 : arg3.IsWhole)
  (arg6 : Memref sig .tc .vmem S8x256x256 .f32)
  (arg8 : Memref sig .tc .vmem S2x4096x256 .bf16)
  (arg9 : Memref sig .tc .vmem S8x512x256 .f32)
  (x0 : Vec Ideal S1024x2048 .bf16) (x1 : Vec Ideal S2048x1024 .bf16) (x2 : Vec Ideal S512x2048 .bf16)

/-- A class's query tile is a part of the queries' block. -/
theorem qTile_at (i h : Fin 8) (d : Fin 128) (q : Fin 256) :
    qTile (F := Ideal) arg1 harg1 x0 i h (ix2 d q)
      = x0 (ix2 ⟨h.val * 128 + d.val, by omega⟩ ⟨i.val * 256 + q.val, by omega⟩) := by
  unfold qTile
  refine (congrArg _ (Shape.reshapeEquiv_self _ _)).trans ?_
  refine (congrFun (harg1.read_unread x0) _).trans ?_
  refine congrArg x0 (funext fun b => Fin.ext ?_)
  match b with
  | ⟨0, _⟩ => show 0 + h.val * 128 + 1 * d.val = _; show _ = h.val * 128 + d.val; omega
  | ⟨1, _⟩ => show i.val * 256 + 0 + 1 * q.val = i.val * 256 + q.val; omega

/-- A chunk's key tile is a part of the keys' block. -/
theorem kTile_at (h j : Fin 8) (k : Fin 256) (d : Fin 128) :
    kTile (F := Ideal) arg2 harg2 x1 h j (ix2 k d)
      = x1 (ix2 ⟨j.val * 256 + k.val, by omega⟩ ⟨h.val * 128 + d.val, by omega⟩) := by
  unfold kTile
  refine (congrArg _ (Shape.reshapeEquiv_self _ _)).trans ?_
  refine (congrFun (harg2.read_unread x1) _).trans ?_
  refine congrArg x1 (funext fun b => Fin.ext ?_)
  match b with
  | ⟨0, _⟩ => show j.val * 256 + 1 * k.val = j.val * 256 + k.val; omega
  | ⟨1, _⟩ => show h.val * 128 + 1 * d.val = h.val * 128 + d.val; omega

/-- A head's value tile is a part of the values' block. -/
theorem vTile_at (i h : Fin 8) (a : Fin 64) (r : Fin ((i.val + 1) * 256)) :
    vTile (F := Ideal) arg3 harg3 x2 i h (ix2 a r)
      = x2 (ix2 ⟨h.val * 64 + a.val, by omega⟩ ⟨r.val, by have := r.isLt; have := i.isLt; omega⟩) := by
  unfold vTile
  refine (congrArg _ (Shape.reshapeEquiv_self _ _)).trans ?_
  refine (congrFun (harg3.read_unread x2) _).trans ?_
  refine congrArg x2 (funext fun b => Fin.ext ?_)
  match b with
  | ⟨0, _⟩ => show h.val * 64 + 1 * a.val = h.val * 64 + a.val; omega
  | ⟨1, _⟩ => show 0 + 1 * r.val = r.val; omega

/-- A key's score against a query, for a head. -/
def score (h : Fin 8) (k q : Fin 2048) : EReal :=
  ∑ d : Fin 128, x1 (ix2 k ⟨h.val * 128 + d.val, by omega⟩) * x0 (ix2 ⟨h.val * 128 + d.val, by omega⟩ q)

/-- A key's weight for a query: two to its score, and zero past the query. -/
def weight (h : Fin 8) (q : Fin 2048) (k : Nat) : EReal :=
  if hk : k < 2048 then (if k ≤ q.val then Ideal.exp2 (score x0 x1 h ⟨k, hk⟩ q) else 0) else 0

/-- A class's query among the 2048. -/
def query (i : Fin 8) (q : Fin 256) : Fin 2048 := ⟨i.val * 256 + q.val, by omega⟩

set_option maxRecDepth 16384 in
/-- A chunk's scores. -/
theorem scoreTile_at (i h j : Fin 8) (k q : Fin 256) :
    scoreTile (F := Ideal) arg1 harg1 arg2 harg2 x0 x1 i h j (ix2 k q)
      = score x0 x1 h ⟨j.val * 256 + k.val, by omega⟩ (query i q) := by
  unfold scoreTile
  pointwise []
  unfold score
  refine Finset.sum_congr rfl fun d _ => ?_
  rw [kTile_at, qTile_at]
  rfl

/-- A chunk's probabilities are the weights. -/
theorem probs_at (i h j : Fin 8) (hj : j.val ≤ i.val) (k q : Fin 256) :
    probs (F := Ideal) arg1 harg1 arg2 harg2 arg6 x0 x1 i h j (ix2 k q)
      = weight x0 x1 h (query i q) (j.val * 256 + k.val) := by
  unfold probs
  rw [bias_eq]
  have hs := scoreTile_at arg1 harg1 arg2 harg2 x0 x1 i h j k q
  have hm := maskTile_at i k q
  generalize scoreTile (F := Ideal) arg1 harg1 arg2 harg2 x0 x1 i h j = S at *
  generalize maskTile (F := Ideal) i = M at *
  unfold weight
  rw [dif_pos (show j.val * 256 + k.val < 2048 by omega)]
  have hq : (query i q).val = i.val * 256 + q.val := rfl
  by_cases hji : j.val = i.val
  · rw [if_pos hji]
    pointwise []
    rw [hs, hm]
    show Ideal.exp2 _ = _
    by_cases hkq : k.val ≤ q.val
    · rw [if_pos hkq, if_pos (by omega), add_zero]
    · rw [if_neg hkq, if_neg (by omega), EReal.add_bot, Ideal.exp2_bot]
  · rw [if_neg hji, if_pos (by omega)]
    pointwise []
    rw [hs]
    rfl

/-- A sum in runs of equal length is the whole sum. -/
theorem sum_runs (m : Nat) (f : Nat → EReal) : ∀ n : Nat,
    ∑ j ∈ Finset.range n, ∑ k ∈ Finset.range m, f (j * m + k) = ∑ k ∈ Finset.range (n * m), f k
  | 0 => by simp
  | n + 1 => by
    rw [Finset.sum_range_succ, sum_runs m f n, Nat.succ_mul, Finset.sum_range_add]

set_option maxRecDepth 16384 in
/-- The partial sums of one chunk, by key modulo eight. -/
theorem chunkSum_at (i h j : Fin 8) (hj : j.val ≤ i.val) (s : Fin 8) (q : Fin 256) :
    chunkSum (F := Ideal) arg1 harg1 arg2 harg2 arg6 x0 x1 i h j (ix2 s q)
      = ∑ b ∈ Finset.range 32, weight x0 x1 h (query i q) (j.val * 256 + (b * 8 + s.val)) := by
  have hp := fun k => probs_at arg1 harg1 arg2 harg2 arg6 x0 x1 i h j hj k q
  unfold chunkSum
  generalize probs (F := Ideal) arg1 harg1 arg2 harg2 arg6 x0 x1 i h j = P at *
  pointwise []
  rw [Finset.sum_range]
  refine Finset.sum_congr rfl fun b _ => ?_
  rw [hp]

/-- The partial sums over the chunks before chunk `n`. -/
theorem sumUpTo_at (i h : Fin 8) (s : Fin 8) (q : Fin 256) (n : Nat) (hn : n ≤ i.val + 1) :
    sumUpTo (F := Ideal) arg1 harg1 arg2 harg2 arg6 x0 x1 i h n (ix2 s q)
      = ∑ j ∈ Finset.range n, ∑ b ∈ Finset.range 32, weight x0 x1 h (query i q) (j * 256 + (b * 8 + s.val)) := by
  induction n with
  | zero =>
    unfold sumUpTo
    pointwise []
    rw [Finset.sum_range_zero]
  | succ n ih =>
    have hi := i.isLt
    have e : (Fin.ofNat 8 n).val = n := by show n % 8 = n; omega
    unfold sumUpTo
    refine (congrArg₂ (· + ·) (ih (by omega)) (chunkSum_at arg1 harg1 arg2 harg2 arg6 x0 x1 i h (Fin.ofNat 8 n) (by omega) s q)).trans ?_
    rw [e]
    exact (Finset.sum_range_succ (fun j => ∑ b ∈ Finset.range 32, weight x0 x1 h (query i q) (j * 256 + (b * 8 + s.val))) n).symm

set_option maxRecDepth 16384 in
/-- A query's sum of weights. -/
theorem rowSum_at (i h : Fin 8) (q : Fin 256) :
    rowSum (F := Ideal) arg1 harg1 arg2 harg2 arg6 x0 x1 i h (ix2 (0 : Fin 1) q)
      = ∑ k ∈ Finset.range ((i.val + 1) * 256), weight x0 x1 h (query i q) k := by
  have hp := fun s => sumUpTo_at arg1 harg1 arg2 harg2 arg6 x0 x1 i h s q (i.val + 1) le_rfl
  unfold rowSum
  generalize sumUpTo (F := Ideal) arg1 harg1 arg2 harg2 arg6 x0 x1 i h (i.val + 1) = P at *
  pointwise []
  simp only [hp]
  rw [Finset.sum_comm, ← sum_runs 256]
  refine Finset.sum_congr rfl fun j _ => ?_
  rw [← sum_runs 8 (fun k => weight x0 x1 h (query i q) (j * 256 + k)) 32, Finset.sum_comm]
  refine Finset.sum_congr rfl fun b _ => ?_
  rw [Finset.sum_range]

/-- A sum of weights, or of weighted values, may go on past the query: the weights there are zero. -/
theorem sum_past (h : Fin 8) (i : Fin 8) (q : Fin 256) (f : Nat → EReal) :
    ∑ k ∈ Finset.range ((i.val + 1) * 256), f k * weight x0 x1 h (query i q) k
      = ∑ k ∈ Finset.range 2048, f k * weight x0 x1 h (query i q) k := by
  have hi := i.isLt
  refine Finset.sum_subset (fun k hk => ?_) fun k hk hn => ?_
  · rw [Finset.mem_range] at hk ⊢; omega
  · rw [Finset.mem_range] at hk hn
    unfold weight
    rw [dif_pos hk, if_neg (by show ¬ k ≤ i.val * 256 + q.val; omega), mul_zero]

/-- A plain product at a row and a column. -/
theorem plain_at {K : Nat} (a : FVec Ideal ⟨2, ![64, K]⟩ .bf16) (b : FVec Ideal ⟨2, ![K, 256]⟩ .bf16)
    (acc : FVec Ideal S64x256 .f32) (r : Fin 64) (c : Fin 256) :
    Ideal.matmul (DotDims.plain 64 K 256) a b acc (ix2 r c) = acc (ix2 r c) + ∑ k : Fin K, a (ix2 r k) * b (ix2 k c) :=
  Ideal.matmul_apply₁_of (DotDims.plain 64 K 256) rfl rfl a b acc (ix2 r c) (fun k => ix2 r k) (fun k => ix2 k c)
    (fun k => funext fun x => Fin.ext (match x with | ⟨0, _⟩ => rfl | ⟨1, _⟩ => rfl))
    (fun k => funext fun x => Fin.ext (match x with | ⟨0, _⟩ => rfl | ⟨1, _⟩ => rfl))

set_option maxRecDepth 16384 in
/-- A head's quotient at a feature and a query. -/
theorem headTile_at (i h : Fin 8) (a : Fin 64) (q : Fin 256) :
    headTile (F := Ideal) arg1 harg1 arg2 harg2 arg3 harg3 arg6 arg8 x0 x1 x2 i h (ix2 a q)
      = Ideal.div (∑ k : Fin 2048, x2 (ix2 ⟨h.val * 64 + a.val, by omega⟩ k) * weight x0 x1 h (query i q) k.val)
          (∑ k : Fin 2048, weight x0 x1 h (query i q) k.val) := by
  have hi := i.isLt
  have hr := rowSum_at arg1 harg1 arg2 harg2 arg6 x0 x1 i h q
  have hv := vTile_at arg3 harg3 x2 i h a
  have hp := fun r => pRead_at arg1 harg1 arg2 harg2 arg6 arg8 x0 x1 i h r q
  have h1 := sum_past x0 x1 h i q fun _ => 1
  have h2 := sum_past x0 x1 h i q fun k => if hk : k < 2048 then x2 (ix2 ⟨h.val * 64 + a.val, by omega⟩ ⟨k, hk⟩) else 0
  simp only [one_mul] at h1
  rw [h1, Finset.sum_range] at hr
  rw [Finset.sum_range, Finset.sum_range] at h2
  unfold headTile
  generalize rowSum (F := Ideal) arg1 harg1 arg2 harg2 arg6 x0 x1 i h = R at *
  have hm : matmul (DotDims.plain 64 ((i.val + 1) * 256) 256) none (vTile arg3 harg3 x2 i h)
      (pRead arg8 i h (stored arg1 harg1 arg2 harg2 arg6 x0 x1 (storesBefore i h)))
      (constant (F := Ideal) S64x256 .f32 0x00000000#32) (ix2 a q)
      = ∑ k : Fin 2048, x2 (ix2 ⟨h.val * 64 + a.val, by omega⟩ k) * weight x0 x1 h (query i q) k.val := by
    generalize pRead arg8 i h (stored arg1 harg1 arg2 harg2 arg6 x0 x1 (storesBefore i h)) = P at *
    generalize vTile arg3 harg3 x2 i h = W at *
    refine (plain_at W P _ a q).trans ?_
    have hz : constant (F := Ideal) S64x256 .f32 0x00000000#32 (ix2 a q) = 0 := by pointwise []
    rw [hz]
    refine (zero_add _).trans ((Finset.sum_congr rfl fun r _ => ?_).trans (h2.trans (Finset.sum_congr rfl fun k _ => by rw [dif_pos k.isLt])))
    have hr := r.isLt
    rw [hv, hp, dif_pos (show r.val < 2048 by omega),
      probs_at arg1 harg1 arg2 harg2 arg6 x0 x1 i h _ (by show r.val / 256 ≤ i.val; omega)]
    refine congrArg _ (congrArg _ ?_)
    show r.val / 256 * 256 + r.val % 256 = r.val
    omega
  generalize matmul (DotDims.plain 64 ((i.val + 1) * 256) 256) none (vTile arg3 harg3 x2 i h)
      (pRead arg8 i h (stored arg1 harg1 arg2 harg2 arg6 x0 x1 (storesBefore i h)))
      (constant (F := Ideal) S64x256 .f32 0x00000000#32) = N at *
  pointwise []
  rw [hm, hr]

end Cert.Proof.Mla
-- ==== Proof.MlaMath.lean ====
/-
  Hand-written, untrusted. Facts about numbers for the attention: powers of two of a scaled score are exponentials, taking the
  largest score off changes no quotient of a softmax, and a positive number's reciprocal moves into a sum.
-/
module

public import proofs.«01_k».proof.Proof.FinalSpec
public import Idealize.ShloMosaic.Lib.Pointwise

@[expose] public section

noncomputable section

namespace Cert.Proof.Mla

open Idealize.ShloMosaic

/-- A sum of real numbers, as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A real factor that is not negative moves into a sum of extended reals. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A sum over 128 places of which all past the 96th hold zero. -/
theorem sum_padded (f : Fin 96 → ℝ) : ∑ d : Fin 128, (if h : d.val < 96 then f ⟨d.val, h⟩ else 0) = ∑ d : Fin 96, f d := by
  have e := Finset.sum_range (n := 128) fun d => if h : d < 96 then f ⟨d, h⟩ else 0
  have e' := Finset.sum_range (n := 96) fun d => if h : d < 96 then f ⟨d, h⟩ else 0
  rw [← e, ← Finset.sum_subset (s₁ := Finset.range 96)
    (fun x hx => by rw [Finset.mem_range] at hx ⊢; omega)
    (fun x _ hn => by rw [Finset.mem_range] at hn; rw [dif_neg hn]), e']
  exact Finset.sum_congr rfl fun d _ => by rw [dif_pos d.isLt]

/-- The scale of a query before the kernel: the root of 96 times the logarithm of two. -/
theorem scale_eq : Ideal.sqrt ((96 : ℝ) : EReal) * Ideal.log ((2 : ℝ) : EReal) = ((Real.sqrt 96 * Real.log 2 : ℝ) : EReal) := by
  rw [Ideal.sqrt_coe, Ideal.log_coe, if_neg (by norm_num), if_neg (by norm_num), EReal.coe_mul]

theorem root_pos : 0 < Real.sqrt 96 := Real.sqrt_pos.2 (by norm_num)

/-- Two to the padded product of a key and a scaled query is the exponential of their product over the root of 96. -/
theorem exp2_score (q k : Fin 96 → ℝ) :
    Ideal.exp2 (∑ d : Fin 128, (if h : d.val < 96 then ((k ⟨d.val, h⟩ : ℝ) : EReal) else 0)
      * (if h : d.val < 96 then Ideal.div ((q ⟨d.val, h⟩ : ℝ) : EReal) (Ideal.sqrt ((96 : ℝ) : EReal) * Ideal.log ((2 : ℝ) : EReal)) else 0))
      = ((Real.exp ((∑ d, q d * k d) / Real.sqrt 96) : ℝ) : EReal) := by
  have hl : 0 < Real.log 2 := Real.log_pos (by norm_num)
  have hs := root_pos
  have hc : Real.sqrt 96 * Real.log 2 ≠ 0 := (mul_pos hs hl).ne'
  rw [scale_eq]
  have e : ∀ d : Fin 128, (if h : d.val < 96 then ((k ⟨d.val, h⟩ : ℝ) : EReal) else 0)
      * (if h : d.val < 96 then Ideal.div ((q ⟨d.val, h⟩ : ℝ) : EReal) ((Real.sqrt 96 * Real.log 2 : ℝ) : EReal) else 0)
      = ((if h : d.val < 96 then k ⟨d.val, h⟩ * (q ⟨d.val, h⟩ * (1 / (Real.sqrt 96 * Real.log 2))) else 0 : ℝ) : EReal) := by
    intro d
    by_cases h : d.val < 96
    · rw [dif_pos h, dif_pos h, dif_pos h, Ideal.div_coe hc, EReal.coe_mul, EReal.coe_mul]
    · rw [dif_neg h, dif_neg h, dif_neg h, mul_zero, EReal.coe_zero]
  rw [Finset.sum_congr rfl fun d _ => e d, coe_sum, sum_padded fun d => k d * (q d * (1 / (Real.sqrt 96 * Real.log 2))), Ideal.exp2_coe]
  refine congrArg _ ?_
  show (2 : ℝ) ^ (_ : ℝ) = _
  rw [Real.rpow_def_of_pos (by norm_num)]
  refine congrArg Real.exp ?_
  rw [Finset.mul_sum, Finset.sum_div]
  refine Finset.sum_congr rfl fun d _ => ?_
  field_simp

/-- A plain score. -/
theorem div_score (q k : Fin 96 → ℝ) :
    Ideal.div (∑ d : Fin 96, ((q d : ℝ) : EReal) * ((k d : ℝ) : EReal)) (Ideal.sqrt ((96 : ℝ) : EReal))
      = (((∑ d, q d * k d) / Real.sqrt 96 : ℝ) : EReal) := by
  rw [Ideal.sqrt_coe, if_neg (by norm_num), Ideal.div_coe root_pos.ne', Finset.sum_congr rfl fun d _ => (EReal.coe_mul (q d) (k d)).symm,
    coe_sum, ← EReal.coe_mul]
  exact congrArg _ (by rw [mul_one_div])

/-- A softmax with a number taken off every score, its values weighted, is the quotient of the two plain sums. -/
theorem softmax_quot {n : Nat} (p : Fin n → Prop) [DecidablePred p] (hp : ∃ k, p k) (x : Fin n → ℝ) (W : Fin n → EReal) (M : ℝ) :
    Ideal.div (∑ k, W k * (if p k then ((Real.exp (x k) : ℝ) : EReal) else 0)) (∑ k, (if p k then ((Real.exp (x k) : ℝ) : EReal) else 0))
      = ∑ k, W k * Ideal.div (if p k then ((Real.exp (x k - M) : ℝ) : EReal) else 0)
          (∑ k, (if p k then ((Real.exp (x k - M) : ℝ) : EReal) else 0)) := by
  obtain ⟨k0, hk0⟩ := hp
  have up : ∀ f : Fin n → ℝ, (∑ k, (if p k then ((f k : ℝ) : EReal) else 0)) = ((∑ k, (if p k then f k else 0) : ℝ) : EReal) := by
    intro f
    rw [← coe_sum]
    exact Finset.sum_congr rfl fun k _ => by by_cases h : p k <;> simp [h]
  have pos : ∀ f : Fin n → ℝ, (∀ k, 0 < f k) → 0 < ∑ k, (if p k then f k else 0) := by
    intro f hf
    refine Finset.sum_pos' (fun k _ => ?_) ⟨k0, Finset.mem_univ _, by rw [if_pos hk0]; exact hf k0⟩
    by_cases h : p k
    · rw [if_pos h]; exact (hf k).le
    · rw [if_neg h]
  have h1 := pos (fun k => Real.exp (x k)) fun k => Real.exp_pos _
  have h2 := pos (fun k => Real.exp (x k - M)) fun k => Real.exp_pos _
  rw [up, up, Ideal.div_coe h1.ne', sum_mul_coe _ _ _ (by positivity)]
  refine Finset.sum_congr rfl fun k _ => ?_
  rw [Ideal.div_coe h2.ne', mul_assoc]
  refine congrArg _ ?_
  by_cases h : p k
  · rw [if_pos h, if_pos h, ← EReal.coe_mul, ← EReal.coe_mul]
    refine congrArg _ ?_
    have e : (∑ k, (if p k then Real.exp (x k - M) else 0)) = (∑ k, (if p k then Real.exp (x k) else 0)) * Real.exp (-M) := by
      rw [Finset.sum_mul]
      refine Finset.sum_congr rfl fun k _ => ?_
      by_cases h : p k
      · rw [if_pos h, if_pos h, sub_eq_add_neg, Real.exp_add]
      · rw [if_neg h, if_neg h, zero_mul]
    have hM := Real.exp_pos (-M)
    rw [e, sub_eq_add_neg, Real.exp_add]
    field_simp
  · rw [if_neg h, if_neg h, zero_mul, zero_mul]

/-- A maximum of numbers and of values below every number, one number at least among them, is a number. -/
theorem fold_max_real {n : Nat} (p : Fin n → Prop) [DecidablePred p] (hp : ∃ k, p k) (x : Fin n → ℝ) :
    ∃ M : ℝ, Finset.univ.fold max (⊥ : EReal) (fun k => if p k then ((x k : ℝ) : EReal) else ⊥) = (M : EReal) := by
  obtain ⟨k0, hk0⟩ := hp
  have hlo : (⊥ : EReal) < Finset.univ.fold max (⊥ : EReal) (fun k => if p k then ((x k : ℝ) : EReal) else ⊥) :=
    (Finset.lt_fold_max _).2 (Or.inr ⟨k0, Finset.mem_univ _, by rw [if_pos hk0]; exact EReal.bot_lt_coe _⟩)
  have hhi : Finset.univ.fold max (⊥ : EReal) (fun k => if p k then ((x k : ℝ) : EReal) else ⊥) < ⊤ :=
    (Finset.fold_max_lt _).2 ⟨bot_lt_top, fun k _ => by
      by_cases h : p k
      · rw [if_pos h]; exact EReal.coe_lt_top _
      · rw [if_neg h]; exact bot_lt_top⟩
  exact ⟨_, (EReal.coe_toReal hhi.ne hlo.ne').symm⟩

/-- The word of 96. -/
theorem word_96 : Ideal.ofBits .f32 0x42C00000#32 = ((96 : ℝ) : EReal) := by
  norm_num [Ideal.ofBits, Ideal.ieee, Nat.shiftRight_eq_div_pow, BitVec.extractLsb']

/-- The word of two. -/
theorem word_2 : Ideal.ofBits .f32 0x40000000#32 = ((2 : ℝ) : EReal) := by
  norm_num [Ideal.ofBits, Ideal.ieee, Nat.shiftRight_eq_div_pow, BitVec.extractLsb']

/-- The word of minus infinity. -/
theorem word_bot : Ideal.ofBits .f32 0xFF800000#32 = ⊥ := by
  norm_num [Ideal.ofBits, Ideal.ieee, Nat.shiftRight_eq_div_pow, BitVec.extractLsb']

/-- The word of plus infinity. -/
theorem word_top : Ideal.ofBits .f32 0x7F800000#32 = ⊤ := by
  norm_num [Ideal.ofBits, Ideal.ieee, Nat.shiftRight_eq_div_pow, BitVec.extractLsb']

end Cert.Proof.Mla

end
-- ==== Proof.MlaHost.lean ====
/-
  Hand-written, untrusted. The arrays that the attention's kernel is launched on, read at an index: the host lines before the
  launch scale the queries, pad a head's 96 columns to 128 and lay the three arguments out.
-/
module

public import proofs.«01_k».proof.Proof.MlaValue
public import proofs.«01_k».proof.Proof.MlaMath
public import Idealize.ShloMosaic.Lib.StableHlo.ReadAt

@[expose] public section

noncomputable section

namespace Cert.Proof.Mla

open Idealize.ShloMosaic Idealize.SL.Sem Cert.KernelIdeal Cert.KernelIdeal.Gen Idealize.ShloMosaic.TcCoe

variable (m : (ℓ : Loc nD τ sig) → Buf (Elt Ideal) ℓ) (c : Dev nD)

/-- The queries, keys and values that the program is started on. -/
def argQ : Vec Ideal S8x2048x8x96 .f32 := m ((c.tc : Thread nD τ).loc main_arg0)
def argK : Vec Ideal S8x2048x8x96 .f32 := m ((c.tc : Thread nD τ).loc main_arg1)
def argV : Vec Ideal S8x2048x8x64 .f32 := m ((c.tc : Thread nD τ).loc main_arg2)

/-- The word of a padding's zero. -/
theorem pad_zero : (FloatOps.sitofp (F := Ideal) FTy.f32 0#32 : EReal) = 0 := by
  show (((0#32).toInt : ℝ) : EReal) = 0
  simp

set_option maxRecDepth 16384 in
/-- The keys, padded. -/
theorem V_k (b h : Fin 8) (k : Fin 2048) (d : Fin 128) :
    (V m c main_v11 : Vec Ideal S16384x1024 .bf16) (ix2 ⟨b.val * 2048 + k.val, by omega⟩ ⟨h.val * 128 + d.val, by omega⟩) =
      if hd : d.val < 96 then (argK m c (ix4 b k h ⟨d.val, hd⟩) : EReal) else 0 := by
  have hb := b.isLt
  have hk := k.isLt
  have hh := h.isLt
  unfold V argK
  after_reads_at
  by_cases hd : d.val < 96
  · refine (dif_pos (⟨by omega, by omega, by omega, by omega⟩ : _ ∧ _ ∧ _ ∧ _)).trans (Eq.trans ?_ (dif_pos hd).symm)
    refine congrArg (m ((c.tc : Thread nD τ).loc main_arg1)) (funext fun a => Fin.ext ?_)
    match a with
    | ⟨0, _⟩ => show (b.val * 2048 + k.val) / 2048 = b.val; omega
    | ⟨1, _⟩ => show (b.val * 2048 + k.val) % 2048 = k.val; omega
    | ⟨2, _⟩ => show (h.val * 128 + d.val) / 128 = h.val; omega
    | ⟨3, _⟩ => show (h.val * 128 + d.val) % 128 = d.val; omega
  · refine (dif_neg fun hx => hd (by omega)).trans (Eq.trans ?_ (dif_neg hd).symm)
    exact pad_zero

set_option maxRecDepth 16384 in
/-- The queries, scaled and padded. -/
theorem V_q (b h : Fin 8) (q : Fin 2048) (d : Fin 128) :
    (V m c main_v8 : Vec Ideal S1024x16384 .bf16) (ix2 ⟨h.val * 128 + d.val, by omega⟩ ⟨b.val * 2048 + q.val, by omega⟩) =
      if hd : d.val < 96 then Ideal.div (argQ m c (ix4 b q h ⟨d.val, hd⟩))
        (Ideal.sqrt ((96 : ℝ) : EReal) * Ideal.log ((2 : ℝ) : EReal)) else 0 := by
  have hb := b.isLt
  have hq := q.isLt
  have hh := h.isLt
  rw [← word_96, ← word_2]
  unfold V argQ
  after_reads_at
  by_cases hd : d.val < 96
  · refine (dif_pos (⟨by omega, by omega, by omega, by omega⟩ : _ ∧ _ ∧ _ ∧ _)).trans (Eq.trans ?_ (dif_pos hd).symm)
    refine congrArg (fun z => Ideal.div z _) (congrArg (m ((c.tc : Thread nD τ).loc main_arg0)) (funext fun a => Fin.ext ?_))
    match a with
    | ⟨0, _⟩ => show (b.val * 2048 + q.val) / 2048 = b.val; omega
    | ⟨1, _⟩ => show (b.val * 2048 + q.val) % 2048 = q.val; omega
    | ⟨2, _⟩ => show (h.val * 128 + d.val) / 128 = h.val; omega
    | ⟨3, _⟩ => show (h.val * 128 + d.val) % 128 = d.val; omega
  · refine (dif_neg fun hx => hd (by omega)).trans (Eq.trans ?_ (dif_neg hd).symm)
    exact pad_zero

set_option maxRecDepth 16384 in
/-- The values. -/
theorem V_v (b h : Fin 8) (k : Fin 2048) (a : Fin 64) :
    (V m c main_v14 : Vec Ideal S512x16384 .bf16) (ix2 ⟨h.val * 64 + a.val, by omega⟩ ⟨b.val * 2048 + k.val, by omega⟩) =
      argV m c (ix4 b k h a) := by
  have hb := b.isLt
  have hk := k.isLt
  have hh := h.isLt
  have ha := a.isLt
  unfold V argV
  after_reads_at
  refine congrArg (m ((c.tc : Thread nD τ).loc main_arg2)) (funext fun x => Fin.ext ?_)
  match x with
  | ⟨0, _⟩ => show (b.val * 2048 + k.val) / 2048 = b.val; omega
  | ⟨1, _⟩ => show (b.val * 2048 + k.val) % 2048 = k.val; omega
  | ⟨2, _⟩ => show (h.val * 64 + a.val) / 64 = h.val; omega
  | ⟨3, _⟩ => show (h.val * 64 + a.val) % 64 = a.val; omega

end Cert.Proof.Mla

end
-- ==== Proof.MlaRef.lean ====
/-
  Hand-written, untrusted. The plain text of the attention, read at one element of its result: a softmax over the keys up to
  the query, with the largest score taken off, and the values weighted by it.
-/
module

public import proofs.«01_k».proof.Proof.MlaMath
public import proofs.«01_k».proof.Proof.Gen.ReferenceIdeal.Read
public import Idealize.ShloMosaic.Lib.Pointwise

@[expose] public section

noncomputable section

namespace Cert.Proof.Mla

open Idealize.ShloMosaic Idealize.SL.Sem Cert.ReferenceIdeal Cert.ReferenceIdeal.Gen Cert.ReferenceIdeal.Read

variable (Q K : Vec Ideal S8x2048x8x96 .f32) (W : Vec Ideal S8x2048x8x64 .f32)

/-- A key's score against a query, divided by the square root of 96; below every number past the query. -/
def refScore (b h : Fin 8) (q k : Fin 2048) : EReal :=
  if k.val ≤ q.val then Ideal.div (∑ d : Fin 96, Q (ix4 b q h d) * K (ix4 b k h d)) (Ideal.sqrt ((96 : ℝ) : EReal)) else ⊥

/-- The largest of a query's scores. -/
def refMax (b h : Fin 8) (q : Fin 2048) : EReal := Finset.univ.fold max ⊥ fun k : Fin 2048 => refScore Q K b h q k

/-- Two positions compared as words. -/
theorem le_words (k q : Fin 2048) : IntOp.cmpi CmpIPredicate.sle (BitVec.ofNat 32 k.val) (BitVec.ofNat 32 q.val) = if k.val ≤ q.val then 1#1 else 0#1 := by
  have hk := k.isLt
  have hq := q.isLt
  have hs : (BitVec.ofNat 32 k.val).sle (BitVec.ofNat 32 q.val) = decide (k.val ≤ q.val) := by
    rw [BitVec.sle_eq_decide, decide_eq_decide, BitVec.toInt_eq_toNat_of_lt, BitVec.toInt_eq_toNat_of_lt]
    all_goals simp only [BitVec.toNat_ofNat]
    all_goals omega
  show BitVec.ofBool (BitVec.sle _ _) = _
  rw [hs]
  by_cases h : k.val ≤ q.val
  · rw [if_pos h, decide_eq_true h]; rfl
  · rw [if_neg h, decide_eq_false h]; rfl

set_option maxRecDepth 16384 in
/-- The masked scores. -/
theorem ref_score (b h : Fin 8) (q k : Fin 2048) : val_main_v11 (F := Ideal) Q K (ix4 b h q k) = refScore Q K b h q k := by
  unfold refScore
  rw [← word_96, ← word_bot]
  pointwise [val_main_v0, val_main_v1, val_main_v2, val_main_v3, val_main_v4, val_main_v5, val_main_v6, val_main_v7, val_main_v8,
    val_main_v9, val_main_v10, val_main_v11, val_main_cst, val_main_cst_0, val_main_call0_v0, val_main_call0_v1, val_main_call0_v2]
  rw [le_words]
  by_cases hkq : k.val ≤ q.val
  · rw [if_pos hkq, if_pos hkq]; rfl
  · rw [if_neg hkq, if_neg hkq]; rfl

/-- A row's maximum. -/
theorem row_max (S : FVec Ideal S8x8x2048x2048 .f32) (init : FVec Ideal S_ .f32) (b h : Fin 8) (q : Fin 2048) :
    Host.reduce FloatOps.maximumf S init reducesTo_S8x8x2048x2048_S8x8x2048_d3 h_S_ (ix3 b h q)
      = Finset.univ.fold max (init (Shape.Idx.first h_S_)) fun k : Fin 2048 => S (ix4 b h q k) := by
  have hr : S8x8x2048x2048.Reduces [3] S8x8x2048 := by decide
  refine (Host.reduce_eq_fold_single (FloatOps.maximumf (F := Ideal) (φ := .f32)) S init
    reducesTo_S8x8x2048x2048_S8x8x2048_d3 hr h_S_ (ix3 b h q)).trans ?_
  refine congrArg (fun f : Fin 2048 → EReal => Finset.univ.fold max (init (Shape.Idx.first h_S_)) f) (funext fun k => ?_)
  refine congrArg S (funext fun x => Fin.ext ?_)
  match x with
  | ⟨0, _⟩ => rfl
  | ⟨1, _⟩ => rfl
  | ⟨2, _⟩ => rfl
  | ⟨3, _⟩ => rfl

/-- The largest score. -/
theorem ref_max (b h : Fin 8) (q : Fin 2048) : val_main_v14 (F := Ideal) Q K (ix3 b h q) = refMax Q K b h q := by
  have hs := ref_score Q K b h q
  have hm := row_max (val_main_v11 (F := Ideal) Q K) (val_main_cst_1 (F := Ideal)) b h q
  rw [val_main_v14_apply]
  unfold val_main_v12
  rw [hm, val_main_cst_1_apply, val_main_v13_apply, val_main_cst_2_apply]
  simp only [hs]
  show max (Ideal.ofBits .f32 0xFF800000#32) (Finset.univ.fold max (Ideal.ofBits .f32 0xFF800000#32) _) = _
  rw [word_bot]
  exact max_eq_right bot_le

/-- The weights before their sum divides them. -/
theorem ref_exp (b h : Fin 8) (q k : Fin 2048) :
    val_main_v18 (F := Ideal) Q K (ix4 b h q k) = Ideal.exp (refScore Q K b h q k - refMax Q K b h q) := by
  have hs := ref_score Q K b h q k
  have hm := ref_max Q K b h q
  generalize hM : val_main_v14 (F := Ideal) Q K = M at *
  generalize hS : val_main_v11 (F := Ideal) Q K = S at *
  pointwise [val_main_v15, val_main_v16, val_main_v17, val_main_v18, hS, hM]
  rw [hs, hm]

set_option maxRecDepth 16384 in
/-- The result. -/
theorem ref_out (b h : Fin 8) (q : Fin 2048) (a : Fin 64) :
    val_main_v25 (F := Ideal) Q K W (ix2 ⟨b.val * 2048 + q.val, by omega⟩ ⟨h.val * 64 + a.val, by omega⟩)
      = ∑ k : Fin 2048, W (ix4 b k h a) * Ideal.div (Ideal.exp (refScore Q K b h q k - refMax Q K b h q))
          (∑ k : Fin 2048, Ideal.exp (refScore Q K b h q k - refMax Q K b h q)) := by
  have he := ref_exp Q K b h q
  generalize hS : val_main_v18 (F := Ideal) Q K = S at *
  pointwise [val_main_v19, val_main_v20, val_main_v21, val_main_v22, val_main_v23, val_main_v24, val_main_v25, val_main_cst_3, hS]
  simp only [he]

end Cert.Proof.Mla

end
-- ==== Proof.MlaRun.lean ====
/-
  Hand-written, untrusted. The attention's kernel run with its value: for finite queries and keys every stored row is the
  plain text's softmax of that query's scores with the values weighted by it, so the result array is the plain text's result.
-/
module

public import proofs.«01_k».proof.Proof.MlaHost
public import proofs.«01_k».proof.Proof.MlaRef
public import proofs.«01_k».proof.Proof.Gen.KernelIdeal.Value

@[expose] public section

noncomputable section

namespace Cert.Proof.Mla

open Idealize.ShloMosaic Idealize.SL.Sem Cert.KernelIdeal Cert.KernelIdeal.Gen Idealize.ShloMosaic.TcCoe
open Idealize.ShloMosaic.Pipeline (Dat)

section Body

variable (c : Dev nD) (i : grid0.Coords)
  (arg1 : Memref sig .tc .vmem S1024x2048 .bf16) (harg1 : arg1.IsWhole) (arg2 : Memref sig .tc .vmem S2048x1024 .bf16) (harg2 : arg2.IsWhole)
  (arg3 : Memref sig .tc .vmem S512x2048 .bf16) (harg3 : arg3.IsWhole) (arg5 : Memref sig .tc .vmem S2048x512 .f32) (harg5 : arg5.IsWhole)
  (arg6 : Memref sig .tc .vmem S8x256x256 .f32) (harg6 : arg6.IsWhole) (arg7 : Memref sig .tc .vmem S2048x256 .f32) (harg7 : arg7.IsWhole)
  (arg8 : Memref sig .tc .vmem S2x4096x256 .bf16) (harg8 : arg8.IsWhole) (arg9 : Memref sig .tc .vmem S8x512x256 .f32) (harg9 : arg9.IsWhole)
  (x0 : Vec Ideal S1024x2048 .bf16) (x1 : Vec Ideal S2048x1024 .bf16) (x2 : Vec Ideal S512x2048 .bf16)

/-- What the body leaves at a query and a feature. -/
theorem out_at (q : Fin 2048) (h : Fin 8) (a : Fin 64) :
    out0_A_3 (F := Ideal) c i arg1 harg1 arg2 harg2 arg3 harg3 arg5 harg5 arg6 harg6 arg7 harg7 arg8 harg8 arg9 harg9 x0 x1 x2
        (ix2 q ⟨h.val * 64 + a.val, by omega⟩)
      = Ideal.div (∑ k : Fin 2048, x2 (ix2 ⟨h.val * 64 + a.val, by omega⟩ k) * weight x0 x1 h q k.val)
          (∑ k : Fin 2048, weight x0 x1 h q k.val) := by
  have hq := q.isLt
  have e : query ⟨q.val / 256, by omega⟩ ⟨q.val % 256, by omega⟩ = q := Fin.ext (by show q.val / 256 * 256 + q.val % 256 = q.val; omega)
  unfold out0_A_3
  refine (View.read_writes_junk_apply_eq_canon _ _ _).trans ?_
  rw [run_pieces]
  refine (canon_rows arg1 harg1 arg2 harg2 arg3 harg3 arg6 arg8 arg9 x0 x1 x2 ⟨q.val / 256, by omega⟩ h a ⟨q.val % 256, by omega⟩ _
    (by show q.val = q.val / 256 * 256 + q.val % 256; omega) rfl 8 (by show q.val / 256 < 8; omega) le_rfl).trans ?_
  refine (headTile_at arg1 harg1 arg2 harg2 arg3 harg3 arg6 arg8 x0 x1 x2 _ h a _).trans ?_
  rw [e]

end Body

section Attention

variable (Q K : Vec Ideal S8x2048x8x96 .f32) (W : Vec Ideal S8x2048x8x64 .f32)
  (x0 : Vec Ideal S1024x2048 .bf16) (x1 : Vec Ideal S2048x1024 .bf16) (x2 : Vec Ideal S512x2048 .bf16)

/-- The body's quotient is the plain text's softmax, for finite queries and keys laid out as the host lays them out. -/
theorem attn_eq (hQ : ∀ j, Q j ≠ ⊤ ∧ Q j ≠ ⊥) (hK : ∀ j, K j ≠ ⊤ ∧ K j ≠ ⊥) (b h : Fin 8) (q : Fin 2048) (a : Fin 64)
    (h0 : ∀ d : Fin 128, x0 (ix2 ⟨h.val * 128 + d.val, by omega⟩ q) =
      if hd : d.val < 96 then Ideal.div (Q (ix4 b q h ⟨d.val, hd⟩)) (Ideal.sqrt ((96 : ℝ) : EReal) * Ideal.log ((2 : ℝ) : EReal)) else 0)
    (h1 : ∀ (k : Fin 2048) (d : Fin 128), x1 (ix2 k ⟨h.val * 128 + d.val, by omega⟩) =
      if hd : d.val < 96 then (K (ix4 b k h ⟨d.val, hd⟩) : EReal) else 0)
    (h2 : ∀ k : Fin 2048, x2 (ix2 ⟨h.val * 64 + a.val, by omega⟩ k) = W (ix4 b k h a)) :
    Ideal.div (∑ k : Fin 2048, x2 (ix2 ⟨h.val * 64 + a.val, by omega⟩ k) * weight x0 x1 h q k.val)
        (∑ k : Fin 2048, weight x0 x1 h q k.val)
      = Cert.ReferenceIdeal.Read.val_main_v25 (F := Ideal) Q K W (ix2 ⟨b.val * 2048 + q.val, by omega⟩ ⟨h.val * 64 + a.val, by omega⟩) := by
  let qr : Fin 96 → ℝ := fun d => EReal.toReal (Q (ix4 b q h d))
  let kr : Fin 2048 → Fin 96 → ℝ := fun k d => EReal.toReal (K (ix4 b k h d))
  have eq : ∀ d, Q (ix4 b q h d) = ((qr d : ℝ) : EReal) := fun d => (EReal.coe_toReal (hQ _).1 (hQ _).2).symm
  have ek : ∀ k d, K (ix4 b k h d) = ((kr k d : ℝ) : EReal) := fun k d => (EReal.coe_toReal (hK _).1 (hK _).2).symm
  let x : Fin 2048 → ℝ := fun k => (∑ d, qr d * kr k d) / Real.sqrt 96
  have ew : ∀ k : Fin 2048, weight x0 x1 h q k.val = if k.val ≤ q.val then ((Real.exp (x k) : ℝ) : EReal) else 0 := by
    intro k
    have hs : score x0 x1 h k q = ∑ d : Fin 128, (if h : d.val < 96 then ((kr k ⟨d.val, h⟩ : ℝ) : EReal) else 0)
        * (if h : d.val < 96 then Ideal.div ((qr ⟨d.val, h⟩ : ℝ) : EReal) (Ideal.sqrt ((96 : ℝ) : EReal) * Ideal.log ((2 : ℝ) : EReal)) else 0) := by
      unfold score
      refine Finset.sum_congr rfl fun d _ => ?_
      rw [h0, h1]
      simp only [eq, ek]
    unfold weight
    rw [dif_pos k.isLt]
    show (if k.val ≤ q.val then Ideal.exp2 (score x0 x1 h k q) else 0) = _
    rw [hs, exp2_score]
  have es : ∀ k, refScore Q K b h q k = if k.val ≤ q.val then ((x k : ℝ) : EReal) else ⊥ := by
    intro k
    unfold refScore
    simp only [eq, ek]
    rw [div_score]
  obtain ⟨M, hM⟩ := fold_max_real (fun k : Fin 2048 => k.val ≤ q.val) ⟨q, le_rfl⟩ x
  have em : refMax Q K b h q = (M : EReal) := by
    unfold refMax
    simp only [es]
    exact hM
  have ee : ∀ k, Ideal.exp (refScore Q K b h q k - refMax Q K b h q) = if k.val ≤ q.val then ((Real.exp (x k - M) : ℝ) : EReal) else 0 := by
    intro k
    rw [es, em]
    by_cases hkq : k.val ≤ q.val
    · rw [if_pos hkq, if_pos hkq, ← EReal.coe_sub, Ideal.exp_coe]
    · rw [if_neg hkq, if_neg hkq, EReal.bot_sub]; rfl
  refine Eq.trans ?_ (ref_out Q K W b h q a).symm
  simp only [ee, ew, h2]
  exact softmax_quot (fun k : Fin 2048 => k.val ≤ q.val) ⟨q, le_rfl⟩ x (fun k => W (ix4 b k h a)) M

end Attention

variable (m : (ℓ : Loc nD τ sig) → Buf (Elt Ideal) ℓ) (c : Dev nD)

/-- The windows move with the grid point: over the queries' and the values' columns, the keys' and the result's rows. -/
theorem idx_facts : ∀ t : Fin cfg0.N,
    (win0_0.index t 0 = 0 ∧ win0_0.index t 1 = t.val) ∧ (win0_1.index t 0 = t.val ∧ win0_1.index t 1 = 0)
    ∧ (win0_2.index t 0 = 0 ∧ win0_2.index t 1 = t.val) ∧ (win0_3.index t 0 = t.val ∧ win0_3.index t 1 = 0) :=
  (by decide +kernel : ∀ t : Fin grid0.N, _)

/-- The grid point is a batch entry. -/
def entry (t : Fin cfg0.N) : Fin 8 := ⟨t.val, t.isLt⟩

/-- A block of the queries. -/
theorem blk0 (t : Fin cfg0.N) (r : Fin 1024) (q : Fin 2048) :
    (iblk m c 0 t : Vec Ideal S1024x2048 .bf16) (ix2 r q)
      = (V m c main_v8 : Vec Ideal S1024x16384 .bf16) (ix2 r ⟨(entry t).val * 2048 + q.val, by have := (entry t).isLt; omega⟩) := by
  refine congrArg (V m c main_v8 : Vec Ideal S1024x16384 .bf16) (funext fun a => Fin.ext ?_)
  have h := (idx_facts t).1
  match a with
  | ⟨0, _⟩ => show win0_0.index t 0 * 1024 + 1 * r.val = r.val; rw [h.1]; omega
  | ⟨1, _⟩ => show win0_0.index t 1 * 2048 + 1 * q.val = t.val * 2048 + q.val; rw [h.2]; omega

/-- A block of the keys. -/
theorem blk1 (t : Fin cfg0.N) (k : Fin 2048) (r : Fin 1024) :
    (iblk m c 1 t : Vec Ideal S2048x1024 .bf16) (ix2 k r)
      = (V m c main_v11 : Vec Ideal S16384x1024 .bf16) (ix2 ⟨(entry t).val * 2048 + k.val, by have := (entry t).isLt; omega⟩ r) := by
  refine congrArg (V m c main_v11 : Vec Ideal S16384x1024 .bf16) (funext fun a => Fin.ext ?_)
  have h := (idx_facts t).2.1
  match a with
  | ⟨0, _⟩ => show win0_1.index t 0 * 2048 + 1 * k.val = t.val * 2048 + k.val; rw [h.1]; omega
  | ⟨1, _⟩ => show win0_1.index t 1 * 1024 + 1 * r.val = r.val; rw [h.2]; omega

/-- A block of the values. -/
theorem blk2 (t : Fin cfg0.N) (r : Fin 512) (k : Fin 2048) :
    (iblk m c 2 t : Vec Ideal S512x2048 .bf16) (ix2 r k)
      = (V m c main_v14 : Vec Ideal S512x16384 .bf16) (ix2 r ⟨(entry t).val * 2048 + k.val, by have := (entry t).isLt; omega⟩) := by
  refine congrArg (V m c main_v14 : Vec Ideal S512x16384 .bf16) (funext fun a => Fin.ext ?_)
  have h := (idx_facts t).2.2.1
  match a with
  | ⟨0, _⟩ => show win0_2.index t 0 * 512 + 1 * r.val = r.val; rw [h.1]; omega
  | ⟨1, _⟩ => show win0_2.index t 1 * 2048 + 1 * k.val = t.val * 2048 + k.val; rw [h.2]; omega

/-- The result array: the plain text's. -/
def result : Vec Ideal S16384x512 .f32 := Cert.ReferenceIdeal.Read.val_main_v25 (F := Ideal) (argQ m c) (argK m c) (argV m c)

/-- What point `t` writes back is block `t` of the result. -/
theorem flushed_eq (hQ : ∀ j, argQ m c j ≠ ⊤ ∧ argQ m c j ≠ ⊥) (hK : ∀ j, argK m c j ≠ ⊤ ∧ argK m c j ≠ ⊥) (t : Fin cfg0.N) :
    (dats m 0 c).flushed 3 t = ((cfg0.win 3).blk t).view.read (Elt Ideal) (result m c) := by
  rw [Value.flushed3_A]
  funext y
  obtain ⟨q, h, a, rfl⟩ : ∃ (q : Fin 2048) (h : Fin 8) (a : Fin 64), y = ix2 q ⟨h.val * 64 + a.val, by omega⟩ := by
    have hy1 : (y 1).val < 512 := (y 1).isLt
    refine ⟨y 0, ⟨(y 1).val / 64, by omega⟩, ⟨(y 1).val % 64, by omega⟩, ?_⟩
    refine (eq_ix2 y).trans (congrArg (ix2 (y 0)) (Fin.ext ?_))
    show (y 1).val = (y 1).val / 64 * 64 + (y 1).val % 64
    omega
  have hy : (((cfg0.win 3).blk t).view.read (Elt Ideal) (result m c)) (ix2 q ⟨h.val * 64 + a.val, by omega⟩)
      = result m c (ix2 ⟨(entry t).val * 2048 + q.val, by have := (entry t).isLt; omega⟩ ⟨h.val * 64 + a.val, by omega⟩) := by
    refine congrArg (result m c) (funext fun x => Fin.ext ?_)
    match x with
    | ⟨0, _⟩ => show win0_3.index t 0 * 2048 + 1 * q.val = t.val * 2048 + q.val
                rw [(idx_facts t).2.2.2.1]; omega
    | ⟨1, _⟩ => show win0_3.index t 1 * 512 + 1 * (h.val * 64 + a.val) = h.val * 64 + a.val
                rw [(idx_facts t).2.2.2.2]; omega
  rw [hy]
  refine (out_at c (grid0.coords t) (ms0_0 t) (hs0_0 t) (ms0_1 t) (hs0_1 t) (ms0_2 t) (hs0_2 t) (ms0_3 t) (hs0_3 t) scM0_0
    (Memref.isWhole_whole _) scM0_1 (Memref.isWhole_whole _) scM0_2 (Memref.isWhole_whole _) scM0_3 (Memref.isWhole_whole _)
    (iblk m c 0 t) (iblk m c 1 t) (iblk m c 2 t) q h a).trans ?_
  exact attn_eq (argQ m c) (argK m c) (argV m c) (iblk m c 0 t) (iblk m c 1 t) (iblk m c 2 t) hQ hK (entry t) h q a
    (fun d => (blk0 m c t _ q).trans (V_q m c (entry t) h q d)) (fun k d => (blk1 m c t k _).trans (V_k m c (entry t) h k d))
    (fun k => (blk2 m c t _ k).trans (V_v m c (entry t) h k a))

/-- An index of the result array lies in point `t`'s block when its row does. -/
theorem mem_blk (t : Fin cfg0.N) (i : S16384x512.Idx) :
    i ∈ ((cfg0.win 3).blk t).view.set ↔ t.val * 2048 ≤ (i 0 : Nat) ∧ (i 0 : Nat) < t.val * 2048 + 2048 := by
  show i ∈ ((View.whole main_v15).slice (win0_3.rect t)).set ↔ _
  rw [View.set_slice_whole, Rect.mem_set_unit]
  have h1 : (i 1 : Nat) < 512 := (i 1).isLt
  have e0 := (idx_facts t).2.2.2.1
  have e1 := (idx_facts t).2.2.2.2
  refine ⟨fun h => ?_, fun h a => ?_⟩
  · have : win0_3.index t 0 * 2048 ≤ (i 0 : Nat) ∧ (i 0 : Nat) < win0_3.index t 0 * 2048 + 2048 := h 0
    rw [e0] at this; exact this
  · match a with
    | ⟨0, _⟩ => show win0_3.index t 0 * 2048 ≤ (i 0 : Nat) ∧ (i 0 : Nat) < win0_3.index t 0 * 2048 + 2048
                rw [e0]; exact h
    | ⟨1, _⟩ => show win0_3.index t 1 * 512 ≤ (i 1 : Nat) ∧ (i 1 : Nat) < win0_3.index t 1 * 512 + 512
                rw [e1, Nat.zero_mul, Nat.zero_add]; exact ⟨Nat.zero_le _, h1⟩

/-- Every index lies in the block of its row. -/
theorem cover (i : S16384x512.Idx) : ∃ t : Fin cfg0.N, (cfg0.win 3).flush t = true ∧ i ∈ ((cfg0.win 3).blk t).view.set := by
  have h0 : (i 0 : Nat) < 16384 := (i 0).isLt
  refine ⟨⟨(i 0 : Nat) / 2048, by show (i 0 : Nat) / 2048 < 8; omega⟩, flush0_3 _, ?_⟩
  rw [mem_blk]
  dsimp only
  omega

/-- The result array after the run. -/
theorem final_eq (hQ : ∀ j, argQ m c j ≠ ⊤ ∧ argQ m c j ≠ ⊥) (hK : ∀ j, argK m c j ≠ ⊤ ∧ argK m c j ≠ ⊥) :
    (dats m 0 c).arrAt 3 cfg0.N = result m c :=
  (dats m 0 c).arrAt_eq_of_cover 3 (result m c) (fun t _ => flushed_eq m c hQ hK t) cover

end Cert.Proof.Mla

end
-- ==== Proof.MlaClaim.lean ====
/-
  Hand-written, untrusted. The claim about the attention: for finite queries and keys the kernel's program and the plain
  program end with one result.
-/
module

public import proofs.«01_k».proof.Defs
public import proofs.«01_k».proof.Proof.MlaRun
public import proofs.«01_k».proof.Proof.Gen.ReferenceIdeal

@[expose] public section

noncomputable section

namespace Cert.Proof.Mla

open Idealize.ShloMosaic Idealize.SL.Sem Cert.KernelIdeal Cert.KernelIdeal.Gen Idealize.ShloMosaic.TcCoe

/-- The shapes that the condition's operations take fit together. -/
instance preFacts : Cert.Pre_finite_scores.Facts where
  bcast_S_S8x2048x8x96 := by decide
  reducesTo_S8x2048x8x96_S_d0_1_2_3 := by decide
  h_S_ := by decide

/-- A conjunction of bits over a set is one only if every bit is. -/
theorem fold_and {ι : Type} (s : Finset ι) (f : ι → BitVec 1) (z : BitVec 1) (hs : s.fold IntOp.andi z f = 1#1) :
    ∀ x ∈ s, f x = 1#1 := by
  have hand : ∀ a b : BitVec 1, IntOp.andi a b = 1#1 ↔ a = 1#1 ∧ b = 1#1 := by decide
  exact ((Finset.fold_op_rel_iff_and (r := fun (_ : BitVec 1) y => y = 1#1) (fun {_ a b} => hand a b) (c := 1#1)).1 hs).2

/-- A number below plus infinity in absolute value is finite. -/
theorem finite_of_abs (x : EReal) (h : Ideal.cmp .olt (max x (-x)) (Ideal.ofBits .f32 0x7F800000#32) = 1#1) : x ≠ ⊤ ∧ x ≠ ⊥ := by
  rw [word_top] at h
  have hlt : max x (-x) < ⊤ := by
    by_contra hn
    have e : Ideal.cmp .olt (max x (-x)) ⊤ = BitVec.ofBool (decide (max x (-x) < ⊤)) := rfl
    rw [e, decide_eq_false hn] at h
    exact absurd h (by decide)
  refine ⟨fun e => ?_, fun e => ?_⟩
  · rw [e] at hlt; exact absurd hlt (not_lt.2 (le_max_left _ _))
  · rw [e, EReal.neg_bot] at hlt; exact absurd hlt (not_lt.2 (le_max_right _ _))

/-- The condition makes every element of an array finite. -/
theorem finite_of_pre (X : FVec Ideal Cert.Pre_finite_scores.S8x2048x8x96 .f32)
    (h : Host.reduce IntOp.andi (cmpf .olt (Host.absf X) (broadcastInDim Cert.Pre_finite_scores.S8x2048x8x96 ![] Cert.Pre_finite_scores.Facts.bcast_S_S8x2048x8x96
      (constant (F := Ideal) Cert.Pre_finite_scores.S_ .f32 0x7F800000#32))) (constantI Cert.Pre_finite_scores.S_ 1 1#1)
      Cert.Pre_finite_scores.Facts.reducesTo_S8x2048x8x96_S_d0_1_2_3 Cert.Pre_finite_scores.Facts.h_S_ ix0 = 1#1) (j) : X j ≠ ⊤ ∧ X j ≠ ⊥ := by
  rw [Host.reduce_eq_fold] at h
  exact finite_of_abs (X j) (fold_and _ _ _ h j (Finset.mem_filter.2 ⟨Finset.mem_univ _, funext fun a => a.elim0⟩))

/-- The kernel's program and the plain program, started on the same arguments, end with the same result. -/
theorem algebraic : Cert.algebraic_KernelIdeal_ReferenceIdeal_pre_finite_scores := by
  intro m g m' g' hpre hagree
  have hfin : ∀ c, (∀ j, argQ m c j ≠ ⊤ ∧ argQ m c j ≠ ⊥) ∧ (∀ j, argK m c j ≠ ⊤ ∧ argK m c j ≠ ⊥) := by
    intro c
    have hand : ∀ a b : BitVec 1, IntOp.andi a b = 1#1 ↔ a = 1#1 ∧ b = 1#1 := by decide
    have h := (hand _ _).1 (congrFun (hpre c) ix0)
    exact ⟨finite_of_pre _ h.1, finite_of_pre _ h.2⟩
  refine ⟨fun c => result m c, ?_, ?_⟩
  · refine (θ_run defs _ _).mono (fun r h c => ?_) (Value.run_blocks m g)
    have h := h c
    exact ⟨h.1.trans (final_eq m c (hfin c).1 (hfin c).2), h.2⟩
  · refine (θ_run _ _ _).mono (fun r h c => ?_) (Cert.ReferenceIdeal.Value.run (F := Ideal) m' g')
    have h := h c
    refine ⟨?_, h.2⟩
    obtain ⟨a0, a1, a2, a3⟩ := hagree c
    rw [h.1, Cert.ReferenceIdeal.Read.val_main_v25_eq, a0, a1, a2]
    rfl

end Cert.Proof.Mla

end
-- ==== Proof.ProjSpec.lean ====
/-
  Hand-written, untrusted. What the projection makes of one token, as the mathematics has it: a row divided by the root of
  its mean square, times a gain; a product with rows of weights; the rotation of a head's first or middle coordinates.
-/
module

public import Idealize.ShloMosaic.PureOps.Ideal

@[expose] public section

noncomputable section

namespace Cert.Proof.Proj

open Idealize.ShloMosaic

/-- The reciprocal root of a row's mean square plus the printed epsilon; `w` is the printed number of coordinates. -/
def scaleOf {n : Nat} (w : BitVec 32) (z : Fin n → EReal) : EReal :=
  Ideal.rsqrt (Ideal.div (∑ k, z k * z k) (Ideal.ofBits .f32 w) + Ideal.ofBits .f32 0x358637BD#32)

/-- A row divided by the root of its mean square, times a gain. -/
def normed {n : Nat} (w : BitVec 32) (z g : Fin n → EReal) (j : Fin n) : EReal := z j * scaleOf w z * g j

/-- The product of a row with rows of weights. -/
def product {n k : Nat} (a : Fin n → Fin k → EReal) (h : Fin k → EReal) (j : Fin n) : EReal := ∑ d, a j d * h d

/-- A head of 64 coordinates whose first 16 are turned by the position's angles. -/
def turned64 (c s : Fin 8 → EReal) (z : Fin 64 → EReal) (j : Fin 64) : EReal :=
  if h : j.val < 8 then z j * c ⟨j.val, h⟩ - z ⟨j.val + 8, by omega⟩ * s ⟨j.val, h⟩
  else if h : j.val < 16 then z j * c ⟨j.val - 8, by omega⟩ + z ⟨j.val - 8, by omega⟩ * s ⟨j.val - 8, by omega⟩
  else z j

/-- A head of `n` coordinates, 96 or 128, whose coordinates 64 to 95 are turned by the position's angles. -/
def turned {n : Nat} (hn : 96 ≤ n) (c s : Fin 16 → EReal) (z : Fin n → EReal) (j : Fin n) : EReal :=
  if j.val < 64 then z j
  else if h : j.val < 80 then z j * c ⟨j.val - 64, by omega⟩ - z ⟨j.val + 16, by omega⟩ * s ⟨j.val - 64, by omega⟩
  else if h : j.val < 96 then z j * c ⟨j.val - 80, by omega⟩ + z ⟨j.val - 16, by omega⟩ * s ⟨j.val - 80, by omega⟩
  else z j

/-- A head of 96 coordinates put into 128, with zeros behind. -/
def padded (z : Fin 96 → EReal) (j : Fin 128) : EReal := if h : j.val < 96 then z ⟨j.val, h⟩ else 0

/-- What the layer is given. -/
structure Layer where
  /-- The tokens' rows. -/
  x : Fin 8 → Fin 2048 → Fin 1024 → EReal
  /-- The tokens' positions. -/
  pos : Fin 8 → Fin 2048 → BitVec 32
  gNorm : Fin 1024 → EReal
  wIn : Fin 1024 → Fin 7912 → EReal
  gQa : Fin 64 → EReal
  gKa : Fin 64 → EReal
  gCq : Fin 384 → EReal
  gCkv : Fin 256 → EReal
  wUq : Fin 384 → Fin 768 → EReal
  wUkv : Fin 256 → Fin 1024 → EReal
  gQb : Fin 96 → EReal
  gKb : Fin 96 → EReal
  gQm : Fin 128 → EReal

/-- The angle that a position turns the `k`th pair of coordinates by; `n` is the printed number of turned coordinates. -/
def angle (n : BitVec 32) (k : Nat) (p : BitVec 32) : EReal :=
  FloatOps.powf (F := Ideal) (φ := .f32) (Ideal.ofBits .f32 0x48F42400#32)
    (-(Ideal.div (Ideal.ofBits .f32 0x40000000#32 * FloatOps.sitofp (F := Ideal) .f32 (BitVec.ofNat 32 k)) (Ideal.ofBits .f32 n))) *
    FloatOps.sitofp (F := Ideal) .f32 p

namespace Layer

variable (L : Layer) (b : Fin 8) (s : Fin 2048)

/-- A token's normalised row. -/
def h (d : Fin 1024) : EReal := normed 0x44800000#32 (L.x b s) L.gNorm d

/-- One coordinate of a token's projection. -/
def col (j : Nat) (hj : j < 7912) : EReal := ∑ d, L.wIn d ⟨j, hj⟩ * L.h b s d

def cosA (k : Fin 8) : EReal := FloatOps.cos (F := Ideal) (φ := .f32) (angle 0x41800000#32 k.val (L.pos b s))
def sinA (k : Fin 8) : EReal := FloatOps.sin (F := Ideal) (φ := .f32) (angle 0x41800000#32 k.val (L.pos b s))
def cosB (k : Fin 16) : EReal := FloatOps.cos (F := Ideal) (φ := .f32) (angle 0x42000000#32 k.val (L.pos b s))
def sinB (k : Fin 16) : EReal := FloatOps.sin (F := Ideal) (φ := .f32) (angle 0x42000000#32 k.val (L.pos b s))

/-- A head's queries. -/
def qa (h : Fin 8) : Fin 64 → EReal :=
  turned64 (L.cosA b s) (L.sinA b s) (normed 0x42800000#32 (fun d => L.col b s (h.val * 64 + d.val) (by omega)) L.gQa)

/-- A head's keys. -/
def ka (h : Fin 8) : Fin 64 → EReal :=
  turned64 (L.cosA b s) (L.sinA b s) (normed 0x42800000#32 (fun d => L.col b s (512 + (h.val * 64 + d.val)) (by omega)) L.gKa)

/-- One coordinate of the values. -/
def va (j : Fin 512) : EReal := L.col b s (1024 + j.val) (by omega)

/-- An indexer head's queries, times an eighth. -/
def qi (h : Fin 8) (d : Fin 64) : EReal :=
  turned64 (L.cosA b s) (L.sinA b s) (fun d => L.col b s (1536 + (h.val * 64 + d.val)) (by omega)) d * Ideal.ofBits .f32 0x3E000000#32

/-- The indexer's keys. -/
def ki : Fin 64 → EReal := turned64 (L.cosA b s) (L.sinA b s) (fun d => L.col b s (2048 + d.val) (by omega))

/-- The weight of an indexer head. -/
def wt (h : Fin 8) : EReal := L.col b s (2112 + h.val) (by omega) * Ideal.ofBits .f32 0x3EB504F3#32

/-- The compressed queries, normalised. -/
def cq : Fin 384 → EReal := normed 0x43C00000#32 (fun d => L.col b s (2632 + d.val) (by omega)) L.gCq

/-- The compressed keys and values, normalised. -/
def ckv : Fin 256 → EReal := normed 0x43800000#32 (fun d => L.col b s (3016 + d.val) (by omega)) L.gCkv

/-- A head's compressed queries, before they are normalised. -/
def qbRaw (h : Fin 8) (d : Fin 96) : EReal := ∑ k, L.wUq k ⟨h.val * 96 + d.val, by omega⟩ * L.cq b s k

/-- One coordinate of the decompressed keys and values. -/
def kv (j : Nat) (hj : j < 1024) : EReal := ∑ k, L.wUkv k ⟨j, hj⟩ * L.ckv b s k

/-- A head's compressed keys, before they are normalised: 64 coordinates of its own and 32 that all heads share. -/
def kbRaw (h : Fin 8) (d : Fin 96) : EReal :=
  if hd : d.val < 64 then L.kv b s (h.val * 128 + d.val) (by omega) else L.col b s (3272 + (d.val - 64)) (by omega)

/-- A head's compressed queries. -/
def qb (h : Fin 8) : Fin 96 → EReal := turned le_rfl (L.cosB b s) (L.sinB b s) (normed 0x42C00000#32 (L.qbRaw b s h) L.gQb)

/-- A head's compressed keys. -/
def kb (h : Fin 8) : Fin 96 → EReal := turned le_rfl (L.cosB b s) (L.sinB b s) (normed 0x42C00000#32 (L.kbRaw b s h) L.gKb)

/-- A head's decompressed values. -/
def vb (h : Fin 8) (d : Fin 64) : EReal := L.kv b s (h.val * 128 + (64 + d.val)) (by omega)

/-- A memory head's queries. -/
def qm (h : Fin 4) : Fin 128 → EReal := normed 0x43000000#32 (fun d => L.col b s (3816 + (h.val * 128 + d.val)) (by omega)) L.gQm

/-! ### The arrays the projection leaves, at an element; a token is its entry and its place in it -/

def entryOf (n : Fin 16384) : Fin 8 := ⟨n.val / 2048, by omega⟩
def placeOf (n : Fin 16384) : Fin 2048 := ⟨n.val % 2048, by omega⟩

/-- The queries: a head's rows lie in the half of 128 rows that its parity names. -/
def outQa (i : Fin 1024) (n : Fin 16384) : EReal :=
  if i.val % 128 / 64 = i.val / 128 % 2 then L.qa (entryOf n) (placeOf n) ⟨i.val / 128, by omega⟩ ⟨i.val % 64, by omega⟩ else 0

/-- The indexer's queries: in a block of 256 tokens the tokens run fastest, then the heads. -/
def outQi (q : Fin 64) (d : Fin 128) (l : Fin 2048) : EReal :=
  if hd : d.val < 64 then L.qi (entryOf ⟨q.val * 256 + l.val % 256, by omega⟩) (placeOf ⟨q.val * 256 + l.val % 256, by omega⟩)
    ⟨l.val / 256, by omega⟩ ⟨d.val, hd⟩ else 0

def outWt (h : Fin 8) (n : Fin 16384) : EReal := L.wt (entryOf n) (placeOf n) h

/-- The keys, two heads side by side. -/
def outKa (p : Fin 4) (n : Fin 16384) (l : Fin 128) : EReal :=
  L.ka (entryOf n) (placeOf n) ⟨p.val * 2 + l.val / 64, by omega⟩ ⟨l.val % 64, by omega⟩

def outVa (j : Fin 512) (n : Fin 16384) : EReal := L.va (entryOf n) (placeOf n) j

def outKi (n : Fin 16384) (d : Fin 128) : EReal := if hd : d.val < 64 then L.ki (entryOf n) (placeOf n) ⟨d.val, hd⟩ else 0

def outQb (i : Fin 1024) (n : Fin 16384) : EReal := padded (L.qb (entryOf n) (placeOf n) ⟨i.val / 128, by omega⟩) ⟨i.val % 128, by omega⟩

def outKb (n : Fin 16384) (i : Fin 1024) : EReal := padded (L.kb (entryOf n) (placeOf n) ⟨i.val / 128, by omega⟩) ⟨i.val % 128, by omega⟩

def outVb (i : Fin 512) (n : Fin 16384) : EReal := L.vb (entryOf n) (placeOf n) ⟨i.val / 64, by omega⟩ ⟨i.val % 64, by omega⟩

def outQm (i : Fin 512) (n : Fin 16384) : EReal := L.qm (entryOf n) (placeOf n) ⟨i.val / 128, by omega⟩ ⟨i.val % 128, by omega⟩

end Layer

end Cert.Proof.Proj

end
-- ==== Proof.ProjMath.lean ====
/-
  Hand-written, untrusted. The projection's scales and paddings: a gain divided by a scale and the result times the scale is
  the gain's result; a row with zeros behind is normalised and turned like the row itself.
-/
module

public import proofs.«01_k».proof.Proof.ProjSpec
public import Idealize.ShloMosaic.PureOps.Ideal.Laws

@[expose] public section

noncomputable section

namespace Cert.Proof.Proj

open Idealize.ShloMosaic

/-- The scale of the queries' words. -/
def IsScale (C : EReal) : Prop := ∃ r : ℝ, 0 < r ∧ C = (r : EReal)

theorem scale_qa : IsScale (Ideal.ofBits .f32 0x3E38AA3B#32) :=
  ⟨_, by positivity, show _ = (((12102203 : ℝ) / 67108864 : ℝ) : EReal) by
    simp [Ideal.ofBits, Ideal.ieee, -EReal.coe_mul]; norm_num⟩

theorem scale_qb : IsScale (Ideal.ofBits .f32 0x3E16C740#32) :=
  ⟨_, by positivity, show _ = (((9881408 : ℝ) / 67108864 : ℝ) : EReal) by
    simp [Ideal.ofBits, Ideal.ieee, -EReal.coe_mul]; norm_num⟩

theorem scale_qm : IsScale (Ideal.ofBits .f32 0x3E0293EE#32) :=
  ⟨_, by positivity, show _ = (((8557550 : ℝ) / 67108864 : ℝ) : EReal) by
    simp [Ideal.ofBits, Ideal.ieee, -EReal.coe_mul]; norm_num⟩

variable {C : EReal} (hC : IsScale C)

include hC

theorem div_scale (x : EReal) : Ideal.div x C * C = x := by
  obtain ⟨r, hr, rfl⟩ := hC
  rw [Ideal.div_coe hr.ne', mul_assoc, ← EReal.coe_mul, one_div_mul_cancel hr.ne', EReal.coe_one, mul_one]

theorem add_scale (x y : EReal) : (x + y) * C = x * C + y * C := by
  obtain ⟨r, hr, rfl⟩ := hC
  rw [mul_comm, EReal.left_distrib_of_nonneg_of_ne_top (EReal.coe_nonneg.mpr hr.le) (EReal.coe_ne_top r), mul_comm x, mul_comm y]

theorem sub_scale (x y : EReal) : (x - y) * C = x * C - y * C := by
  rw [sub_eq_add_neg, add_scale hC, EReal.neg_mul, ← sub_eq_add_neg]

/-- A normalised row whose gain is divided by the scale, times the scale. -/
theorem normed_scale {n : Nat} (w : BitVec 32) (z g : Fin n → EReal) (j : Fin n) :
    normed w z (fun j => Ideal.div (g j) C) j * C = normed w z g j := by
  unfold normed
  rw [mul_assoc, div_scale hC]

theorem turned64_scale (c s : Fin 8 → EReal) (z : Fin 64 → EReal) (j : Fin 64) :
    turned64 c s z j * C = turned64 c s (fun j => z j * C) j := by
  unfold turned64
  by_cases h1 : j.val < 8
  · rw [dif_pos h1, dif_pos h1, sub_scale hC, mul_right_comm, mul_right_comm (z _) (s _)]
  rw [dif_neg h1, dif_neg h1]
  by_cases h2 : j.val < 16
  · rw [dif_pos h2, dif_pos h2, add_scale hC, mul_right_comm, mul_right_comm (z _) (s _)]
  · rw [dif_neg h2, dif_neg h2]

theorem turned_scale {n : Nat} (hn : 96 ≤ n) (c s : Fin 16 → EReal) (z : Fin n → EReal) (j : Fin n) :
    turned hn c s z j * C = turned hn c s (fun j => z j * C) j := by
  unfold turned
  by_cases h1 : j.val < 64
  · rw [if_pos h1, if_pos h1]
  rw [if_neg h1, if_neg h1]
  by_cases h2 : j.val < 80
  · rw [dif_pos h2, dif_pos h2, sub_scale hC, mul_right_comm, mul_right_comm (z _) (s _)]
  rw [dif_neg h2, dif_neg h2]
  by_cases h3 : j.val < 96
  · rw [dif_pos h3, dif_pos h3, add_scale hC, mul_right_comm, mul_right_comm (z _) (s _)]
  · rw [dif_neg h3, dif_neg h3]

/-- A head of queries whose gain is divided by the scale, turned, times the scale. -/
theorem head64_scale (w : BitVec 32) (c s : Fin 8 → EReal) (z g : Fin 64 → EReal) (j : Fin 64) :
    turned64 c s (normed w z fun j => Ideal.div (g j) C) j * C = turned64 c s (normed w z g) j := by
  rw [turned64_scale hC]
  exact congrArg (fun z => turned64 c s z j) (funext fun j => normed_scale hC w z g j)

theorem head96_scale (w : BitVec 32) (c s : Fin 16 → EReal) (z g : Fin 96 → EReal) (j : Fin 96) :
    turned le_rfl c s (normed w z fun j => Ideal.div (g j) C) j * C = turned le_rfl c s (normed w z g) j := by
  rw [turned_scale hC]
  exact congrArg (fun z => turned le_rfl c s z j) (funext fun j => normed_scale hC w z g j)

theorem padded_scale (z : Fin 96 → EReal) (j : Fin 128) : padded z j * C = padded (fun j => z j * C) j := by
  unfold padded
  by_cases h : j.val < 96
  · rw [dif_pos h, dif_pos h]
  · rw [dif_neg h, dif_neg h, zero_mul]

omit hC

theorem sum_padded (z : Fin 96 → EReal) : (∑ k, padded z k * padded z k) = ∑ k, z k * z k := by
  refine (Fin.sum_univ_add (a := 96) (b := 32) fun k => padded z k * padded z k).trans ?_
  refine (congrArg₂ (· + ·) (Finset.sum_congr rfl fun k _ => ?_) (Finset.sum_eq_zero fun k _ => ?_)).trans (add_zero _)
  · have e : padded z (Fin.castAdd 32 k) = z k := dif_pos k.isLt
    rw [e]
  · have e : padded z (Fin.natAdd 96 k) = 0 := dif_neg (by show ¬ 96 + k.val < 96; omega)
    rw [e, zero_mul]

/-- A row with zeros behind is normalised like the row. -/
theorem normed_padded (w : BitVec 32) (z g : Fin 96 → EReal) : normed w (padded z) (padded g) = padded (normed w z g) := by
  funext j
  unfold normed scaleOf
  rw [sum_padded]
  unfold padded
  by_cases h : j.val < 96
  · rw [dif_pos h, dif_pos h, dif_pos h]
  · rw [dif_neg h, dif_neg h, dif_neg h, zero_mul, zero_mul]

/-- A row with zeros behind is turned like the row. -/
theorem turned_padded (hn : 96 ≤ 128) (c s : Fin 16 → EReal) (z : Fin 96 → EReal) (j : Fin 128) :
    turned hn c s (padded z) j = padded (turned le_rfl c s z) j := by
  have e : ∀ (k : Nat) (h : k < 96) (h' : k < 128), padded z ⟨k, h'⟩ = z ⟨k, h⟩ := fun k h h' => dif_pos h
  by_cases h : j.val < 96
  · have ej : padded z j = z ⟨j.val, h⟩ := dif_pos h
    refine Eq.trans ?_ (dif_pos h).symm
    unfold turned
    by_cases h1 : j.val < 64
    · rw [if_pos h1, if_pos h1, ej]
    rw [if_neg h1, if_neg h1]
    by_cases h2 : j.val < 80
    · rw [dif_pos h2, dif_pos h2, ej, e _ (by omega)]
    · rw [dif_neg h2, dif_neg h2, dif_pos h, dif_pos h, ej, e _ (by omega)]
  · refine Eq.trans ?_ (dif_neg h).symm
    unfold turned
    rw [if_neg (by omega), dif_neg (by omega), dif_neg h]
    exact dif_neg h

/-- The queries' padded head. -/
theorem head128_scale {C : EReal} (hC : IsScale C) (w : BitVec 32) (hn : 96 ≤ 128) (c s : Fin 16 → EReal) (z g : Fin 96 → EReal) (j : Fin 128) :
    turned hn c s (normed w (padded z) (padded fun j => Ideal.div (g j) C)) j * C = padded (turned le_rfl c s (normed w z g)) j := by
  rw [normed_padded, turned_padded, padded_scale hC]
  exact congrArg (fun z => padded z j) (funext fun j => head96_scale hC w c s z g j)

/-- The keys' padded head. -/
theorem head128_keys (w : BitVec 32) (hn : 96 ≤ 128) (c s : Fin 16 → EReal) (z g : Fin 96 → EReal) (j : Fin 128) :
    turned hn c s (normed w (padded z) (padded g)) j = padded (turned le_rfl c s (normed w z g)) j := by
  rw [normed_padded, turned_padded]

end Cert.Proof.Proj

end
-- ==== Proof.ProjTiles.lean ====
/-
  Hand-written, untrusted. The projection kernel's blocks, written once for every head, and each of them read at an element:
  the columns of a block are tokens, and a column is what the mathematics makes of that token.
-/
module

public import proofs.«01_k».proof.Proof.ProjSpec
public import proofs.«01_k».proof.Proof.Gen.Kernel3Ideal.Skeleton
public import Idealize.ShloMosaic.Lib.Pointwise

@[expose] public section

noncomputable section

namespace Cert.Proof.Proj

open Idealize.ShloMosaic Cert.Kernel3Ideal Cert.Kernel3Ideal.Gen

section
variable {F : FTy → Type} [FloatOps F]

theorem cut64 (h : Fin 8) : S512x512.Slices ![h.val * 64, 0] S64x512 := by revert h; decide
theorem cut128 (h : Fin 4) : S512x512.Slices ![h.val * 128, 0] S128x512 := by revert h; decide
theorem cut128of1024 (h : Fin 8) : S1024x512.Slices ![h.val * 128, 0] S128x512 := by revert h; decide
theorem cutHalf (j : Fin 2) : S64x512.Slices ![0, j.val * 256] S64x256 := by revert j; decide

/-- A head of 64 rows. -/
def head64 (v : FVec F S512x512 .f32) (h : Fin 8) : FVec F S64x512 .f32 := extractStridedSlice S64x512 ![h.val * 64, 0] v (cut64 h)
/-- A head of 128 rows, of four. -/
def head128 (v : FVec F S512x512 .f32) (h : Fin 4) : FVec F S128x512 .f32 := extractStridedSlice S128x512 ![h.val * 128, 0] v (cut128 h)
/-- A head of 128 rows, of eight. -/
def headOf8 (v : FVec F S1024x512 .f32) (h : Fin 8) : FVec F S128x512 .f32 :=
  extractStridedSlice S128x512 ![h.val * 128, 0] v (cut128of1024 h)

/-- A head of 64 rows, normalised column by column. -/
def norm64 (z : FVec F S64x512 .f32) (g : FVec F S64x1 .f32) : FVec F S64x512 .f32 :=
  mulf (mulf z (broadcastTo S64x512 (rsqrt (addf (divf (shapeCast S1x512 (multiReduction .add [0] S512 (mulf z z) 0x00000000#32
    reduces_S64x512_S512 (.inl rfl) rfl) shapeCasts_S512_S1x512) (broadcast S1x512 (Scalar.ofBits .f32 0x42800000#32)))
    (broadcast S1x512 (Scalar.ofBits .f32 0x358637BD#32)))) broadcasts_S1x512_S64x512)) (broadcastTo S64x512 g broadcasts_S64x1_S64x512)

/-- A head of 128 rows, normalised column by column; `w` is the printed number of rows that count. -/
def norm128 (w : BitVec 32) (z : FVec F S128x512 .f32) (g : FVec F S128x1 .f32) : FVec F S128x512 .f32 :=
  mulf (mulf z (broadcastTo S128x512 (rsqrt (addf (divf (shapeCast S1x512 (multiReduction .add [0] S512 (mulf z z) 0x00000000#32
    reduces_S128x512_S512 (.inl rfl) rfl) shapeCasts_S512_S1x512) (broadcast S1x512 (Scalar.ofBits .f32 w)))
    (broadcast S1x512 (Scalar.ofBits .f32 0x358637BD#32)))) broadcasts_S1x512_S128x512)) (broadcastTo S128x512 g broadcasts_S128x1_S128x512)

/-- A head of 64 rows, its first 16 turned. -/
def turn64 (c s : FVec F S8x512 .f32) (z : FVec F S64x512 .f32) : FVec F S64x512 .f32 :=
  concatenate S64x512 0
    [⟨S8x512, subf (mulf (extractStridedSlice S8x512 ![0, 0] z slices_S64x512_o0_0_S8x512) c)
        (mulf (extractStridedSlice S8x512 ![8, 0] z slices_S64x512_o8_0_S8x512) s)⟩,
      ⟨S8x512, addf (mulf (extractStridedSlice S8x512 ![8, 0] z slices_S64x512_o8_0_S8x512) c)
        (mulf (extractStridedSlice S8x512 ![0, 0] z slices_S64x512_o0_0_S8x512) s)⟩,
      ⟨S48x512, extractStridedSlice S48x512 ![16, 0] z slices_S64x512_o16_0_S48x512⟩]
    concatenates_S8x512_S8x512_S48x512_S64x512_d0

/-- A head of 128 rows, rows 64 to 95 turned. -/
def turn128 (c s : FVec F S16x512 .f32) (z : FVec F S128x512 .f32) : FVec F S128x512 .f32 :=
  concatenate S128x512 0
    [⟨S64x512, extractStridedSlice S64x512 ![0, 0] z slices_S128x512_o0_0_S64x512⟩,
      ⟨S16x512, subf (mulf (extractStridedSlice S16x512 ![64, 0] z slices_S128x512_o64_0_S16x512) c)
        (mulf (extractStridedSlice S16x512 ![80, 0] z slices_S128x512_o80_0_S16x512) s)⟩,
      ⟨S16x512, addf (mulf (extractStridedSlice S16x512 ![80, 0] z slices_S128x512_o80_0_S16x512) c)
        (mulf (extractStridedSlice S16x512 ![64, 0] z slices_S128x512_o64_0_S16x512) s)⟩,
      ⟨S32x512, extractStridedSlice S32x512 ![96, 0] z slices_S128x512_o96_0_S32x512⟩]
    concatenates_S64x512_S16x512_S16x512_S32x512_S128x512_d0

/-- A head's keys: its 64 own rows, the 32 shared rows, and 32 of zeros. -/
def keyHead (v : FVec F S512x512 .f32) (r : FVec F S32x512 .f32) (h : Fin 8) : FVec F S128x512 .f32 :=
  concatenate S128x512 0 [⟨S64x512, head64 v h⟩, ⟨S32x512, r⟩, ⟨S32x512, broadcast S32x512 (Scalar.ofBits .f32 0x00000000#32)⟩]
    concatenates_S64x512_S32x512_S32x512_S128x512_d0

/-- The stored block of a head's queries. -/
def qaTile (c s : FVec F S8x512 .f32) (v : FVec F S512x512 .f32) (g : FVec F S64x1 .f32) (h : Fin 8) : FVec F S64x512 .bf16 :=
  truncf .bf16 (mulf (turn64 c s (norm64 (head64 v h) g)) (broadcast S64x512 (Scalar.ofBits .f32 0x3E38AA3B#32))) bitsLt_bf16_f32

/-- The stored block of a head's compressed queries. -/
def qbTile (c s : FVec F S16x512 .f32) (v : FVec F S1024x512 .f32) (g : FVec F S128x1 .f32) (h : Fin 8) : FVec F S128x512 .bf16 :=
  truncf .bf16 (mulf (turn128 c s (norm128 0x42C00000#32 (headOf8 v h) g)) (broadcast S128x512 (Scalar.ofBits .f32 0x3E16C740#32)))
    bitsLt_bf16_f32

/-- The stored block of a head's compressed keys, tokens down. -/
def kbTile (c s : FVec F S16x512 .f32) (v : FVec F S512x512 .f32) (r : FVec F S32x512 .f32) (g : FVec F S128x1 .f32) (h : Fin 8) :
    FVec F S512x128 .bf16 :=
  truncf .bf16 (transpose S512x128 [1, 0] (turn128 c s (norm128 0x42C00000#32 (keyHead v r h) g)) transposes_S128x512_p1_0_S512x128)
    bitsLt_bf16_f32

/-- The stored block of two heads' keys, tokens down. -/
def kaTile (c s : FVec F S8x512 .f32) (v : FVec F S512x512 .f32) (g : FVec F S64x1 .f32) (h h' : Fin 8) : FVec F S1x512x128 .bf16 :=
  shapeCast S1x512x128 (truncf .bf16 (transpose S512x128 [1, 0] (concatenate S128x512 0
    [⟨S64x512, turn64 c s (norm64 (head64 v h) g)⟩, ⟨S64x512, turn64 c s (norm64 (head64 v h') g)⟩]
    concatenates_S64x512_S64x512_S128x512_d0) transposes_S128x512_p1_0_S512x128) bitsLt_bf16_f32) shapeCasts_S512x128_S1x512x128

/-- The stored block of a memory head's queries. -/
def qmTile (v : FVec F S512x512 .f32) (g : FVec F S128x1 .f32) (h : Fin 4) : FVec F S128x512 .bf16 :=
  truncf .bf16 (mulf (norm128 0x43000000#32 (head128 v h) g) (broadcast S128x512 (Scalar.ofBits .f32 0x3E0293EE#32))) bitsLt_bf16_f32

/-- The stored block of an indexer head's queries, for one half of the tokens. -/
def qiTile (c s : FVec F S8x512 .f32) (v : FVec F S512x512 .f32) (h : Fin 8) (j : Fin 2) : FVec F S1x64x256 .bf16 :=
  shapeCast S1x64x256 (extractStridedSlice S64x256 ![0, j.val * 256] (truncf .bf16 (mulf (turn64 c s (head64 v h))
    (broadcast S64x512 (Scalar.ofBits .f32 0x3E000000#32))) bitsLt_bf16_f32 : FVec F S64x512 .bf16) (cutHalf j)) shapeCasts_S64x256_S1x64x256

end

/-! ### Read at an element -/

set_option maxRecDepth 16384 in
theorem head64_at (v : FVec Ideal S512x512 .f32) (h : Fin 8) (j : Fin 64) (t : Fin 512) :
    head64 v h (ix2 j t) = v (ix2 ⟨h.val * 64 + j.val, by omega⟩ t) := by
  pointwise [head64]

set_option maxRecDepth 16384 in
theorem head128_at (v : FVec Ideal S512x512 .f32) (h : Fin 4) (j : Fin 128) (t : Fin 512) :
    head128 v h (ix2 j t) = v (ix2 ⟨h.val * 128 + j.val, by omega⟩ t) := by
  pointwise [head128]

set_option maxRecDepth 16384 in
theorem headOf8_at (v : FVec Ideal S1024x512 .f32) (h : Fin 8) (j : Fin 128) (t : Fin 512) :
    headOf8 v h (ix2 j t) = v (ix2 ⟨h.val * 128 + j.val, by omega⟩ t) := by
  pointwise [headOf8]

set_option maxRecDepth 16384 in
theorem norm64_at (z : FVec Ideal S64x512 .f32) (g : FVec Ideal S64x1 .f32) (j : Fin 64) (t : Fin 512) :
    norm64 z g (ix2 j t) = normed 0x42800000#32 (fun j => z (ix2 j t)) (fun j => g (ix2 j 0)) j := by
  pointwise [norm64, normed, scaleOf]

set_option maxRecDepth 16384 in
theorem norm128_at (w : BitVec 32) (z : FVec Ideal S128x512 .f32) (g : FVec Ideal S128x1 .f32) (j : Fin 128) (t : Fin 512) :
    norm128 w z g (ix2 j t) = normed w (fun j => z (ix2 j t)) (fun j => g (ix2 j 0)) j := by
  pointwise [norm128, normed, scaleOf]

set_option maxRecDepth 16384 in
theorem turn64_at (c s : FVec Ideal S8x512 .f32) (z : FVec Ideal S64x512 .f32) (j : Fin 64) (t : Fin 512) :
    turn64 c s z (ix2 j t) = turned64 (fun k => c (ix2 k t)) (fun k => s (ix2 k t)) (fun j => z (ix2 j t)) j := by
  pointwise [turn64, turned64]
  by_cases h1 : j.val < 8
  · simp [h1, Nat.add_comm 8]
  by_cases h2 : j.val < 16
  · simp [h1, h2, show j.val - 8 < 8 by omega, show 8 + (j.val - 8) = j.val by omega]
  · simp [h1, h2, show ¬ j.val - 8 < 8 by omega, show 16 + (j.val - 8 - 8) = j.val by omega]

set_option maxRecDepth 16384 in
theorem turn128_at (c s : FVec Ideal S16x512 .f32) (z : FVec Ideal S128x512 .f32) (j : Fin 128) (t : Fin 512) :
    turn128 c s z (ix2 j t) = turned (by decide) (fun k => c (ix2 k t)) (fun k => s (ix2 k t)) (fun j => z (ix2 j t)) j := by
  pointwise [turn128, turned]
  by_cases h1 : j.val < 64
  · simp [h1]
  by_cases h2 : j.val < 80
  · simp [h1, h2, show j.val - 64 < 16 by omega, show 64 + (j.val - 64) = j.val by omega,
      show 80 + (j.val - 64) = j.val + 16 by omega]
  by_cases h3 : j.val < 96
  · simp [h1, h2, h3, show ¬ j.val - 64 < 16 by omega, show j.val - 80 < 16 by omega, show j.val - 64 - 16 = j.val - 80 by omega,
      show 80 + (j.val - 80) = j.val by omega, show 64 + (j.val - 80) = j.val - 16 by omega]
  · simp [h1, h2, h3, show ¬ j.val - 64 < 16 by omega, show ¬ j.val - 64 - 16 < 16 by omega,
      show 96 + (j.val - 64 - 16 - 16) = j.val by omega]

set_option maxRecDepth 16384 in
theorem keyHead_at (v : FVec Ideal S512x512 .f32) (r : FVec Ideal S32x512 .f32) (h : Fin 8) (j : Fin 128) (t : Fin 512) :
    keyHead v r h (ix2 j t) = padded (fun j => if hj : j.val < 64 then v (ix2 ⟨h.val * 64 + j.val, by omega⟩ t)
      else r (ix2 ⟨j.val - 64, by omega⟩ t)) j := by
  pointwise [keyHead, head64, padded]
  by_cases h1 : j.val < 64
  · simp [h1, show j.val < 96 by omega]
  by_cases h2 : j.val < 96
  · simp [h1, h2, show j.val - 64 < 32 by omega]
  · simp [h1, h2, show ¬ j.val - 64 < 32 by omega]

end Cert.Proof.Proj

end
-- ==== Proof.ProjBlocks.lean ====
/-
  Hand-written, untrusted. The projection kernel's intermediate blocks, each read at an element: the normalised rows, the products
  with the rows of weights, the angles' cosines and sines, and the columns of gains.
-/
module

public import proofs.«01_k».proof.Proof.ProjTiles

@[expose] public section

noncomputable section

namespace Cert.Proof.Proj

open Idealize.ShloMosaic Cert.Kernel3Ideal Cert.Kernel3Ideal.Gen

variable (x0 : Vec Ideal S512x1024 .f32) (x1 : Vec Ideal S1x512 .i32) (x2 : Vec Ideal S3x1024 .f32) (x3 : Vec Ideal S128x7 .f32)
  (h : FVec Ideal S512x1024 .bf16)

/-- A token's normalised row. -/
theorem h_at (t : Fin 512) (d : Fin 1024) :
    k0_pay4 x2 x0 (ix2 t d) = normed 0x44800000#32 (fun k => x0 (ix2 t k)) (fun k => x2 (ix2 0 k)) d := by
  pointwise [k0_pay4, k0_pay2, normed, scaleOf]

theorem cosA_at (k : Fin 8) (t : Fin 512) :
    k0_pay7 x3 x1 (ix2 k t) = FloatOps.cos (F := Ideal) (φ := .f32) (x3 (ix2 ⟨k.val, by omega⟩ 5) * FloatOps.sitofp (F := Ideal) .f32 (x1 (ix2 0 t))) := by
  pointwise [k0_pay7, k0_pay6, k0_pay5, k0_pay3]
theorem sinA_at (k : Fin 8) (t : Fin 512) :
    k0_pay8 x3 x1 (ix2 k t) = FloatOps.sin (F := Ideal) (φ := .f32) (x3 (ix2 ⟨k.val, by omega⟩ 5) * FloatOps.sitofp (F := Ideal) .f32 (x1 (ix2 0 t))) := by
  pointwise [k0_pay8, k0_pay6, k0_pay5, k0_pay3]
theorem cosB_at (k : Fin 16) (t : Fin 512) :
    k0_pay10 x3 x1 (ix2 k t) = FloatOps.cos (F := Ideal) (φ := .f32) (x3 (ix2 ⟨k.val, by omega⟩ 6) * FloatOps.sitofp (F := Ideal) .f32 (x1 (ix2 0 t))) := by
  pointwise [k0_pay10, k0_pay9, k0_pay5, k0_pay3]
theorem sinB_at (k : Fin 16) (t : Fin 512) :
    k0_pay11 x3 x1 (ix2 k t) = FloatOps.sin (F := Ideal) (φ := .f32) (x3 (ix2 ⟨k.val, by omega⟩ 6) * FloatOps.sitofp (F := Ideal) .f32 (x1 (ix2 0 t))) := by
  pointwise [k0_pay11, k0_pay9, k0_pay5, k0_pay3]

theorem gain0_at (j : Fin 64) : k0_pay19 (k0_pay3 x3) (ix2 j 0) = x3 (ix2 ⟨j.val, by omega⟩ 0) := by pointwise [k0_pay19, k0_pay3]
theorem gain1_at (j : Fin 64) : k0_pay106 (k0_pay3 x3) (ix2 j 0) = x3 (ix2 ⟨j.val, by omega⟩ 1) := by pointwise [k0_pay106, k0_pay3]
theorem gain2_at (j : Fin 128) : k0_pay59 (k0_pay3 x3) (ix2 j 0) = x3 (ix2 j 2) := by pointwise [k0_pay59, k0_pay3]
theorem gain3_at (j : Fin 128) : k0_pay83 (k0_pay3 x3) (ix2 j 0) = x3 (ix2 j 3) := by pointwise [k0_pay83, k0_pay3]
theorem gain4_at (j : Fin 128) : k0_pay127 (k0_pay3 x3) (ix2 j 0) = x3 (ix2 j 4) := by pointwise [k0_pay127, k0_pay3]

theorem qa_at (w : Vec Ideal S512x1024 .bf16) (j t : Fin 512) :
    k0_pay14 h w (ix2 j t) = product (fun j d => w (ix2 j d)) (fun d => h (ix2 t d)) j := by pointwise [k0_pay14, product]
theorem ka_at (w : Vec Ideal S512x1024 .bf16) (j t : Fin 512) :
    k0_pay57 h w (ix2 j t) = product (fun j d => w (ix2 j d)) (fun d => h (ix2 t d)) j := by pointwise [k0_pay57, product]
theorem qm_at (w : Vec Ideal S512x1024 .bf16) (j t : Fin 512) :
    k0_pay58 h w (ix2 j t) = product (fun j d => w (ix2 j d)) (fun d => h (ix2 t d)) j := by pointwise [k0_pay58, product]
theorem qi_at (w : Vec Ideal S512x1024 .bf16) (j t : Fin 512) :
    k0_pay103 h w (ix2 j t) = product (fun j d => w (ix2 j d)) (fun d => h (ix2 t d)) j := by pointwise [k0_pay103, product]
theorem va_at (w : Vec Ideal S512x1024 .bf16) (j t : Fin 512) :
    k0_pay134 h w (ix2 j t) = product (fun j d => w (ix2 j d)) (fun d => h (ix2 t d)) j := by pointwise [k0_pay134, product]
theorem kr_at (w : Vec Ideal S32x1024 .bf16) (j : Fin 32) (t : Fin 512) :
    k0_pay18 h w (ix2 j t) = product (fun j d => w (ix2 j d)) (fun d => h (ix2 t d)) j := by pointwise [k0_pay18, product]
theorem ki_at (w : Vec Ideal S64x1024 .bf16) (j : Fin 64) (t : Fin 512) :
    k0_pay104 h w (ix2 j t) = product (fun j d => w (ix2 j d)) (fun d => h (ix2 t d)) j := by pointwise [k0_pay104, product]
theorem wt_at (w : Vec Ideal S16x1024 .bf16) (j : Fin 8) (t : Fin 512) :
    k0_pay105 h w (ix2 j t) = product (fun j d => w (ix2 j d)) (fun d => h (ix2 t d)) (⟨j.val, by omega⟩ : Fin 16) *
      Ideal.ofBits .f32 0x3EB504F3#32 := by pointwise [k0_pay105, product]

theorem cq_at (w : Vec Ideal S1024x384 .bf16) (t : Fin 512) (j : Fin 384) :
    k0_pay12 x2 x0 w (ix2 t j) = ∑ d, k0_pay4 x2 x0 (ix2 t d) * w (ix2 d j) := by pointwise [k0_pay12]
theorem ckv_at (w : Vec Ideal S1024x256 .bf16) (t : Fin 512) (j : Fin 256) :
    k0_pay13 x2 x0 w (ix2 t j) = ∑ d, k0_pay4 x2 x0 (ix2 t d) * w (ix2 d j) := by pointwise [k0_pay13]

theorem ckvn_at (v : FVec Ideal S512x256 .f32) (t : Fin 512) (j : Fin 256) :
    k0_pay15 (k0_pay2 x2) v (ix2 t j) =
      normed 0x43800000#32 (fun k => v (ix2 t k)) (fun k : Fin 256 => x2 (ix2 2 ⟨k.val, by omega⟩)) j := by
  pointwise [k0_pay15, k0_pay2, normed, scaleOf]

theorem qb_at (v : FVec Ideal S512x384 .f32) (w : Vec Ideal S1024x384 .bf16) (j : Fin 1024) (t : Fin 512) :
    k0_pay16 (k0_pay2 x2) v w (ix2 j t) = product (fun j d => w (ix2 j d))
      (normed 0x43C00000#32 (fun k => v (ix2 t k)) (fun k : Fin 384 => x2 (ix2 1 ⟨k.val, by omega⟩))) j := by
  pointwise [k0_pay16, k0_pay2, normed, scaleOf, product]

theorem kn_at (v : FVec Ideal S512x256 .f32) (w : Vec Ideal S512x256 .bf16) (j t : Fin 512) :
    k0_pay17 (k0_pay2 x2) v w (ix2 j t) = product (fun j d => w (ix2 j d)) (fun d => k0_pay15 (k0_pay2 x2) v (ix2 t d)) j := by
  pointwise [k0_pay17, product]
theorem vb_at (v : FVec Ideal S512x256 .bf16) (w : Vec Ideal S512x256 .bf16) (j t : Fin 512) :
    k0_pay133 v w (ix2 j t) = product (fun j d => w (ix2 j d)) (fun d => v (ix2 t d)) j := by pointwise [k0_pay133, product]

/-- The stored indexer keys: a token's turned row, with zeros behind. -/
theorem kis_at (c s : FVec Ideal S8x512 .f32) (z : FVec Ideal S64x512 .f32) (t : Fin 512) (l : Fin 128) :
    k0_pay1 c s z (ix2 t l) = if hl : l.val < 64 then turned64 (fun k => c (ix2 k t)) (fun k => s (ix2 k t)) (fun j => z (ix2 j t)) ⟨l.val, hl⟩
      else 0 := by
  have e : k0_pay1 c s z = truncf .bf16 (transpose S512x128 [1, 0] (concatenate S128x512 0 [⟨S64x512, turn64 c s z⟩,
      ⟨S64x512, broadcast S64x512 (Scalar.ofBits .f32 0x00000000#32)⟩] concatenates_S64x512_S64x512_S128x512_d0)
      transposes_S128x512_p1_0_S512x128) bitsLt_bf16_f32 := rfl
  rw [e]
  generalize hz : turn64 c s z = v
  have hv := fun j => hz ▸ turn64_at c s z j t
  pointwise []
  by_cases hl : l.val < 64
  · simp [hl, hv]
  · simp [hl]

end Cert.Proof.Proj

end
-- ==== Proof.ProjPieces.lean ====
/-
  Hand-written, untrusted. What the projection kernel stores at one point of its grid: for every result, the blocks in the order
  they are stored, and the one function that all of them are parts of.
-/
module

public import proofs.«01_k».proof.Proof.ProjTiles
public import proofs.«01_k».proof.Proof.Gen.Kernel3Ideal.Frame
public import Idealize.ShloMosaic.Lib.Pointwise
public import Idealize.ShloMosaic.Lib.Pipeline.FrameBody

@[expose] public section

noncomputable section

namespace Cert.Proof.Proj

open Idealize.ShloMosaic Cert.Kernel3Ideal Cert.Kernel3Ideal.Gen Idealize.ShloMosaic.TcCoe

section
variable {F : FTy → Type} [FloatOps F]

theorem qa_inb (h : Fin 8) : ∀ a, (![h.val * 128 + h.val % 2 * 64, 0] : Fin 2 → Nat) a + S64x512.size a ≤ S1024x512.size a := by
  revert h; decide
theorem qaz_inb (h : Fin 8) : ∀ a, (![h.val * 128 + (1 - h.val % 2) * 64, 0] : Fin 2 → Nat) a + S64x512.size a ≤ S1024x512.size a := by
  revert h; decide
theorem qi_inb (h : Fin 8) (j : Fin 2) : ∀ a, (![j.val, 0, h.val * 256] : Fin 3 → Nat) a + S1x64x256.size a ≤ S2x128x2048.size a := by
  revert h j; decide
theorem qiz_inb : ∀ a, (![0, 64, 0] : Fin 3 → Nat) a + S2x64x2048.size a ≤ S2x128x2048.size a := by decide
theorem ka_inb (p : Fin 4) : ∀ a, (![p.val, 0, 0] : Fin 3 → Nat) a + S1x512x128.size a ≤ S4x512x128.size a := by revert p; decide
theorem qb_inb (h : Fin 8) : ∀ a, (![h.val * 128, 0] : Fin 2 → Nat) a + S128x512.size a ≤ S1024x512.size a := by revert h; decide
theorem kb_inb (h : Fin 8) : ∀ a, (![0, h.val * 128] : Fin 2 → Nat) a + S512x128.size a ≤ S512x1024.size a := by revert h; decide
theorem qm_inb (h : Fin 4) : ∀ a, (![h.val * 128, 0] : Fin 2 → Nat) a + S128x512.size a ≤ S512x512.size a := by revert h; decide

/-- The eight heads, last first. -/
def heads : List (Fin 8) := [7, 6, 5, 4, 3, 2, 1, 0]

/-- The even head and the odd one of a pair. -/
def even (p : Fin 4) : Fin 8 := ⟨2 * p.val, by omega⟩
@[inherit_doc even] def odd (p : Fin 4) : Fin 8 := ⟨2 * p.val + 1, by omega⟩

/-- The store of a head's queries. -/
def qaPiece (c s : FVec F S8x512 .f32) (v : FVec F S512x512 .f32) (g : FVec F S64x1 .f32) (h : Fin 8) : View.Piece (Elt F) S1024x512 .bf16 :=
  ⟨Rect.unit (s := S1024x512) ![h.val * 128 + h.val % 2 * 64, 0] S64x512.size (qa_inb h), qaTile c s v g h⟩
/-- The store of the zeros beside a head's queries. -/
def qaZero (h : Fin 8) : View.Piece (Elt F) S1024x512 .bf16 :=
  ⟨Rect.unit (s := S1024x512) ![h.val * 128 + (1 - h.val % 2) * 64, 0] S64x512.size (qaz_inb h), broadcast S64x512 (Scalar.ofBits .bf16 0x0000#16)⟩
/-- The queries' stores, last first: each head's block beside a block of zeros. -/
def qaList (c s : FVec F S8x512 .f32) (v : FVec F S512x512 .f32) (g : FVec F S64x1 .f32) : List (View.Piece (Elt F) S1024x512 .bf16) :=
  heads.flatMap fun h => [qaZero h, qaPiece c s v g h]

/-- The store of an indexer head's queries, for one half of the tokens. -/
def qiPiece (c s : FVec F S8x512 .f32) (v : FVec F S512x512 .f32) (h : Fin 8) (j : Fin 2) : View.Piece (Elt F) S2x128x2048 .bf16 :=
  ⟨Rect.unit (s := S2x128x2048) ![j.val, 0, h.val * 256] S1x64x256.size (qi_inb h j), qiTile c s v h j⟩
/-- The store of the zeros below the indexer queries. -/
def qiZero : View.Piece (Elt F) S2x128x2048 .bf16 :=
  ⟨Rect.unit (s := S2x128x2048) ![0, 64, 0] S2x64x2048.size qiz_inb, broadcast S2x64x2048 (Scalar.ofBits .bf16 0x0000#16)⟩
/-- The indexer queries' stores, last first: the lower rows are zeros. -/
def qiList (c s : FVec F S8x512 .f32) (v : FVec F S512x512 .f32) : List (View.Piece (Elt F) S2x128x2048 .bf16) :=
  qiZero :: heads.flatMap fun h => [qiPiece c s v h 1, qiPiece c s v h 0]

/-- The store of a pair of heads' keys. -/
def kaPiece (c s : FVec F S8x512 .f32) (v : FVec F S512x512 .f32) (g : FVec F S64x1 .f32) (p : Fin 4) : View.Piece (Elt F) S4x512x128 .bf16 :=
  ⟨Rect.unit (s := S4x512x128) ![p.val, 0, 0] S1x512x128.size (ka_inb p), kaTile c s v g (even p) (odd p)⟩
/-- The keys' stores, last first. -/
def kaList (c s : FVec F S8x512 .f32) (v : FVec F S512x512 .f32) (g : FVec F S64x1 .f32) : List (View.Piece (Elt F) S4x512x128 .bf16) :=
  [3, 2, 1, 0].map (kaPiece c s v g)

/-- The store of a head's compressed queries. -/
def qbPiece (c s : FVec F S16x512 .f32) (v : FVec F S1024x512 .f32) (g : FVec F S128x1 .f32) (h : Fin 8) :
    View.Piece (Elt F) S1024x512 .bf16 :=
  ⟨Rect.unit (s := S1024x512) ![h.val * 128, 0] S128x512.size (qb_inb h), qbTile c s v g h⟩
/-- The compressed queries' stores, last first. -/
def qbList (c s : FVec F S16x512 .f32) (v : FVec F S1024x512 .f32) (g : FVec F S128x1 .f32) : List (View.Piece (Elt F) S1024x512 .bf16) :=
  heads.map (qbPiece c s v g)

/-- The store of a head's compressed keys. -/
def kbPiece (c s : FVec F S16x512 .f32) (v : FVec F S512x512 .f32) (r : FVec F S32x512 .f32) (g : FVec F S128x1 .f32) (h : Fin 8) :
    View.Piece (Elt F) S512x1024 .bf16 :=
  ⟨Rect.unit (s := S512x1024) ![0, h.val * 128] S512x128.size (kb_inb h), kbTile c s v r g h⟩
/-- The compressed keys' stores, last first. -/
def kbList (c s : FVec F S16x512 .f32) (v : FVec F S512x512 .f32) (r : FVec F S32x512 .f32) (g : FVec F S128x1 .f32) :
    List (View.Piece (Elt F) S512x1024 .bf16) :=
  heads.map (kbPiece c s v r g)

/-- The store of a memory head's queries. -/
def qmPiece (v : FVec F S512x512 .f32) (g : FVec F S128x1 .f32) (h : Fin 4) : View.Piece (Elt F) S512x512 .bf16 :=
  ⟨Rect.unit (s := S512x512) ![h.val * 128, 0] S128x512.size (qm_inb h), qmTile v g h⟩
/-- The memory queries' stores, last first. -/
def qmList (v : FVec F S512x512 .f32) (g : FVec F S128x1 .f32) : List (View.Piece (Elt F) S512x512 .bf16) :=
  [3, 2, 1, 0].map (qmPiece v g)

/-- One store of a whole block. -/
def wholeList {s : Shape} {e : EltTy} (off : Fin s.rank → Nat) (inb : ∀ a, off a + s.size a ≤ s.size a) (x : Vec F s e) :
    List (View.Piece (Elt F) s e) := [⟨Rect.unit (s := s) off s.size inb, x⟩]

theorem zero2 : (![0, 0] : Fin 2 → Nat) = fun _ => 0 := funext fun a => by fin_cases a <;> rfl

theorem inb_S1024x256 : ∀ a, (![0, 0] : Fin 2 → Nat) a + S1024x256.size a ≤ S1024x256.size a := by decide
theorem inb_S1024x384 : ∀ a, (![0, 0] : Fin 2 → Nat) a + S1024x384.size a ≤ S1024x384.size a := by decide
theorem inb_S128x7 : ∀ a, (![0, 0] : Fin 2 → Nat) a + S128x7.size a ≤ S128x7.size a := by decide
theorem inb_S16x1024 : ∀ a, (![0, 0] : Fin 2 → Nat) a + S16x1024.size a ≤ S16x1024.size a := by decide
theorem inb_S1x512 : ∀ a, (![0, 0] : Fin 2 → Nat) a + S1x512.size a ≤ S1x512.size a := by decide
theorem inb_S32x1024 : ∀ a, (![0, 0] : Fin 2 → Nat) a + S32x1024.size a ≤ S32x1024.size a := by decide
theorem inb_S3x1024 : ∀ a, (![0, 0] : Fin 2 → Nat) a + S3x1024.size a ≤ S3x1024.size a := by decide
theorem inb_S512x1024 : ∀ a, (![0, 0] : Fin 2 → Nat) a + S512x1024.size a ≤ S512x1024.size a := by decide
theorem inb_S512x128 : ∀ a, (![0, 0] : Fin 2 → Nat) a + S512x128.size a ≤ S512x128.size a := by decide
theorem inb_S512x256 : ∀ a, (![0, 0] : Fin 2 → Nat) a + S512x256.size a ≤ S512x256.size a := by decide
theorem inb_S512x512 : ∀ a, (![0, 0] : Fin 2 → Nat) a + S512x512.size a ≤ S512x512.size a := by decide
theorem inb_S64x1024 : ∀ a, (![0, 0] : Fin 2 → Nat) a + S64x1024.size a ≤ S64x1024.size a := by decide
theorem inb_S8x512 : ∀ a, (![0, 0] : Fin 2 → Nat) a + S8x512.size a ≤ S8x512.size a := by decide

/-- A load of a whole block, as the body makes it. -/
def got {n0 n1 : Nat} {e : EltTy} (a : Memref sig .tc .vmem ⟨2, ![n0, n1]⟩ e) (h : a.IsWhole) (x : Vec F ⟨2, ![n0, n1]⟩ e)
    (inb : ∀ b, (![0, 0] : Fin 2 → Nat) b + (⟨2, ![n0, n1]⟩ : Shape).size b ≤ (⟨2, ![n0, n1]⟩ : Shape).size b) : Vec F ⟨2, ![n0, n1]⟩ e :=
  View.readAt (Elt F) a.view (Rect.unit (s := ⟨2, ![n0, n1]⟩) ![0, 0] (⟨2, ![n0, n1]⟩ : Shape).size inb).toLoadRect (h.unread x)

/-- A load of a whole block is the block. -/
theorem got_eq {n0 n1 : Nat} {e : EltTy} (a : Memref sig .tc .vmem ⟨2, ![n0, n1]⟩ e) (h : a.IsWhole) (x : Vec F ⟨2, ![n0, n1]⟩ e) (inb) :
    got a h x inb = x := by
  unfold got
  rw [View.readAt_eq_ld, h.read_unread]
  exact View.ld_unit_zero zero2 inb x

variable (c : Dev nD) (i : grid0.Coords) (arg1 : Memref sig .tc .vmem S512x1024 .f32) (harg1 : arg1.IsWhole)
  (arg2 : Memref sig .tc .vmem S1x512 .i32) (harg2 : arg2.IsWhole) (arg3 : Memref sig .tc .vmem S3x1024 .f32) (harg3 : arg3.IsWhole)
  (arg4 : Memref sig .tc .vmem S128x7 .f32) (harg4 : arg4.IsWhole) (arg5 : Memref sig .tc .vmem S512x1024 .bf16) (harg5 : arg5.IsWhole)
  (arg6 : Memref sig .tc .vmem S512x1024 .bf16) (harg6 : arg6.IsWhole)
  (arg7 : Memref sig .tc .vmem S16x1024 .bf16) (harg7 : arg7.IsWhole)
  (arg8 : Memref sig .tc .vmem S512x1024 .bf16) (harg8 : arg8.IsWhole)
  (arg9 : Memref sig .tc .vmem S512x1024 .bf16) (harg9 : arg9.IsWhole)
  (arg10 : Memref sig .tc .vmem S64x1024 .bf16) (harg10 : arg10.IsWhole)
  (arg11 : Memref sig .tc .vmem S1024x384 .bf16) (harg11 : arg11.IsWhole)
  (arg12 : Memref sig .tc .vmem S1024x256 .bf16) (harg12 : arg12.IsWhole)
  (arg13 : Memref sig .tc .vmem S32x1024 .bf16) (harg13 : arg13.IsWhole)
  (arg14 : Memref sig .tc .vmem S512x1024 .bf16) (harg14 : arg14.IsWhole)
  (arg15 : Memref sig .tc .vmem S1024x384 .bf16) (harg15 : arg15.IsWhole)
  (arg16 : Memref sig .tc .vmem S512x256 .bf16) (harg16 : arg16.IsWhole)
  (arg17 : Memref sig .tc .vmem S512x256 .bf16) (harg17 : arg17.IsWhole)
  (arg18 : Memref sig .tc .vmem S1024x512 .bf16) (harg18 : arg18.IsWhole)
  (arg19 : Memref sig .tc .vmem S2x128x2048 .bf16) (harg19 : arg19.IsWhole)
  (arg20 : Memref sig .tc .vmem S8x512 .f32) (harg20 : arg20.IsWhole)
  (arg21 : Memref sig .tc .vmem S4x512x128 .bf16) (harg21 : arg21.IsWhole)
  (arg22 : Memref sig .tc .vmem S512x512 .bf16) (harg22 : arg22.IsWhole)
  (arg23 : Memref sig .tc .vmem S512x128 .bf16) (harg23 : arg23.IsWhole)
  (arg24 : Memref sig .tc .vmem S1024x512 .bf16) (harg24 : arg24.IsWhole)
  (arg25 : Memref sig .tc .vmem S512x1024 .bf16) (harg25 : arg25.IsWhole)
  (arg26 : Memref sig .tc .vmem S512x512 .bf16) (harg26 : arg26.IsWhole)
  (arg27 : Memref sig .tc .vmem S512x512 .bf16) (harg27 : arg27.IsWhole)
  (x0 : Vec F S512x1024 .f32) (x1 : Vec F S1x512 .i32) (x2 : Vec F S3x1024 .f32) (x3 : Vec F S128x7 .f32) (x4 : Vec F S512x1024 .bf16)
  (x5 : Vec F S512x1024 .bf16) (x6 : Vec F S16x1024 .bf16) (x7 : Vec F S512x1024 .bf16) (x8 : Vec F S512x1024 .bf16)
  (x9 : Vec F S64x1024 .bf16) (x10 : Vec F S1024x384 .bf16) (x11 : Vec F S1024x256 .bf16) (x12 : Vec F S32x1024 .bf16)
  (x13 : Vec F S512x1024 .bf16) (x14 : Vec F S1024x384 .bf16) (x15 : Vec F S512x256 .bf16) (x16 : Vec F S512x256 .bf16)

theorem run_qa : (kernelRun0_A c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16).1 = qaList (k0_pay7 (got arg4 harg4 x3 inb_S128x7) (got arg2 harg2 x1 inb_S1x512)) (k0_pay8 (got
    arg4 harg4 x3 inb_S128x7) (got arg2 harg2 x1 inb_S1x512)) (k0_pay14 (k0_pay4 (got arg3 harg3 x2 inb_S3x1024) (got arg1 harg1 x0
    inb_S512x1024)) (got arg5 harg5 x4 inb_S512x1024)) (k0_pay19 (k0_pay3 (got arg4 harg4 x3 inb_S128x7))) := by
  sl_kernel_rfl

theorem run_qi : (kernelRun0_A c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16).2.1 = qiList (k0_pay7 (got arg4 harg4 x3 inb_S128x7) (got arg2 harg2 x1 inb_S1x512)) (k0_pay8 (got
    arg4 harg4 x3 inb_S128x7) (got arg2 harg2 x1 inb_S1x512)) (k0_pay103 (k0_pay4 (got arg3 harg3 x2 inb_S3x1024) (got arg1 harg1 x0
    inb_S512x1024)) (got arg6 harg6 x5 inb_S512x1024)) := by
  sl_kernel_rfl

theorem run_wt : (kernelRun0_A c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16).2.2.1 = wholeList (s := S8x512) ![0, 0] inb_S8x512 (k0_pay105 (k0_pay4 (got arg3 harg3 x2
    inb_S3x1024) (got arg1 harg1 x0 inb_S512x1024)) (got arg7 harg7 x6 inb_S16x1024)) := by
  sl_kernel_rfl

theorem run_ka : (kernelRun0_A c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16).2.2.2.1 = kaList (k0_pay7 (got arg4 harg4 x3 inb_S128x7) (got arg2 harg2 x1 inb_S1x512)) (k0_pay8
    (got arg4 harg4 x3 inb_S128x7) (got arg2 harg2 x1 inb_S1x512)) (k0_pay57 (k0_pay4 (got arg3 harg3 x2 inb_S3x1024) (got arg1 harg1
    x0 inb_S512x1024)) (got arg8 harg8 x7 inb_S512x1024)) (k0_pay106 (k0_pay3 (got arg4 harg4 x3 inb_S128x7))) := by
  sl_kernel_rfl

theorem run_va : (kernelRun0_A c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16).2.2.2.2.1 = wholeList (s := S512x512) ![0, 0] inb_S512x512 (k0_pay134 (k0_pay4 (got arg3 harg3 x2
    inb_S3x1024) (got arg1 harg1 x0 inb_S512x1024)) (got arg9 harg9 x8 inb_S512x1024)) := by
  sl_kernel_rfl

theorem run_ki : (kernelRun0_A c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16).2.2.2.2.2.1 = wholeList (s := S512x128) ![0, 0] inb_S512x128 (k0_pay1 (k0_pay7 (got arg4 harg4 x3
    inb_S128x7) (got arg2 harg2 x1 inb_S1x512)) (k0_pay8 (got arg4 harg4 x3 inb_S128x7) (got arg2 harg2 x1 inb_S1x512)) (k0_pay104
    (k0_pay4 (got arg3 harg3 x2 inb_S3x1024) (got arg1 harg1 x0 inb_S512x1024)) (got arg10 harg10 x9 inb_S64x1024))) := by
  sl_kernel_rfl

theorem run_qb : (kernelRun0_A c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16).2.2.2.2.2.2.1 = qbList (k0_pay10 (got arg4 harg4 x3 inb_S128x7) (got arg2 harg2 x1 inb_S1x512))
    (k0_pay11 (got arg4 harg4 x3 inb_S128x7) (got arg2 harg2 x1 inb_S1x512)) (k0_pay16 (k0_pay2 (got arg3 harg3 x2 inb_S3x1024))
    (k0_pay12 (got arg3 harg3 x2 inb_S3x1024) (got arg1 harg1 x0 inb_S512x1024) (got arg11 harg11 x10 inb_S1024x384)) (got arg15
    harg15 x14 inb_S1024x384)) (k0_pay59 (k0_pay3 (got arg4 harg4 x3 inb_S128x7))) := by
  sl_kernel_rfl

theorem run_kb : (kernelRun0_A c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16).2.2.2.2.2.2.2.1 = kbList (k0_pay10 (got arg4 harg4 x3 inb_S128x7) (got arg2 harg2 x1 inb_S1x512))
    (k0_pay11 (got arg4 harg4 x3 inb_S128x7) (got arg2 harg2 x1 inb_S1x512)) (k0_pay17 (k0_pay2 (got arg3 harg3 x2 inb_S3x1024))
    (k0_pay13 (got arg3 harg3 x2 inb_S3x1024) (got arg1 harg1 x0 inb_S512x1024) (got arg12 harg12 x11 inb_S1024x256)) (got arg16
    harg16 x15 inb_S512x256)) (k0_pay18 (k0_pay4 (got arg3 harg3 x2 inb_S3x1024) (got arg1 harg1 x0 inb_S512x1024)) (got arg13 harg13
    x12 inb_S32x1024)) (k0_pay83 (k0_pay3 (got arg4 harg4 x3 inb_S128x7))) := by
  sl_kernel_rfl

theorem run_vb : (kernelRun0_A c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16).2.2.2.2.2.2.2.2.1 = wholeList (s := S512x512) ![0, 0] inb_S512x512 (k0_pay133 (k0_pay15 (k0_pay2
    (got arg3 harg3 x2 inb_S3x1024)) (k0_pay13 (got arg3 harg3 x2 inb_S3x1024) (got arg1 harg1 x0 inb_S512x1024) (got arg12 harg12 x11
    inb_S1024x256))) (got arg17 harg17 x16 inb_S512x256)) := by
  sl_kernel_rfl

theorem run_qm : (kernelRun0_A c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16).2.2.2.2.2.2.2.2.2.1 = qmList (k0_pay58 (k0_pay4 (got arg3 harg3 x2 inb_S3x1024) (got arg1 harg1 x0
    inb_S512x1024)) (got arg14 harg14 x13 inb_S512x1024)) (k0_pay127 (k0_pay3 (got arg4 harg4 x3 inb_S128x7))) := by
  sl_kernel_rfl

end

end Cert.Proof.Proj

end
-- ==== Proof.ProjOut.lean ====
/-
  Hand-written, untrusted. What the projection kernel leaves in each result's block at one point of its grid, element by element.
-/
module

public import proofs.«01_k».proof.Proof.ProjPieces
public import Idealize.ShloMosaic.Lib.IdealHost

@[expose] public section

noncomputable section

namespace Cert.Proof.Proj

open Idealize.ShloMosaic Cert.Kernel3Ideal Cert.Kernel3Ideal.Gen Idealize.ShloMosaic.TcCoe

section
variable (c s : FVec Ideal S8x512 .f32) (v : FVec Ideal S512x512 .f32) (g : FVec Ideal S64x1 .f32)

/-- The queries' block: a head's rows lie in the half of 128 rows that its parity names, zeros in the other half. -/
def qaAt (i : Fin 1024) (t : Fin 512) : EReal :=
  if i.val % 128 / 64 = i.val / 128 % 2 then qaTile c s v g ⟨i.val / 128, by omega⟩ (ix2 ⟨i.val % 64, by omega⟩ t) else 0

theorem half_own (h x : Nat) (hx : x < 64) : (h * 128 + h % 2 * 64 + 1 * x) % 128 / 64 = (h * 128 + h % 2 * 64 + 1 * x) / 128 % 2 := by
  have e : (h * 128 + h % 2 * 64 + 1 * x) / 128 = h := by omega
  omega

theorem half_other (h x : Nat) (hx : x < 64) :
    ¬ (h * 128 + (1 - h % 2) * 64 + 1 * x) % 128 / 64 = (h * 128 + (1 - h % 2) * 64 + 1 * x) / 128 % 2 := by
  have e : (h * 128 + (1 - h % 2) * 64 + 1 * x) / 128 = h := by omega
  rcases Nat.mod_two_eq_zero_or_one h with h2 | h2 <;> rw [e, h2] <;> omega

theorem qa_pieces : ∀ p ∈ qaList c s v g, ∀ x : p.1.shape.Idx, p.2 x = qaAt c s v g (p.1.emb x 0) (p.1.emb x 1) := by
  intro p hp
  obtain ⟨h, -, hp⟩ := List.mem_flatMap.mp hp
  rcases List.mem_cons.mp hp with rfl | hp
  · intro x
    have hx : (x 0).val < 64 := (x 0).isLt
    have e : ((qaZero (F := Ideal) h).1.emb x 0).val = h.val * 128 + (1 - h.val % 2) * 64 + 1 * (x 0).val := rfl
    unfold qaAt
    refine Eq.trans ?_ (if_neg (half_other h.val (x 0).val hx)).symm
    exact Ideal.ofBits_zero_bf16
  · obtain rfl := List.mem_singleton.mp hp
    intro x
    have hx : (x 0).val < 64 := (x 0).isLt
    have e : ((qaPiece c s v g h).1.emb x 0).val = h.val * 128 + h.val % 2 * 64 + 1 * (x 0).val := rfl
    have e1 : ((qaPiece c s v g h).1.emb x 1).val = 0 + 1 * (x 1).val := rfl
    unfold qaAt
    refine Eq.trans ?_ (if_pos (half_own h.val (x 0).val hx)).symm
    refine Eq.trans (congrArg (qaTile c s v g h) (eq_ix2 (n0 := 64) (n1 := 512) x)) ?_
    exact congr (congrArg (fun h (y : S64x512.Idx) => qaTile c s v g h y) (Fin.ext (by show h.val = (h.val * 128 + h.val % 2 * 64 + 1 * (x 0).val) / 128; omega)))
      (congr (congrArg (ix2 (n0 := 64) (n1 := 512)) (Fin.ext (by show (x 0).val = (h.val * 128 + h.val % 2 * 64 + 1 * (x 0).val) % 64; omega))) (Fin.ext (by show (x 1).val = 0 + 1 * (x 1).val; omega)))

/-- The indexer queries' block: tokens run fastest, then heads; the lower 64 rows are zeros. -/
def qiAt (j : Fin 2) (d : Fin 128) (l : Fin 2048) : EReal :=
  if hd : d.val < 64 then qiTile c s v ⟨l.val / 256, by omega⟩ j (ix3 0 ⟨d.val, hd⟩ ⟨l.val % 256, by omega⟩) else 0

theorem qi_piece (h : Fin 8) (j : Fin 2) (x : (qiPiece c s v h j).1.shape.Idx) :
    (qiPiece c s v h j).2 x = qiAt c s v ((qiPiece c s v h j).1.emb x 0) ((qiPiece c s v h j).1.emb x 1) ((qiPiece c s v h j).1.emb x 2) := by
  have hx0 : (x 0).val < 1 := (x 0).isLt
  have hx1 : (x 1).val < 64 := (x 1).isLt
  have hx2 : (x 2).val < 256 := (x 2).isLt
  have e0 : ((qiPiece c s v h j).1.emb x 0).val = j.val + 1 * (x 0).val := rfl
  have e1 : ((qiPiece c s v h j).1.emb x 1).val = 0 + 1 * (x 1).val := rfl
  have e2 : ((qiPiece c s v h j).1.emb x 2).val = h.val * 256 + 1 * (x 2).val := rfl
  unfold qiAt
  rw [dif_pos (by rw [e1]; omega)]
  refine Eq.trans (congrArg (qiTile c s v h j) (eq_ix3 (n0 := 1) (n1 := 64) (n2 := 256) x)) ?_
  refine congr (congr (congrArg (fun h j (y : S1x64x256.Idx) => qiTile c s v h j y) (Fin.ext (by show h.val = (h.val * 256 + 1 * (x 2).val) / 256; omega)))
    (Fin.ext (by show j.val = j.val + 1 * (x 0).val; omega))) ?_
  exact congr (congr (congrArg (ix3 (n0 := 1) (n1 := 64) (n2 := 256)) (Fin.ext (by show (x 0).val = 0; omega)))
    (Fin.ext (by show (x 1).val = 0 + 1 * (x 1).val; omega))) (Fin.ext (by show (x 2).val = (h.val * 256 + 1 * (x 2).val) % 256; omega))

theorem qi_pieces : ∀ p ∈ qiList c s v, ∀ x : p.1.shape.Idx, p.2 x = qiAt c s v (p.1.emb x 0) (p.1.emb x 1) (p.1.emb x 2) := by
  intro p hp
  rcases List.mem_cons.mp hp with rfl | hp
  · intro x
    have e1 : ((qiZero (F := Ideal)).1.emb x 1).val = 64 + 1 * (x 1).val := rfl
    unfold qiAt
    rw [dif_neg (by rw [e1]; omega)]
    exact Ideal.ofBits_zero_bf16
  · obtain ⟨h, -, hp⟩ := List.mem_flatMap.mp hp
    rcases List.mem_cons.mp hp with rfl | hp
    · exact qi_piece c s v h 1
    · obtain rfl := List.mem_singleton.mp hp
      exact qi_piece c s v h 0

/-- The keys' block: a pair of heads, a token, 128 lanes. -/
def kaAt (p : Fin 4) (t : Fin 512) (l : Fin 128) : EReal := kaTile c s v g (even p) (odd p) (ix3 0 t l)

theorem ka_pieces : ∀ p ∈ kaList c s v g, ∀ x : p.1.shape.Idx, p.2 x = kaAt c s v g (p.1.emb x 0) (p.1.emb x 1) (p.1.emb x 2) := by
  intro p hp
  obtain ⟨h, -, rfl⟩ := List.mem_map.mp hp
  intro x
  have hx0 : (x 0).val < 1 := (x 0).isLt
  have e0 : ((kaPiece c s v g h).1.emb x 0).val = h.val + 1 * (x 0).val := rfl
  have e1 : ((kaPiece c s v g h).1.emb x 1).val = 0 + 1 * (x 1).val := rfl
  have e2 : ((kaPiece c s v g h).1.emb x 2).val = 0 + 1 * (x 2).val := rfl
  unfold kaAt
  refine Eq.trans (congrArg (kaTile c s v g (even h) (odd h)) (eq_ix3 (n0 := 1) (n1 := 512) (n2 := 128) x)) ?_
  refine congr (congrArg (fun h (y : S1x512x128.Idx) => kaTile c s v g (even h) (odd h) y) (Fin.ext (by show h.val = h.val + 1 * (x 0).val; omega))) ?_
  exact congr (congr (congrArg (ix3 (n0 := 1) (n1 := 512) (n2 := 128)) (Fin.ext (by show (x 0).val = 0; omega)))
    (Fin.ext (by show (x 1).val = 0 + 1 * (x 1).val; omega))) (Fin.ext (by show (x 2).val = 0 + 1 * (x 2).val; omega))
end

section
variable (c s : FVec Ideal S16x512 .f32) (v : FVec Ideal S1024x512 .f32) (u : FVec Ideal S512x512 .f32) (r : FVec Ideal S32x512 .f32)
  (g : FVec Ideal S128x1 .f32)

/-- The compressed queries' block. -/
def qbAt (i : Fin 1024) (t : Fin 512) : EReal := qbTile c s v g ⟨i.val / 128, by omega⟩ (ix2 ⟨i.val % 128, by omega⟩ t)

theorem qb_pieces : ∀ p ∈ qbList c s v g, ∀ x : p.1.shape.Idx, p.2 x = qbAt c s v g (p.1.emb x 0) (p.1.emb x 1) := by
  intro p hp
  obtain ⟨h, -, rfl⟩ := List.mem_map.mp hp
  intro x
  have hx : (x 0).val < 128 := (x 0).isLt
  have e : ((qbPiece c s v g h).1.emb x 0).val = h.val * 128 + 1 * (x 0).val := rfl
  have e1 : ((qbPiece c s v g h).1.emb x 1).val = 0 + 1 * (x 1).val := rfl
  unfold qbAt
  refine Eq.trans (congrArg (qbTile c s v g h) (eq_ix2 (n0 := 128) (n1 := 512) x)) ?_
  exact congr (congrArg (fun h (y : S128x512.Idx) => qbTile c s v g h y) (Fin.ext (by show h.val = (h.val * 128 + 1 * (x 0).val) / 128; omega)))
    (congr (congrArg (ix2 (n0 := 128) (n1 := 512)) (Fin.ext (by show (x 0).val = (h.val * 128 + 1 * (x 0).val) % 128; omega))) (Fin.ext (by show (x 1).val = 0 + 1 * (x 1).val; omega)))

/-- The compressed keys' block. -/
def kbAt (t : Fin 512) (i : Fin 1024) : EReal := kbTile c s u r g ⟨i.val / 128, by omega⟩ (ix2 t ⟨i.val % 128, by omega⟩)

theorem kb_pieces : ∀ p ∈ kbList c s u r g, ∀ x : p.1.shape.Idx, p.2 x = kbAt c s u r g (p.1.emb x 0) (p.1.emb x 1) := by
  intro p hp
  obtain ⟨h, -, rfl⟩ := List.mem_map.mp hp
  intro x
  have hx : (x 1).val < 128 := (x 1).isLt
  have e : ((kbPiece c s u r g h).1.emb x 1).val = h.val * 128 + 1 * (x 1).val := rfl
  have e1 : ((kbPiece c s u r g h).1.emb x 0).val = 0 + 1 * (x 0).val := rfl
  unfold kbAt
  refine Eq.trans (congrArg (kbTile c s u r g h) (eq_ix2 (n0 := 512) (n1 := 128) x)) ?_
  exact congr (congrArg (fun h (y : S512x128.Idx) => kbTile c s u r g h y) (Fin.ext (by show h.val = (h.val * 128 + 1 * (x 1).val) / 128; omega)))
    (congr (congrArg (ix2 (n0 := 512) (n1 := 128)) (Fin.ext (by show (x 0).val = 0 + 1 * (x 0).val; omega))) (Fin.ext (by show (x 1).val = (h.val * 128 + 1 * (x 1).val) % 128; omega)))

/-- The memory queries' block. -/
def qmAt (i t : Fin 512) : EReal := qmTile u g ⟨i.val / 128, by omega⟩ (ix2 ⟨i.val % 128, by omega⟩ t)

theorem qm_pieces : ∀ p ∈ qmList u g, ∀ x : p.1.shape.Idx, p.2 x = qmAt u g (p.1.emb x 0) (p.1.emb x 1) := by
  intro p hp
  obtain ⟨h, -, rfl⟩ := List.mem_map.mp hp
  intro x
  have hx : (x 0).val < 128 := (x 0).isLt
  have e : ((qmPiece u g h).1.emb x 0).val = h.val * 128 + 1 * (x 0).val := rfl
  have e1 : ((qmPiece u g h).1.emb x 1).val = 0 + 1 * (x 1).val := rfl
  unfold qmAt
  refine Eq.trans (congrArg (qmTile u g h) (eq_ix2 (n0 := 128) (n1 := 512) x)) ?_
  exact congr (congrArg (fun h (y : S128x512.Idx) => qmTile u g h y) (Fin.ext (by show h.val = (h.val * 128 + 1 * (x 0).val) / 128; omega)))
    (congr (congrArg (ix2 (n0 := 128) (n1 := 512)) (Fin.ext (by show (x 0).val = (h.val * 128 + 1 * (x 0).val) % 128; omega))) (Fin.ext (by show (x 1).val = 0 + 1 * (x 1).val; omega)))
end

/-- A block stored whole. -/
theorem whole_pieces {s : Shape} {e : EltTy} {off : Fin s.rank → Nat} (hz : off = fun _ => 0) (inb : ∀ a, off a + s.size a ≤ s.size a)
    (w : Vec Ideal s e) : ∀ p ∈ wholeList off inb w, ∀ x : p.1.shape.Idx, p.2 x = w (p.1.emb x) := by
  subst hz
  intro p hp
  obtain rfl := List.mem_singleton.mp hp
  intro x
  refine congrArg w (funext fun a => Fin.ext ?_)
  show (x a).val = 0 + 1 * (x a).val
  omega

section
variable (c : Dev nD) (i : grid0.Coords) (arg1 : Memref sig .tc .vmem S512x1024 .f32) (harg1 : arg1.IsWhole)
  (arg2 : Memref sig .tc .vmem S1x512 .i32) (harg2 : arg2.IsWhole) (arg3 : Memref sig .tc .vmem S3x1024 .f32) (harg3 : arg3.IsWhole)
  (arg4 : Memref sig .tc .vmem S128x7 .f32) (harg4 : arg4.IsWhole) (arg5 : Memref sig .tc .vmem S512x1024 .bf16) (harg5 : arg5.IsWhole)
  (arg6 : Memref sig .tc .vmem S512x1024 .bf16) (harg6 : arg6.IsWhole)
  (arg7 : Memref sig .tc .vmem S16x1024 .bf16) (harg7 : arg7.IsWhole)
  (arg8 : Memref sig .tc .vmem S512x1024 .bf16) (harg8 : arg8.IsWhole)
  (arg9 : Memref sig .tc .vmem S512x1024 .bf16) (harg9 : arg9.IsWhole)
  (arg10 : Memref sig .tc .vmem S64x1024 .bf16) (harg10 : arg10.IsWhole)
  (arg11 : Memref sig .tc .vmem S1024x384 .bf16) (harg11 : arg11.IsWhole)
  (arg12 : Memref sig .tc .vmem S1024x256 .bf16) (harg12 : arg12.IsWhole)
  (arg13 : Memref sig .tc .vmem S32x1024 .bf16) (harg13 : arg13.IsWhole)
  (arg14 : Memref sig .tc .vmem S512x1024 .bf16) (harg14 : arg14.IsWhole)
  (arg15 : Memref sig .tc .vmem S1024x384 .bf16) (harg15 : arg15.IsWhole)
  (arg16 : Memref sig .tc .vmem S512x256 .bf16) (harg16 : arg16.IsWhole)
  (arg17 : Memref sig .tc .vmem S512x256 .bf16) (harg17 : arg17.IsWhole)
  (arg18 : Memref sig .tc .vmem S1024x512 .bf16) (harg18 : arg18.IsWhole)
  (arg19 : Memref sig .tc .vmem S2x128x2048 .bf16) (harg19 : arg19.IsWhole)
  (arg20 : Memref sig .tc .vmem S8x512 .f32) (harg20 : arg20.IsWhole)
  (arg21 : Memref sig .tc .vmem S4x512x128 .bf16) (harg21 : arg21.IsWhole)
  (arg22 : Memref sig .tc .vmem S512x512 .bf16) (harg22 : arg22.IsWhole)
  (arg23 : Memref sig .tc .vmem S512x128 .bf16) (harg23 : arg23.IsWhole)
  (arg24 : Memref sig .tc .vmem S1024x512 .bf16) (harg24 : arg24.IsWhole)
  (arg25 : Memref sig .tc .vmem S512x1024 .bf16) (harg25 : arg25.IsWhole)
  (arg26 : Memref sig .tc .vmem S512x512 .bf16) (harg26 : arg26.IsWhole)
  (arg27 : Memref sig .tc .vmem S512x512 .bf16) (harg27 : arg27.IsWhole)
  (x0 : Vec Ideal S512x1024 .f32) (x1 : Vec Ideal S1x512 .i32) (x2 : Vec Ideal S3x1024 .f32) (x3 : Vec Ideal S128x7 .f32)
  (x4 : Vec Ideal S512x1024 .bf16) (x5 : Vec Ideal S512x1024 .bf16) (x6 : Vec Ideal S16x1024 .bf16) (x7 : Vec Ideal S512x1024 .bf16)
  (x8 : Vec Ideal S512x1024 .bf16) (x9 : Vec Ideal S64x1024 .bf16) (x10 : Vec Ideal S1024x384 .bf16) (x11 : Vec Ideal S1024x256 .bf16)
  (x12 : Vec Ideal S32x1024 .bf16) (x13 : Vec Ideal S512x1024 .bf16) (x14 : Vec Ideal S1024x384 .bf16) (x15 : Vec Ideal S512x256 .bf16)
  (x16 : Vec Ideal S512x256 .bf16)

theorem out_qa (a : Fin 1024) (b : Fin 512) : out0_A_17 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16 harg16 arg17
    harg17 arg18 harg18 arg19 harg19 arg20 harg20 arg21 harg21 arg22 harg22 arg23 harg23 arg24 harg24 arg25 harg25 arg26 harg26 arg27
    harg27 x0 x1 x2 x3 x4 x5 x6 x7 x8 x9 x10 x11 x12 x13 x14 x15 x16 (ix2 a b) = qaAt (k0_pay7 x3 x1) (k0_pay8 x3 x1) (k0_pay14
    (k0_pay4 x2 x0) x4) (k0_pay19 (k0_pay3 x3)) a b := by
  have e := run_qa (F := Ideal) c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16
  simp only [got_eq] at e
  unfold out0_A_17
  exact View.read_writes_apply_of_pieces _ _ (fun y => qaAt (k0_pay7 x3 x1) (k0_pay8 x3 x1) (k0_pay14 (k0_pay4 x2 x0) x4) (k0_pay19
    (k0_pay3 x3)) (y 0) (y 1)) _ (fun p hp => qa_pieces (k0_pay7 x3 x1) (k0_pay8 x3 x1) (k0_pay14 (k0_pay4 x2 x0) x4) (k0_pay19
    (k0_pay3 x3)) p (Eq.mp (congrArg (p ∈ ·) e) hp)) _ (cover0_A_17 c i arg1 harg1 arg2 harg2 arg3 harg3 arg4 harg4 arg5 harg5 arg6
    harg6 arg7 harg7 arg8 harg8 arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24 arg25 harg25 arg26 harg26
    arg27 harg27 x0 x1 x2 x3 x4 x5 x6 x7 x8 x9 x10 x11 x12 x13 x14 x15 x16 _)

theorem out_qi (a : Fin 2) (b : Fin 128) (d : Fin 2048) : out0_A_18 c i arg1 harg1 arg2 harg2 arg3 harg3 arg4 harg4 arg5 harg5 arg6
    harg6 arg7 harg7 arg8 harg8 arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24 arg25 harg25 arg26 harg26
    arg27 harg27 x0 x1 x2 x3 x4 x5 x6 x7 x8 x9 x10 x11 x12 x13 x14 x15 x16 (ix3 a b d) = qiAt (k0_pay7 x3 x1) (k0_pay8 x3 x1)
    (k0_pay103 (k0_pay4 x2 x0) x5) a b d := by
  have e := run_qi (F := Ideal) c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16
  simp only [got_eq] at e
  unfold out0_A_18
  exact View.read_writes_apply_of_pieces _ _ (fun y => qiAt (k0_pay7 x3 x1) (k0_pay8 x3 x1) (k0_pay103 (k0_pay4 x2 x0) x5) (y 0) (y 1)
    (y 2)) _ (fun p hp => qi_pieces (k0_pay7 x3 x1) (k0_pay8 x3 x1) (k0_pay103 (k0_pay4 x2 x0) x5) p (Eq.mp (congrArg (p ∈ ·) e) hp))
    _ (cover0_A_18 c i arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20
    arg21 harg21 arg22 harg22 arg23 harg23 arg24 harg24 arg25 harg25 arg26 harg26 arg27 harg27 x0 x1 x2 x3 x4 x5 x6 x7 x8 x9 x10 x11
    x12 x13 x14 x15 x16 _)

theorem out_wt (a : Fin 8) (b : Fin 512) : out0_A_19 c i arg1 harg1 arg2 harg2 arg3 harg3 arg4 harg4 arg5 harg5 arg6 harg6 arg7 harg7
    arg8 harg8 arg9 harg9 arg10 harg10 arg11 harg11 arg12 harg12 arg13 harg13 arg14 harg14 arg15 harg15 arg16 harg16 arg17 harg17
    arg18 harg18 arg19 harg19 arg20 harg20 arg21 harg21 arg22 harg22 arg23 harg23 arg24 harg24 arg25 harg25 arg26 harg26 arg27 harg27
    x0 x1 x2 x3 x4 x5 x6 x7 x8 x9 x10 x11 x12 x13 x14 x15 x16 (ix2 a b) = (k0_pay105 (k0_pay4 x2 x0) x6) (ix2 a b) := by
  have e := run_wt (F := Ideal) c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16
  simp only [got_eq] at e
  unfold out0_A_19
  exact View.read_writes_apply_of_pieces _ _ (fun y => (k0_pay105 (k0_pay4 x2 x0) x6) y) _ (fun p hp => whole_pieces zero2 inb_S8x512
    (k0_pay105 (k0_pay4 x2 x0) x6) p (Eq.mp (congrArg (p ∈ ·) e) hp)) _ (cover0_A_19 c i arg1 harg1 arg2 harg2 arg3 harg3 arg4 harg4
    arg5 harg5 arg6 harg6 arg7 harg7 arg8 harg8 arg9 harg9 arg10 harg10 arg11 harg11 arg12 harg12 arg13 harg13 arg14 harg14 arg15
    harg15 arg16 harg16 arg17 harg17 arg18 harg18 arg19 harg19 arg20 harg20 arg21 harg21 arg22 harg22 arg23 harg23 arg24 harg24 arg25
    harg25 arg26 harg26 arg27 harg27 x0 x1 x2 x3 x4 x5 x6 x7 x8 x9 x10 x11 x12 x13 x14 x15 x16 _)

theorem out_ka (a : Fin 4) (b : Fin 512) (d : Fin 128) : out0_A_20 c i arg1 harg1 arg2 harg2 arg3 harg3 arg4 harg4 arg5 harg5 arg6
    harg6 arg7 harg7 arg8 harg8 arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24 arg25 harg25 arg26 harg26
    arg27 harg27 x0 x1 x2 x3 x4 x5 x6 x7 x8 x9 x10 x11 x12 x13 x14 x15 x16 (ix3 a b d) = kaAt (k0_pay7 x3 x1) (k0_pay8 x3 x1)
    (k0_pay57 (k0_pay4 x2 x0) x7) (k0_pay106 (k0_pay3 x3)) a b d := by
  have e := run_ka (F := Ideal) c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16
  simp only [got_eq] at e
  unfold out0_A_20
  exact View.read_writes_apply_of_pieces _ _ (fun y => kaAt (k0_pay7 x3 x1) (k0_pay8 x3 x1) (k0_pay57 (k0_pay4 x2 x0) x7) (k0_pay106
    (k0_pay3 x3)) (y 0) (y 1) (y 2)) _ (fun p hp => ka_pieces (k0_pay7 x3 x1) (k0_pay8 x3 x1) (k0_pay57 (k0_pay4 x2 x0) x7) (k0_pay106
    (k0_pay3 x3)) p (Eq.mp (congrArg (p ∈ ·) e) hp)) _ (cover0_A_20 c i arg1 harg1 arg2 harg2 arg3 harg3 arg4 harg4 arg5 harg5 arg6
    harg6 arg7 harg7 arg8 harg8 arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24 arg25 harg25 arg26 harg26
    arg27 harg27 x0 x1 x2 x3 x4 x5 x6 x7 x8 x9 x10 x11 x12 x13 x14 x15 x16 _)

theorem out_va (a : Fin 512) (b : Fin 512) : out0_A_21 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16 harg16 arg17
    harg17 arg18 harg18 arg19 harg19 arg20 harg20 arg21 harg21 arg22 harg22 arg23 harg23 arg24 harg24 arg25 harg25 arg26 harg26 arg27
    harg27 x0 x1 x2 x3 x4 x5 x6 x7 x8 x9 x10 x11 x12 x13 x14 x15 x16 (ix2 a b) = (k0_pay134 (k0_pay4 x2 x0) x8) (ix2 a b) := by
  have e := run_va (F := Ideal) c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16
  simp only [got_eq] at e
  unfold out0_A_21
  exact View.read_writes_apply_of_pieces _ _ (fun y => (k0_pay134 (k0_pay4 x2 x0) x8) y) _ (fun p hp => whole_pieces zero2
    inb_S512x512 (k0_pay134 (k0_pay4 x2 x0) x8) p (Eq.mp (congrArg (p ∈ ·) e) hp)) _ (cover0_A_21 c i arg1 harg1 arg2 harg2 arg3 harg3
    arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
    arg25 harg25 arg26 harg26 arg27 harg27 x0 x1 x2 x3 x4 x5 x6 x7 x8 x9 x10 x11 x12 x13 x14 x15 x16 _)

theorem out_ki (a : Fin 512) (b : Fin 128) : out0_A_22 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16 harg16 arg17
    harg17 arg18 harg18 arg19 harg19 arg20 harg20 arg21 harg21 arg22 harg22 arg23 harg23 arg24 harg24 arg25 harg25 arg26 harg26 arg27
    harg27 x0 x1 x2 x3 x4 x5 x6 x7 x8 x9 x10 x11 x12 x13 x14 x15 x16 (ix2 a b) = (k0_pay1 (k0_pay7 x3 x1) (k0_pay8 x3 x1) (k0_pay104
    (k0_pay4 x2 x0) x9)) (ix2 a b) := by
  have e := run_ki (F := Ideal) c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16
  simp only [got_eq] at e
  unfold out0_A_22
  exact View.read_writes_apply_of_pieces _ _ (fun y => (k0_pay1 (k0_pay7 x3 x1) (k0_pay8 x3 x1) (k0_pay104 (k0_pay4 x2 x0) x9)) y) _
    (fun p hp => whole_pieces zero2 inb_S512x128 (k0_pay1 (k0_pay7 x3 x1) (k0_pay8 x3 x1) (k0_pay104 (k0_pay4 x2 x0) x9)) p (Eq.mp
    (congrArg (p ∈ ·) e) hp)) _ (cover0_A_22 c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26 harg26 arg27 harg27 x0 x1
    x2 x3 x4 x5 x6 x7 x8 x9 x10 x11 x12 x13 x14 x15 x16 _)

theorem out_qb (a : Fin 1024) (b : Fin 512) : out0_A_23 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16 harg16 arg17
    harg17 arg18 harg18 arg19 harg19 arg20 harg20 arg21 harg21 arg22 harg22 arg23 harg23 arg24 harg24 arg25 harg25 arg26 harg26 arg27
    harg27 x0 x1 x2 x3 x4 x5 x6 x7 x8 x9 x10 x11 x12 x13 x14 x15 x16 (ix2 a b) = qbAt (k0_pay10 x3 x1) (k0_pay11 x3 x1) (k0_pay16
    (k0_pay2 x2) (k0_pay12 x2 x0 x10) x14) (k0_pay59 (k0_pay3 x3)) a b := by
  have e := run_qb (F := Ideal) c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16
  simp only [got_eq] at e
  unfold out0_A_23
  exact View.read_writes_apply_of_pieces _ _ (fun y => qbAt (k0_pay10 x3 x1) (k0_pay11 x3 x1) (k0_pay16 (k0_pay2 x2) (k0_pay12 x2 x0
    x10) x14) (k0_pay59 (k0_pay3 x3)) (y 0) (y 1)) _ (fun p hp => qb_pieces (k0_pay10 x3 x1) (k0_pay11 x3 x1) (k0_pay16 (k0_pay2 x2)
    (k0_pay12 x2 x0 x10) x14) (k0_pay59 (k0_pay3 x3)) p (Eq.mp (congrArg (p ∈ ·) e) hp)) _ (cover0_A_23 c i arg1 harg1 arg2 harg2 arg3
    harg3 arg4 harg4 arg5 harg5 arg6 harg6 arg7 harg7 arg8 harg8 arg9 harg9 arg10 harg10 arg11 harg11 arg12 harg12 arg13 harg13 arg14
    harg14 arg15 harg15 arg16 harg16 arg17 harg17 arg18 harg18 arg19 harg19 arg20 harg20 arg21 harg21 arg22 harg22 arg23 harg23 arg24
    harg24 arg25 harg25 arg26 harg26 arg27 harg27 x0 x1 x2 x3 x4 x5 x6 x7 x8 x9 x10 x11 x12 x13 x14 x15 x16 _)

theorem out_kb (a : Fin 512) (b : Fin 1024) : out0_A_24 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16 harg16 arg17
    harg17 arg18 harg18 arg19 harg19 arg20 harg20 arg21 harg21 arg22 harg22 arg23 harg23 arg24 harg24 arg25 harg25 arg26 harg26 arg27
    harg27 x0 x1 x2 x3 x4 x5 x6 x7 x8 x9 x10 x11 x12 x13 x14 x15 x16 (ix2 a b) = kbAt (k0_pay10 x3 x1) (k0_pay11 x3 x1) (k0_pay17
    (k0_pay2 x2) (k0_pay13 x2 x0 x11) x15) (k0_pay18 (k0_pay4 x2 x0) x12) (k0_pay83 (k0_pay3 x3)) a b := by
  have e := run_kb (F := Ideal) c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16
  simp only [got_eq] at e
  unfold out0_A_24
  exact View.read_writes_apply_of_pieces _ _ (fun y => kbAt (k0_pay10 x3 x1) (k0_pay11 x3 x1) (k0_pay17 (k0_pay2 x2) (k0_pay13 x2 x0
    x11) x15) (k0_pay18 (k0_pay4 x2 x0) x12) (k0_pay83 (k0_pay3 x3)) (y 0) (y 1)) _ (fun p hp => kb_pieces (k0_pay10 x3 x1) (k0_pay11
    x3 x1) (k0_pay17 (k0_pay2 x2) (k0_pay13 x2 x0 x11) x15) (k0_pay18 (k0_pay4 x2 x0) x12) (k0_pay83 (k0_pay3 x3)) p (Eq.mp (congrArg
    (p ∈ ·) e) hp)) _ (cover0_A_24 c i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 x0 x1 x2 x3 x4 x5
    x6 x7 x8 x9 x10 x11 x12 x13 x14 x15 x16 _)

theorem out_vb (a : Fin 512) (b : Fin 512) : out0_A_25 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16 harg16 arg17
    harg17 arg18 harg18 arg19 harg19 arg20 harg20 arg21 harg21 arg22 harg22 arg23 harg23 arg24 harg24 arg25 harg25 arg26 harg26 arg27
    harg27 x0 x1 x2 x3 x4 x5 x6 x7 x8 x9 x10 x11 x12 x13 x14 x15 x16 (ix2 a b) = (k0_pay133 (k0_pay15 (k0_pay2 x2) (k0_pay13 x2 x0
    x11)) x16) (ix2 a b) := by
  have e := run_vb (F := Ideal) c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16
  simp only [got_eq] at e
  unfold out0_A_25
  exact View.read_writes_apply_of_pieces _ _ (fun y => (k0_pay133 (k0_pay15 (k0_pay2 x2) (k0_pay13 x2 x0 x11)) x16) y) _ (fun p hp =>
    whole_pieces zero2 inb_S512x512 (k0_pay133 (k0_pay15 (k0_pay2 x2) (k0_pay13 x2 x0 x11)) x16) p (Eq.mp (congrArg (p ∈ ·) e) hp)) _
    (cover0_A_25 c i arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20
    arg21 harg21 arg22 harg22 arg23 harg23 arg24 harg24 arg25 harg25 arg26 harg26 arg27 harg27 x0 x1 x2 x3 x4 x5 x6 x7 x8 x9 x10 x11
    x12 x13 x14 x15 x16 _)

theorem out_qm (a : Fin 512) (b : Fin 512) : out0_A_26 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16 harg16 arg17
    harg17 arg18 harg18 arg19 harg19 arg20 harg20 arg21 harg21 arg22 harg22 arg23 harg23 arg24 harg24 arg25 harg25 arg26 harg26 arg27
    harg27 x0 x1 x2 x3 x4 x5 x6 x7 x8 x9 x10 x11 x12 x13 x14 x15 x16 (ix2 a b) = qmAt (k0_pay58 (k0_pay4 x2 x0) x13) (k0_pay127
    (k0_pay3 x3)) a b := by
  have e := run_qm (F := Ideal) c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 x0 x1 x2 x3 x4 x5 x6 x7 x8
    x9 x10 x11 x12 x13 x14 x15 x16
  simp only [got_eq] at e
  unfold out0_A_26
  exact View.read_writes_apply_of_pieces _ _ (fun y => qmAt (k0_pay58 (k0_pay4 x2 x0) x13) (k0_pay127 (k0_pay3 x3)) (y 0) (y 1)) _
    (fun p hp => qm_pieces (k0_pay58 (k0_pay4 x2 x0) x13) (k0_pay127 (k0_pay3 x3)) p (Eq.mp (congrArg (p ∈ ·) e) hp)) _ (cover0_A_26 c
    i arg1 harg1 arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 arg20 harg20 arg21 harg21
    arg22 harg22 arg23 harg23 arg24 harg24 arg25 harg25 arg26 harg26 arg27 harg27 x0 x1 x2 x3 x4 x5 x6 x7 x8 x9 x10 x11 x12 x13 x14
    x15 x16 _)

end

end Cert.Proof.Proj

end
-- ==== Proof.ProjBody.lean ====
/-
  Hand-written, untrusted. One step of the projection's kernel: on blocks that hold the layer's arrays, every stored element is
  the layer's.
-/
module

public import proofs.«01_k».proof.Proof.ProjMath
public import proofs.«01_k».proof.Proof.ProjBlocks
public import proofs.«01_k».proof.Proof.ProjOut

@[expose] public section

noncomputable section

namespace Cert.Proof.Proj

open Idealize.ShloMosaic Idealize.SL.Sem Cert.Kernel3Ideal Cert.Kernel3Ideal.Gen Idealize.ShloMosaic.TcCoe

/-! ### The stored tiles at an element -/

section Tiles

variable (c s : FVec Ideal S8x512 .f32) (c' s' : FVec Ideal S16x512 .f32) (v : FVec Ideal S512x512 .f32)
  (v' : FVec Ideal S1024x512 .f32) (r : FVec Ideal S32x512 .f32) (g : FVec Ideal S64x1 .f32) (g' : FVec Ideal S128x1 .f32)
  (t : Fin 512)

theorem qaTile_at (h : Fin 8) (j : Fin 64) : qaTile c s v g h (ix2 j t) =
    turned64 (fun k => c (ix2 k t)) (fun k => s (ix2 k t)) (normed 0x42800000#32 (fun j : Fin 64 => v (ix2 ⟨h.val * 64 + j.val, by omega⟩ t))
      (fun j => g (ix2 j 0))) j * Ideal.ofBits .f32 0x3E38AA3B#32 := by
  show turn64 c s (norm64 (head64 v h) g) (ix2 j t) * Ideal.ofBits .f32 0x3E38AA3B#32 = _
  rw [turn64_at]
  simp only [norm64_at, head64_at]

theorem qbTile_at (h : Fin 8) (j : Fin 128) : qbTile c' s' v' g' h (ix2 j t) =
    turned (by decide) (fun k => c' (ix2 k t)) (fun k => s' (ix2 k t)) (normed 0x42C00000#32
      (fun j : Fin 128 => v' (ix2 ⟨h.val * 128 + j.val, by omega⟩ t)) (fun j => g' (ix2 j 0))) j * Ideal.ofBits .f32 0x3E16C740#32 := by
  show turn128 c' s' (norm128 0x42C00000#32 (headOf8 v' h) g') (ix2 j t) * Ideal.ofBits .f32 0x3E16C740#32 = _
  rw [turn128_at]
  simp only [norm128_at, headOf8_at]

theorem qmTile_at (h : Fin 4) (j : Fin 128) : qmTile v g' h (ix2 j t) =
    normed 0x43000000#32 (fun j : Fin 128 => v (ix2 ⟨h.val * 128 + j.val, by omega⟩ t)) (fun j => g' (ix2 j 0)) j *
      Ideal.ofBits .f32 0x3E0293EE#32 := by
  show norm128 0x43000000#32 (head128 v h) g' (ix2 j t) * Ideal.ofBits .f32 0x3E0293EE#32 = _
  rw [norm128_at]
  simp only [head128_at]

set_option maxRecDepth 16384 in
theorem kbTile_at (h : Fin 8) (j : Fin 128) : kbTile c' s' v r g' h (ix2 t j) =
    turned (by decide) (fun k => c' (ix2 k t)) (fun k => s' (ix2 k t)) (normed 0x42C00000#32
      (padded fun j => if hj : j.val < 64 then v (ix2 ⟨h.val * 64 + j.val, by omega⟩ t) else r (ix2 ⟨j.val - 64, by omega⟩ t))
      (fun j => g' (ix2 j 0))) j := by
  have e : kbTile c' s' v r g' h (ix2 t j) = turn128 c' s' (norm128 0x42C00000#32 (keyHead v r h) g') (ix2 j t) := by
    unfold kbTile
    generalize turn128 c' s' (norm128 0x42C00000#32 (keyHead v r h) g') = u
    pointwise []
  rw [e, turn128_at]
  simp only [norm128_at, keyHead_at]

set_option maxRecDepth 16384 in
theorem kaTile_at (h h' : Fin 8) (l : Fin 128) : kaTile c s v g h h' (ix3 0 t l) =
    if l.val < 64 then turned64 (fun k => c (ix2 k t)) (fun k => s (ix2 k t)) (normed 0x42800000#32
        (fun j : Fin 64 => v (ix2 ⟨h.val * 64 + j.val, by omega⟩ t)) (fun j => g (ix2 j 0))) ⟨l.val % 64, by omega⟩
    else turned64 (fun k => c (ix2 k t)) (fun k => s (ix2 k t)) (normed 0x42800000#32
        (fun j : Fin 64 => v (ix2 ⟨h'.val * 64 + j.val, by omega⟩ t)) (fun j => g (ix2 j 0))) ⟨l.val % 64, by omega⟩ := by
  have e : ∀ (h : Fin 8) (j : Fin 64), turn64 c s (norm64 (head64 v h) g) (ix2 j t) = turned64 (fun k => c (ix2 k t)) (fun k => s (ix2 k t))
      (normed 0x42800000#32 (fun j : Fin 64 => v (ix2 ⟨h.val * 64 + j.val, by omega⟩ t)) (fun j => g (ix2 j 0))) j := by
    intro h j
    rw [turn64_at]
    simp only [norm64_at, head64_at]
  rw [← e h, ← e h']
  unfold kaTile
  generalize turn64 c s (norm64 (head64 v h) g) = u
  generalize turn64 c s (norm64 (head64 v h') g) = u'
  pointwise []
  by_cases hl : l.val < 64
  · simp [hl, show l.val % 64 = l.val by omega]
  · simp [hl, show l.val % 64 = l.val - 64 by omega]

set_option maxRecDepth 16384 in
theorem qiTile_at (h : Fin 8) (q : Fin 2) (d : Fin 64) (l : Fin 256) : qiTile c s v h q (ix3 0 d l) =
    turned64 (fun k => c (ix2 k ⟨q.val * 256 + l.val, by omega⟩)) (fun k => s (ix2 k ⟨q.val * 256 + l.val, by omega⟩))
      (fun j : Fin 64 => v (ix2 ⟨h.val * 64 + j.val, by omega⟩ ⟨q.val * 256 + l.val, by omega⟩)) d * Ideal.ofBits .f32 0x3E000000#32 := by
  have e : qiTile c s v h q (ix3 0 d l) = turn64 c s (head64 v h) (ix2 d ⟨q.val * 256 + l.val, by omega⟩) * Ideal.ofBits .f32 0x3E000000#32 := by
    unfold qiTile
    generalize turn64 c s (head64 v h) = u
    pointwise []
  rw [e, turn64_at]
  simp only [head64_at]

end Tiles

/-- The blocks of a step hold the layer's arrays, at the tokens `tok`. -/
structure Holds (L : Layer) (tok : Fin 512 → Fin 16384) (x0 : Vec Ideal S512x1024 .f32) (x1 : Vec Ideal S1x512 .i32)
    (x2 : Vec Ideal S3x1024 .f32) (x3 : Vec Ideal S128x7 .f32) (x4 x5 : Vec Ideal S512x1024 .bf16) (x6 : Vec Ideal S16x1024 .bf16)
    (x7 x8 : Vec Ideal S512x1024 .bf16) (x9 : Vec Ideal S64x1024 .bf16) (x10 : Vec Ideal S1024x384 .bf16) (x11 : Vec Ideal S1024x256 .bf16)
    (x12 : Vec Ideal S32x1024 .bf16) (x13 : Vec Ideal S512x1024 .bf16) (x14 : Vec Ideal S1024x384 .bf16)
    (x15 x16 : Vec Ideal S512x256 .bf16) : Prop where
  x : ∀ (t : Fin 512) (d : Fin 1024), x0 (ix2 t d) = L.x (Layer.entryOf (tok t)) (Layer.placeOf (tok t)) d
  pos : ∀ t : Fin 512, x1 (ix2 0 t) = L.pos (Layer.entryOf (tok t)) (Layer.placeOf (tok t))
  row0 : ∀ d : Fin 1024, x2 (ix2 0 d) = L.gNorm d
  row1 : ∀ d : Fin 384, x2 (ix2 1 ⟨d.val, by omega⟩) = L.gCq d
  row2 : ∀ d : Fin 256, x2 (ix2 2 ⟨d.val, by omega⟩) = L.gCkv d
  col0 : ∀ d : Fin 64, x3 (ix2 ⟨d.val, by omega⟩ 0) = Ideal.div (L.gQa d) (Ideal.ofBits .f32 0x3E38AA3B#32)
  col1 : ∀ d : Fin 64, x3 (ix2 ⟨d.val, by omega⟩ 1) = L.gKa d
  col2 : ∀ d : Fin 128, x3 (ix2 d 2) = padded (fun j => Ideal.div (L.gQb j) (Ideal.ofBits .f32 0x3E16C740#32)) d
  col3 : ∀ d : Fin 128, x3 (ix2 d 3) = padded L.gKb d
  col4 : ∀ d : Fin 128, x3 (ix2 d 4) = Ideal.div (L.gQm d) (Ideal.ofBits .f32 0x3E0293EE#32)
  col5 : ∀ (k : Fin 8) (p : BitVec 32), x3 (ix2 ⟨k.val, by omega⟩ 5) * FloatOps.sitofp (F := Ideal) .f32 p = angle 0x41800000#32 k.val p
  col6 : ∀ (k : Fin 16) (p : BitVec 32), x3 (ix2 ⟨k.val, by omega⟩ 6) * FloatOps.sitofp (F := Ideal) .f32 p = angle 0x42000000#32 k.val p
  wqa : ∀ (j : Fin 512) (d : Fin 1024), x4 (ix2 j d) = L.wIn d ⟨j.val, by omega⟩
  wqi : ∀ (j : Fin 512) (d : Fin 1024), x5 (ix2 j d) = L.wIn d ⟨1536 + j.val, by omega⟩
  wwi : ∀ (j : Fin 8) (d : Fin 1024), x6 (ix2 ⟨j.val, by omega⟩ d) = L.wIn d ⟨2112 + j.val, by omega⟩
  wka : ∀ (j : Fin 512) (d : Fin 1024), x7 (ix2 j d) = L.wIn d ⟨512 + j.val, by omega⟩
  wva : ∀ (j : Fin 512) (d : Fin 1024), x8 (ix2 j d) = L.wIn d ⟨1024 + j.val, by omega⟩
  wki : ∀ (j : Fin 64) (d : Fin 1024), x9 (ix2 j d) = L.wIn d ⟨2048 + j.val, by omega⟩
  wcq : ∀ (d : Fin 1024) (j : Fin 384), x10 (ix2 d j) = L.wIn d ⟨2632 + j.val, by omega⟩
  wckv : ∀ (d : Fin 1024) (j : Fin 256), x11 (ix2 d j) = L.wIn d ⟨3016 + j.val, by omega⟩
  wkr : ∀ (j : Fin 32) (d : Fin 1024), x12 (ix2 j d) = L.wIn d ⟨3272 + j.val, by omega⟩
  wqm : ∀ (j : Fin 512) (d : Fin 1024), x13 (ix2 j d) = L.wIn d ⟨3816 + j.val, by omega⟩
  wuq : ∀ (h : Fin 8) (d : Fin 128) (k : Fin 384), x14 (ix2 ⟨h.val * 128 + d.val, by omega⟩ k) =
    if hd : d.val < 96 then L.wUq k ⟨h.val * 96 + d.val, by omega⟩ else 0
  wuk : ∀ (h : Fin 8) (d : Fin 64) (k : Fin 256), x15 (ix2 ⟨h.val * 64 + d.val, by omega⟩ k) = L.wUkv k ⟨h.val * 128 + d.val, by omega⟩
  wuv : ∀ (h : Fin 8) (d : Fin 64) (k : Fin 256), x16 (ix2 ⟨h.val * 64 + d.val, by omega⟩ k) = L.wUkv k ⟨h.val * 128 + (64 + d.val), by omega⟩

section Step

variable {L : Layer} {tok : Fin 512 → Fin 16384} {x0 : Vec Ideal S512x1024 .f32} {x1 : Vec Ideal S1x512 .i32}
  {x2 : Vec Ideal S3x1024 .f32} {x3 : Vec Ideal S128x7 .f32} {x4 x5 : Vec Ideal S512x1024 .bf16} {x6 : Vec Ideal S16x1024 .bf16}
  {x7 x8 : Vec Ideal S512x1024 .bf16} {x9 : Vec Ideal S64x1024 .bf16} {x10 : Vec Ideal S1024x384 .bf16} {x11 : Vec Ideal S1024x256 .bf16}
  {x12 : Vec Ideal S32x1024 .bf16} {x13 : Vec Ideal S512x1024 .bf16} {x14 : Vec Ideal S1024x384 .bf16}
  {x15 x16 : Vec Ideal S512x256 .bf16} (H : Holds L tok x0 x1 x2 x3 x4 x5 x6 x7 x8 x9 x10 x11 x12 x13 x14 x15 x16) (t : Fin 512)

include H

theorem s_h (d : Fin 1024) : k0_pay4 x2 x0 (ix2 t d) = L.h (Layer.entryOf (tok t)) (Layer.placeOf (tok t)) d := by
  rw [h_at]
  simp only [H.x, H.row0]
  rfl

theorem s_cosA (k : Fin 8) : k0_pay7 x3 x1 (ix2 k t) = L.cosA (Layer.entryOf (tok t)) (Layer.placeOf (tok t)) k := by
  rw [cosA_at, H.pos, H.col5]
  rfl
theorem s_sinA (k : Fin 8) : k0_pay8 x3 x1 (ix2 k t) = L.sinA (Layer.entryOf (tok t)) (Layer.placeOf (tok t)) k := by
  rw [sinA_at, H.pos, H.col5]
  rfl
theorem s_cosB (k : Fin 16) : k0_pay10 x3 x1 (ix2 k t) = L.cosB (Layer.entryOf (tok t)) (Layer.placeOf (tok t)) k := by
  rw [cosB_at, H.pos, H.col6]
  rfl
theorem s_sinB (k : Fin 16) : k0_pay11 x3 x1 (ix2 k t) = L.sinB (Layer.entryOf (tok t)) (Layer.placeOf (tok t)) k := by
  rw [sinB_at, H.pos, H.col6]
  rfl

/-- The product of a token's normalised row with weights that are the layer's is the layer's coordinate. -/
theorem s_product {n : Nat} (w : Fin n → Fin 1024 → EReal) (j : Fin n) (J : Nat) (hJ : J < 7912) (hw : ∀ d, w j d = L.wIn d ⟨J, hJ⟩) :
    product w (fun d => k0_pay4 x2 x0 (ix2 t d)) j = L.col (Layer.entryOf (tok t)) (Layer.placeOf (tok t)) J hJ := by
  unfold product Layer.col
  exact Finset.sum_congr rfl fun d _ => congrArg₂ (· * ·) (hw d) (s_h H t d)

theorem s_qa (j : Fin 512) : k0_pay14 (k0_pay4 x2 x0) x4 (ix2 j t) = L.col (Layer.entryOf (tok t)) (Layer.placeOf (tok t)) j.val (by omega) :=
  (qa_at _ _ j t).trans (s_product H t _ j _ _ (H.wqa j))
theorem s_qi (j : Fin 512) : k0_pay103 (k0_pay4 x2 x0) x5 (ix2 j t) =
    L.col (Layer.entryOf (tok t)) (Layer.placeOf (tok t)) (1536 + j.val) (by omega) :=
  (qi_at _ _ j t).trans (s_product H t _ j _ _ (H.wqi j))
theorem s_ka (j : Fin 512) : k0_pay57 (k0_pay4 x2 x0) x7 (ix2 j t) =
    L.col (Layer.entryOf (tok t)) (Layer.placeOf (tok t)) (512 + j.val) (by omega) :=
  (ka_at _ _ j t).trans (s_product H t _ j _ _ (H.wka j))
theorem s_va (j : Fin 512) : k0_pay134 (k0_pay4 x2 x0) x8 (ix2 j t) =
    L.col (Layer.entryOf (tok t)) (Layer.placeOf (tok t)) (1024 + j.val) (by omega) :=
  (va_at _ _ j t).trans (s_product H t _ j _ _ (H.wva j))
theorem s_ki (j : Fin 64) : k0_pay104 (k0_pay4 x2 x0) x9 (ix2 j t) =
    L.col (Layer.entryOf (tok t)) (Layer.placeOf (tok t)) (2048 + j.val) (by omega) :=
  (ki_at _ _ j t).trans (s_product H t _ j _ _ (H.wki j))
theorem s_kr (j : Fin 32) : k0_pay18 (k0_pay4 x2 x0) x12 (ix2 j t) =
    L.col (Layer.entryOf (tok t)) (Layer.placeOf (tok t)) (3272 + j.val) (by omega) :=
  (kr_at _ _ j t).trans (s_product H t _ j _ _ (H.wkr j))
theorem s_qm (j : Fin 512) : k0_pay58 (k0_pay4 x2 x0) x13 (ix2 j t) =
    L.col (Layer.entryOf (tok t)) (Layer.placeOf (tok t)) (3816 + j.val) (by omega) :=
  (qm_at _ _ j t).trans (s_product H t _ j _ _ (H.wqm j))

theorem s_cq (j : Fin 384) : k0_pay12 x2 x0 x10 (ix2 t j) = L.col (Layer.entryOf (tok t)) (Layer.placeOf (tok t)) (2632 + j.val) (by omega) :=
  (cq_at _ _ _ t j).trans (Finset.sum_congr rfl fun d _ => by rw [s_h H, H.wcq, mul_comm])
theorem s_ckv (j : Fin 256) : k0_pay13 x2 x0 x11 (ix2 t j) = L.col (Layer.entryOf (tok t)) (Layer.placeOf (tok t)) (3016 + j.val) (by omega) :=
  (ckv_at _ _ _ t j).trans (Finset.sum_congr rfl fun d _ => by rw [s_h H, H.wckv, mul_comm])

theorem s_ckvn (j : Fin 256) : k0_pay15 (k0_pay2 x2) (k0_pay13 x2 x0 x11) (ix2 t j) = L.ckv (Layer.entryOf (tok t)) (Layer.placeOf (tok t)) j := by
  rw [ckvn_at]
  simp only [s_ckv H, H.row2]
  rfl

theorem s_cqn : normed 0x43C00000#32 (fun k => k0_pay12 x2 x0 x10 (ix2 t k)) (fun k : Fin 384 => x2 (ix2 1 ⟨k.val, by omega⟩)) =
    L.cq (Layer.entryOf (tok t)) (Layer.placeOf (tok t)) := by
  simp only [s_cq H, H.row1]
  rfl

theorem s_qb (h : Fin 8) (d : Fin 128) : k0_pay16 (k0_pay2 x2) (k0_pay12 x2 x0 x10) x14 (ix2 ⟨h.val * 128 + d.val, by omega⟩ t) =
    padded (L.qbRaw (Layer.entryOf (tok t)) (Layer.placeOf (tok t)) h) d := by
  rw [qb_at, s_cqn H]
  unfold product padded Layer.qbRaw
  simp only [H.wuq]
  by_cases hd : d.val < 96
  · simp only [dif_pos hd]
  · simp only [dif_neg hd, zero_mul, Finset.sum_const_zero]

theorem s_kn (h : Fin 8) (d : Fin 64) : k0_pay17 (k0_pay2 x2) (k0_pay13 x2 x0 x11) x15 (ix2 ⟨h.val * 64 + d.val, by omega⟩ t) =
    L.kv (Layer.entryOf (tok t)) (Layer.placeOf (tok t)) (h.val * 128 + d.val) (by omega) := by
  rw [kn_at]
  unfold product Layer.kv
  exact Finset.sum_congr rfl fun k _ => congrArg₂ (· * ·) (H.wuk h d k) (s_ckvn H t k)

theorem s_vb (h : Fin 8) (d : Fin 64) : k0_pay133 (k0_pay15 (k0_pay2 x2) (k0_pay13 x2 x0 x11)) x16 (ix2 ⟨h.val * 64 + d.val, by omega⟩ t) =
    L.kv (Layer.entryOf (tok t)) (Layer.placeOf (tok t)) (h.val * 128 + (64 + d.val)) (by omega) := by
  rw [vb_at]
  unfold product Layer.kv
  exact Finset.sum_congr rfl fun k _ => congrArg₂ (· * ·) (H.wuv h d k) (s_ckvn H t k)

/-! ### The stored elements -/

theorem step_qa (i : Fin 1024) : qaAt (k0_pay7 x3 x1) (k0_pay8 x3 x1) (k0_pay14 (k0_pay4 x2 x0) x4) (k0_pay19 (k0_pay3 x3)) i t =
    L.outQa i (tok t) := by
  unfold qaAt Layer.outQa
  refine if_congr Iff.rfl ?_ rfl
  rw [qaTile_at]
  simp only [s_cosA H, s_sinA H, s_qa H, gain0_at, H.col0]
  exact head64_scale scale_qa _ _ _ _ _ _

theorem step_qi (q : Fin 2) (d : Fin 128) (l : Fin 2048) (Q : Fin 64) (hQ : ∀ (x : Fin 256), (tok ⟨q.val * 256 + x.val, by omega⟩).val = Q.val * 256 + x.val) :
    qiAt (k0_pay7 x3 x1) (k0_pay8 x3 x1) (k0_pay103 (k0_pay4 x2 x0) x5) q d l = L.outQi Q d l := by
  have e : tok ⟨q.val * 256 + l.val % 256, by omega⟩ = ⟨Q.val * 256 + l.val % 256, by omega⟩ := Fin.ext (hQ ⟨l.val % 256, by omega⟩)
  unfold qiAt Layer.outQi
  refine dite_congr rfl (fun hd => ?_) (fun _ => rfl)
  rw [qiTile_at]
  simp only [s_cosA H, s_sinA H, s_qi H]
  rw [e]
  rfl

theorem step_wt (h : Fin 8) : k0_pay105 (k0_pay4 x2 x0) x6 (ix2 h t) = L.outWt h (tok t) := by
  rw [wt_at]
  exact congrArg (· * Ideal.ofBits .f32 0x3EB504F3#32) (s_product H t (fun j d => x6 (ix2 j d)) _ _ _ (H.wwi h))

theorem step_ka (p : Fin 4) (l : Fin 128) : kaAt (k0_pay7 x3 x1) (k0_pay8 x3 x1) (k0_pay57 (k0_pay4 x2 x0) x7) (k0_pay106 (k0_pay3 x3)) p t l =
    L.outKa p (tok t) l := by
  unfold kaAt Layer.outKa
  rw [kaTile_at]
  simp only [s_cosA H, s_sinA H, s_ka H, gain1_at, H.col1]
  by_cases hl : l.val < 64
  · rw [if_pos hl]
    exact congrArg (fun h => L.ka _ _ h _) (Fin.ext (by show 2 * p.val = p.val * 2 + l.val / 64; omega) : even p = _)
  · rw [if_neg hl]
    exact congrArg (fun h => L.ka _ _ h _) (Fin.ext (by show 2 * p.val + 1 = p.val * 2 + l.val / 64; omega) : odd p = _)

theorem step_va (j : Fin 512) : k0_pay134 (k0_pay4 x2 x0) x8 (ix2 j t) = L.outVa j (tok t) := s_va H t j

theorem step_ki (d : Fin 128) : k0_pay1 (k0_pay7 x3 x1) (k0_pay8 x3 x1) (k0_pay104 (k0_pay4 x2 x0) x9) (ix2 t d) = L.outKi (tok t) d := by
  rw [kis_at]
  simp only [s_cosA H, s_sinA H, s_ki H]
  rfl

theorem step_qb (i : Fin 1024) : qbAt (k0_pay10 x3 x1) (k0_pay11 x3 x1) (k0_pay16 (k0_pay2 x2) (k0_pay12 x2 x0 x10) x14)
    (k0_pay59 (k0_pay3 x3)) i t = L.outQb i (tok t) := by
  unfold qbAt Layer.outQb
  rw [qbTile_at]
  have e : (fun j : Fin 128 => k0_pay16 (k0_pay2 x2) (k0_pay12 x2 x0 x10) x14
      (ix2 ⟨(⟨i.val / 128, by omega⟩ : Fin 8).val * 128 + j.val, by omega⟩ t)) =
      padded (L.qbRaw (Layer.entryOf (tok t)) (Layer.placeOf (tok t)) ⟨i.val / 128, by omega⟩) :=
    funext fun j => s_qb H t ⟨i.val / 128, by omega⟩ j
  have eg : (fun j : Fin 128 => k0_pay59 (k0_pay3 x3) (ix2 j 0)) = padded fun j => Ideal.div (L.gQb j) (Ideal.ofBits .f32 0x3E16C740#32) :=
    funext fun j => (gain2_at _ j).trans (H.col2 j)
  rw [e, eg]
  simp only [s_cosB H, s_sinB H]
  exact head128_scale scale_qb _ _ _ _ _ _ _

theorem step_kb (i : Fin 1024) : kbAt (k0_pay10 x3 x1) (k0_pay11 x3 x1) (k0_pay17 (k0_pay2 x2) (k0_pay13 x2 x0 x11) x15)
    (k0_pay18 (k0_pay4 x2 x0) x12) (k0_pay83 (k0_pay3 x3)) t i = L.outKb (tok t) i := by
  unfold kbAt Layer.outKb
  rw [kbTile_at]
  have e : (fun j : Fin 96 => if hj : j.val < 64 then
      k0_pay17 (k0_pay2 x2) (k0_pay13 x2 x0 x11) x15 (ix2 ⟨(⟨i.val / 128, by omega⟩ : Fin 8).val * 64 + j.val, by omega⟩ t)
      else k0_pay18 (k0_pay4 x2 x0) x12 (ix2 ⟨j.val - 64, by omega⟩ t)) =
      L.kbRaw (Layer.entryOf (tok t)) (Layer.placeOf (tok t)) ⟨i.val / 128, by omega⟩ :=
    funext fun j => dite_congr rfl (fun hj => s_kn H t ⟨i.val / 128, by omega⟩ ⟨j.val, hj⟩) (fun hj => s_kr H t ⟨j.val - 64, by omega⟩)
  have eg : (fun j : Fin 128 => k0_pay83 (k0_pay3 x3) (ix2 j 0)) = padded L.gKb := funext fun j => (gain3_at _ j).trans (H.col3 j)
  rw [e, eg]
  simp only [s_cosB H, s_sinB H]
  exact head128_keys _ _ _ _ _ _ _

theorem step_vb (i : Fin 512) : k0_pay133 (k0_pay15 (k0_pay2 x2) (k0_pay13 x2 x0 x11)) x16 (ix2 i t) = L.outVb i (tok t) := by
  refine Eq.trans ?_ (s_vb H t ⟨i.val / 64, by omega⟩ ⟨i.val % 64, by omega⟩)
  exact congrArg (fun i => k0_pay133 (k0_pay15 (k0_pay2 x2) (k0_pay13 x2 x0 x11)) x16 (ix2 i t))
    (Fin.ext (by show i.val = i.val / 64 * 64 + i.val % 64; omega))

theorem step_qm (i : Fin 512) : qmAt (k0_pay58 (k0_pay4 x2 x0) x13) (k0_pay127 (k0_pay3 x3)) i t = L.outQm i (tok t) := by
  unfold qmAt Layer.outQm
  rw [qmTile_at]
  simp only [s_qm H, gain4_at, H.col4]
  exact normed_scale scale_qm _ _ _ _

end Step

end Cert.Proof.Proj

end
-- ==== Proof.ProjHost.lean ====
/-
  Hand-written, untrusted. The arrays that the projection's kernel is launched on, read at an index: the host lines before the
  launch cut the weights up, pad heads and gains, and divide the queries' gains by the scales that the kernel multiplies with.
-/
module

public import proofs.«01_k».proof.Proof.ProjSpec
public import proofs.«01_k».proof.Proof.Gen.Kernel3Ideal.Frame
public import Idealize.ShloMosaic.PureOps.Ideal.Laws
public import Idealize.ShloMosaic.Lib.StableHlo.ReadAt

@[expose] public section

noncomputable section

namespace Cert.Proof.Proj

open Idealize.ShloMosaic Idealize.SL.Sem Cert.Kernel3Ideal Cert.Kernel3Ideal.Gen Idealize.ShloMosaic.TcCoe

variable (m : (ℓ : Loc nD τ sig) → Buf (Elt Ideal) ℓ) (c : Dev nD)

def argX : Vec Ideal S8x2048x1024 .f32 := m ((c.tc : Thread nD τ).loc main_arg0)
def argPos : Vec Ideal S8x2048 .i32 := m ((c.tc : Thread nD τ).loc main_arg1)
def argGNorm : Vec Ideal S1x1024 .f32 := m ((c.tc : Thread nD τ).loc main_arg2)
def argWIn : Vec Ideal S1x1024x7912 .f32 := m ((c.tc : Thread nD τ).loc main_arg3)
def argGQa : Vec Ideal S1x64 .f32 := m ((c.tc : Thread nD τ).loc main_arg4)
def argGKa : Vec Ideal S1x64 .f32 := m ((c.tc : Thread nD τ).loc main_arg5)
def argGCq : Vec Ideal S1x384 .f32 := m ((c.tc : Thread nD τ).loc main_arg6)
def argGCkv : Vec Ideal S1x256 .f32 := m ((c.tc : Thread nD τ).loc main_arg7)
def argWUq : Vec Ideal S1x384x768 .f32 := m ((c.tc : Thread nD τ).loc main_arg8)
def argWUkv : Vec Ideal S1x256x1024 .f32 := m ((c.tc : Thread nD τ).loc main_arg9)
def argGQb : Vec Ideal S1x96 .f32 := m ((c.tc : Thread nD τ).loc main_arg10)
def argGKb : Vec Ideal S1x96 .f32 := m ((c.tc : Thread nD τ).loc main_arg11)
def argGQm : Vec Ideal S1x128 .f32 := m ((c.tc : Thread nD τ).loc main_arg12)

/-- What the program is started on, as the layer's inputs. -/
def layer : Layer where
  x b s d := argX m c (ix3 b s d)
  pos b s := argPos m c (ix2 b s)
  gNorm d := argGNorm m c (ix2 0 d)
  wIn d j := argWIn m c (ix3 0 d j)
  gQa d := argGQa m c (ix2 0 d)
  gKa d := argGKa m c (ix2 0 d)
  gCq d := argGCq m c (ix2 0 d)
  gCkv d := argGCkv m c (ix2 0 d)
  wUq k j := argWUq m c (ix3 0 k j)
  wUkv k j := argWUkv m c (ix3 0 k j)
  gQb d := argGQb m c (ix2 0 d)
  gKb d := argGKb m c (ix2 0 d)
  gQm d := argGQm m c (ix2 0 d)

theorem pad_zero' : (FloatOps.sitofp (F := Ideal) FTy.f32 0#32 : EReal) = 0 := by
  show (((0#32).toInt : ℝ) : EReal) = 0
  simp

set_option maxRecDepth 16384 in
theorem V_x (n : Fin 16384) (d : Fin 1024) : (V m c main_v102 : Vec Ideal S16384x1024 .f32) (ix2 n d) =
    (layer m c).x (Layer.entryOf n) (Layer.placeOf n) d := by
  have hn := n.isLt
  have hd := d.isLt
  unfold V
  after_reads_at
  rfl

set_option maxRecDepth 16384 in
theorem V_pos (n : Fin 16384) : (V m c main_v103 : Vec Ideal S1x16384 .i32) (ix2 0 n) =
    (layer m c).pos (Layer.entryOf n) (Layer.placeOf n) := by
  have hn := n.isLt
  unfold V
  after_reads_at
  rfl

set_option maxRecDepth 16384 in
theorem V_wqa (j : Fin 512) (d : Fin 1024) : (V m c main_v3 : Vec Ideal S512x1024 .bf16) (ix2 j d) =
    (layer m c).wIn d ⟨j.val, by omega⟩ := by
  have hj := j.isLt
  have hd := d.isLt
  unfold V
  after_reads_at
  rfl

set_option maxRecDepth 16384 in
theorem V_wka (j : Fin 512) (d : Fin 1024) : (V m c main_v6 : Vec Ideal S512x1024 .bf16) (ix2 j d) =
    (layer m c).wIn d ⟨512 + j.val, by omega⟩ := by
  have hj := j.isLt
  have hd := d.isLt
  unfold V
  after_reads_at
  rfl

set_option maxRecDepth 16384 in
theorem V_wva (j : Fin 512) (d : Fin 1024) : (V m c main_v9 : Vec Ideal S512x1024 .bf16) (ix2 j d) =
    (layer m c).wIn d ⟨1024 + j.val, by omega⟩ := by
  have hj := j.isLt
  have hd := d.isLt
  unfold V
  after_reads_at
  rfl

set_option maxRecDepth 16384 in
theorem V_wqi (j : Fin 512) (d : Fin 1024) : (V m c main_v12 : Vec Ideal S512x1024 .bf16) (ix2 j d) =
    (layer m c).wIn d ⟨1536 + j.val, by omega⟩ := by
  have hj := j.isLt
  have hd := d.isLt
  unfold V
  after_reads_at
  rfl

set_option maxRecDepth 16384 in
theorem V_wqm (j : Fin 512) (d : Fin 1024) : (V m c main_v15 : Vec Ideal S512x1024 .bf16) (ix2 j d) =
    (layer m c).wIn d ⟨3816 + j.val, by omega⟩ := by
  have hj := j.isLt
  have hd := d.isLt
  unfold V
  after_reads_at
  rfl

set_option maxRecDepth 16384 in
theorem V_wki (j : Fin 64) (d : Fin 1024) : (V m c main_v18 : Vec Ideal S64x1024 .bf16) (ix2 j d) =
    (layer m c).wIn d ⟨2048 + j.val, by omega⟩ := by
  have hj := j.isLt
  have hd := d.isLt
  unfold V
  after_reads_at
  rfl

set_option maxRecDepth 16384 in
theorem V_wkr (j : Fin 32) (d : Fin 1024) : (V m c main_v21 : Vec Ideal S32x1024 .bf16) (ix2 j d) =
    (layer m c).wIn d ⟨3272 + j.val, by omega⟩ := by
  have hj := j.isLt
  have hd := d.isLt
  unfold V
  after_reads_at
  rfl

set_option maxRecDepth 16384 in
theorem V_wwi (j : Fin 8) (d : Fin 1024) : (V m c main_v25 : Vec Ideal S16x1024 .bf16) (ix2 ⟨j.val, by omega⟩ d) =
    (layer m c).wIn d ⟨2112 + j.val, by omega⟩ := by
  have hj := j.isLt
  have hd := d.isLt
  unfold V
  after_reads_at
  try after_reads_at
  rfl

set_option maxRecDepth 16384 in
theorem V_wcq (d : Fin 1024) (j : Fin 384) : (V m c main_v27 : Vec Ideal S1024x384 .bf16) (ix2 d j) =
    (layer m c).wIn d ⟨2632 + j.val, by omega⟩ := by
  have hj := j.isLt
  have hd := d.isLt
  unfold V
  after_reads_at
  rfl

set_option maxRecDepth 16384 in
theorem V_wckv (d : Fin 1024) (j : Fin 256) : (V m c main_v29 : Vec Ideal S1024x256 .bf16) (ix2 d j) =
    (layer m c).wIn d ⟨3016 + j.val, by omega⟩ := by
  have hj := j.isLt
  have hd := d.isLt
  unfold V
  after_reads_at
  rfl

set_option maxRecDepth 16384 in
theorem V_wuq (h : Fin 8) (d : Fin 128) (k : Fin 384) : (V m c main_v35 : Vec Ideal S1024x384 .bf16) (ix2 ⟨h.val * 128 + d.val, by omega⟩ k) =
    if hd : d.val < 96 then (layer m c).wUq k ⟨h.val * 96 + d.val, by omega⟩ else 0 := by
  have hh := h.isLt
  have hd := d.isLt
  have hk := k.isLt
  unfold V
  after_reads_at
  try after_reads_at
  by_cases hx : d.val < 96
  · refine (dif_pos (⟨by omega, by omega⟩ : _ ∧ _)).trans (Eq.trans ?_ (dif_pos hx).symm)
    exact congrArg (fun j => argWUq m c (ix3 0 k j)) (Fin.ext (by
      show (h.val * 128 + d.val) / 128 * 96 + (h.val * 128 + d.val) % 128 = h.val * 96 + d.val; omega))
  · refine (dif_neg fun h => hx (by omega)).trans (Eq.trans ?_ (dif_neg hx).symm)
    exact pad_zero'

set_option maxRecDepth 16384 in
theorem V_wuk (h : Fin 8) (d : Fin 64) (k : Fin 256) : (V m c main_v41 : Vec Ideal S512x256 .bf16) (ix2 ⟨h.val * 64 + d.val, by omega⟩ k) =
    (layer m c).wUkv k ⟨h.val * 128 + d.val, by omega⟩ := by
  have hh := h.isLt
  have hd := d.isLt
  have hk := k.isLt
  unfold V
  after_reads_at
  try after_reads_at
  exact congrArg (fun j => argWUkv m c (ix3 0 k j)) (Fin.ext (by
    show (h.val * 64 + d.val) / 64 * 128 + (h.val * 64 + d.val) % 64 = h.val * 128 + d.val; omega))

set_option maxRecDepth 16384 in
theorem V_wuv (h : Fin 8) (d : Fin 64) (k : Fin 256) : (V m c main_v45 : Vec Ideal S512x256 .bf16) (ix2 ⟨h.val * 64 + d.val, by omega⟩ k) =
    (layer m c).wUkv k ⟨h.val * 128 + (64 + d.val), by omega⟩ := by
  have hh := h.isLt
  have hd := d.isLt
  have hk := k.isLt
  unfold V
  after_reads_at
  try after_reads_at
  exact congrArg (fun j => argWUkv m c (ix3 0 k j)) (Fin.ext (by
    show (h.val * 64 + d.val) / 64 * 128 + (64 + (h.val * 64 + d.val) % 64) = h.val * 128 + (64 + d.val); omega))

set_option maxRecDepth 16384 in
theorem V_row0 (d : Fin 1024) : (V m c main_v101 : Vec Ideal S3x1024 .f32) (ix2 0 d) =
    (layer m c).gNorm d := by
  have hd := d.isLt
  unfold V
  after_reads_at
  try after_reads_at
  rfl

set_option maxRecDepth 16384 in
theorem V_row1 (d : Fin 384) : (V m c main_v101 : Vec Ideal S3x1024 .f32) (ix2 1 ⟨d.val, by omega⟩) =
    (layer m c).gCq d := by
  have hd := d.isLt
  unfold V
  after_reads_at
  try after_reads_at
  rfl

set_option maxRecDepth 16384 in
theorem V_row2 (d : Fin 256) : (V m c main_v101 : Vec Ideal S3x1024 .f32) (ix2 2 ⟨d.val, by omega⟩) =
    (layer m c).gCkv d := by
  have hd := d.isLt
  unfold V
  after_reads_at
  try after_reads_at
  rfl

set_option maxRecDepth 16384 in
theorem V_col0 (d : Fin 64) : (V m c main_v91 : Vec Ideal S128x7 .f32) (ix2 ⟨d.val, by omega⟩ 0) =
    Ideal.div ((layer m c).gQa d) (Ideal.ofBits .f32 0x3E38AA3B#32) := by
  have hd := d.isLt
  unfold V
  after_reads_at
  try after_reads_at
  rfl

set_option maxRecDepth 16384 in
theorem V_col1 (d : Fin 64) : (V m c main_v91 : Vec Ideal S128x7 .f32) (ix2 ⟨d.val, by omega⟩ 1) =
    (layer m c).gKa d := by
  have hd := d.isLt
  unfold V
  after_reads_at
  try after_reads_at
  rfl

set_option maxRecDepth 16384 in
theorem V_col2 (d : Fin 128) : (V m c main_v91 : Vec Ideal S128x7 .f32) (ix2 d 2) =
    padded (fun j => Ideal.div ((layer m c).gQb j) (Ideal.ofBits .f32 0x3E16C740#32)) d := by
  have hd := d.isLt
  unfold V
  after_reads_at
  try after_reads_at
  exact dite_congr rfl (fun _ => rfl) (fun _ => pad_zero')

set_option maxRecDepth 16384 in
theorem V_col3 (d : Fin 128) : (V m c main_v91 : Vec Ideal S128x7 .f32) (ix2 d 3) =
    padded (layer m c).gKb d := by
  have hd := d.isLt
  unfold V
  after_reads_at
  try after_reads_at
  exact dite_congr rfl (fun _ => rfl) (fun _ => pad_zero')

set_option maxRecDepth 16384 in
theorem V_col4 (d : Fin 128) : (V m c main_v91 : Vec Ideal S128x7 .f32) (ix2 d 4) =
    Ideal.div ((layer m c).gQm d) (Ideal.ofBits .f32 0x3E0293EE#32) := by
  have hd := d.isLt
  unfold V
  after_reads_at
  try after_reads_at
  rfl

set_option maxRecDepth 16384 in
theorem V_col5 (k : Fin 8) : (V m c main_v91 : Vec Ideal S128x7 .f32) (ix2 ⟨k.val, by omega⟩ 5) =
    FloatOps.powf (F := Ideal) (φ := .f32) (Ideal.ofBits .f32 0x48F42400#32) (-(Ideal.div (Ideal.ofBits .f32 0x40000000#32 * FloatOps.sitofp (F := Ideal) .f32 (BitVec.ofNat 32 k.val)) (Ideal.ofBits .f32 0x41800000#32))) := by
  have hk := k.isLt
  unfold V
  after_reads_at
  try after_reads_at
  refine congrArg (fun z => Ideal.pow (Ideal.ofBits .f32 0x48F42400#32) (-(Ideal.div z _))) ?_
  exact (congrArg (· + _) Ideal.ofBits_zero_f32).trans (zero_add _)

set_option maxRecDepth 16384 in
theorem V_col6 (k : Fin 16) : (V m c main_v91 : Vec Ideal S128x7 .f32) (ix2 ⟨k.val, by omega⟩ 6) =
    FloatOps.powf (F := Ideal) (φ := .f32) (Ideal.ofBits .f32 0x48F42400#32) (-(Ideal.div (Ideal.ofBits .f32 0x40000000#32 * FloatOps.sitofp (F := Ideal) .f32 (BitVec.ofNat 32 k.val)) (Ideal.ofBits .f32 0x42000000#32))) := by
  have hk := k.isLt
  unfold V
  after_reads_at
  try after_reads_at
  refine congrArg (fun z => Ideal.pow (Ideal.ofBits .f32 0x48F42400#32) (-(Ideal.div z _))) ?_
  exact (congrArg (· + _) Ideal.ofBits_zero_f32).trans (zero_add _)

end Cert.Proof.Proj

end
-- ==== Proof.ProjRun.lean ====
/-
  Hand-written, untrusted. The projection's kernel run with its value: every step's blocks hold the layer's arrays at its 512
  tokens, so what it writes back is its part of the layer's results, and the steps cover them.
-/
module

public import proofs.«01_k».proof.Proof.ProjBody
public import proofs.«01_k».proof.Proof.ProjHost
public import proofs.«01_k».proof.Proof.Gen.Kernel3Ideal.Value

@[expose] public section

noncomputable section

namespace Cert.Proof.Proj

open Idealize.ShloMosaic Idealize.SL.Sem Cert.Kernel3Ideal Cert.Kernel3Ideal.Gen Idealize.ShloMosaic.TcCoe
open Idealize.ShloMosaic.Pipeline (Dat)

variable (m : (ℓ : Loc nD τ sig) → Buf (Elt Ideal) ℓ) (c : Dev nD)

/-! ### Which block a step's windows read and write -/

theorem at0 : ∀ t : Fin cfg0.N, win0_0.index t 0 = t.val ∧ win0_0.index t 1 = 0 := (by decide +kernel : ∀ t : Fin grid0.N, _)
theorem at1 : ∀ t : Fin cfg0.N, win0_1.index t 0 = 0 ∧ win0_1.index t 1 = t.val := (by decide +kernel : ∀ t : Fin grid0.N, _)
theorem at2 : ∀ t : Fin cfg0.N, win0_2.index t 0 = 0 ∧ win0_2.index t 1 = 0 := (by decide +kernel : ∀ t : Fin grid0.N, _)
theorem at3 : ∀ t : Fin cfg0.N, win0_3.index t 0 = 0 ∧ win0_3.index t 1 = 0 := (by decide +kernel : ∀ t : Fin grid0.N, _)
theorem at4 : ∀ t : Fin cfg0.N, win0_4.index t 0 = 0 ∧ win0_4.index t 1 = 0 := (by decide +kernel : ∀ t : Fin grid0.N, _)
theorem at5 : ∀ t : Fin cfg0.N, win0_5.index t 0 = 0 ∧ win0_5.index t 1 = 0 := (by decide +kernel : ∀ t : Fin grid0.N, _)
theorem at6 : ∀ t : Fin cfg0.N, win0_6.index t 0 = 0 ∧ win0_6.index t 1 = 0 := (by decide +kernel : ∀ t : Fin grid0.N, _)
theorem at7 : ∀ t : Fin cfg0.N, win0_7.index t 0 = 0 ∧ win0_7.index t 1 = 0 := (by decide +kernel : ∀ t : Fin grid0.N, _)
theorem at8 : ∀ t : Fin cfg0.N, win0_8.index t 0 = 0 ∧ win0_8.index t 1 = 0 := (by decide +kernel : ∀ t : Fin grid0.N, _)
theorem at9 : ∀ t : Fin cfg0.N, win0_9.index t 0 = 0 ∧ win0_9.index t 1 = 0 := (by decide +kernel : ∀ t : Fin grid0.N, _)
theorem at10 : ∀ t : Fin cfg0.N, win0_10.index t 0 = 0 ∧ win0_10.index t 1 = 0 := (by decide +kernel : ∀ t : Fin grid0.N, _)
theorem at11 : ∀ t : Fin cfg0.N, win0_11.index t 0 = 0 ∧ win0_11.index t 1 = 0 := (by decide +kernel : ∀ t : Fin grid0.N, _)
theorem at12 : ∀ t : Fin cfg0.N, win0_12.index t 0 = 0 ∧ win0_12.index t 1 = 0 := (by decide +kernel : ∀ t : Fin grid0.N, _)
theorem at13 : ∀ t : Fin cfg0.N, win0_13.index t 0 = 0 ∧ win0_13.index t 1 = 0 := (by decide +kernel : ∀ t : Fin grid0.N, _)
theorem at14 : ∀ t : Fin cfg0.N, win0_14.index t 0 = 0 ∧ win0_14.index t 1 = 0 := (by decide +kernel : ∀ t : Fin grid0.N, _)
theorem at15 : ∀ t : Fin cfg0.N, win0_15.index t 0 = 0 ∧ win0_15.index t 1 = 0 := (by decide +kernel : ∀ t : Fin grid0.N, _)
theorem at16 : ∀ t : Fin cfg0.N, win0_16.index t 0 = 0 ∧ win0_16.index t 1 = 0 := (by decide +kernel : ∀ t : Fin grid0.N, _)
theorem at17 : ∀ t : Fin cfg0.N, win0_17.index t 0 = 0 ∧ win0_17.index t 1 = t.val := (by decide +kernel : ∀ t : Fin grid0.N, _)
theorem at18 : ∀ t : Fin cfg0.N, win0_18.index t 0 = t.val ∧ win0_18.index t 1 = 0 ∧ win0_18.index t 2 = 0 := (by decide +kernel : ∀ t : Fin grid0.N, _)
theorem at19 : ∀ t : Fin cfg0.N, win0_19.index t 0 = 0 ∧ win0_19.index t 1 = t.val := (by decide +kernel : ∀ t : Fin grid0.N, _)
theorem at20 : ∀ t : Fin cfg0.N, win0_20.index t 0 = 0 ∧ win0_20.index t 1 = t.val ∧ win0_20.index t 2 = 0 := (by decide +kernel : ∀ t : Fin grid0.N, _)
theorem at21 : ∀ t : Fin cfg0.N, win0_21.index t 0 = 0 ∧ win0_21.index t 1 = t.val := (by decide +kernel : ∀ t : Fin grid0.N, _)
theorem at22 : ∀ t : Fin cfg0.N, win0_22.index t 0 = t.val ∧ win0_22.index t 1 = 0 := (by decide +kernel : ∀ t : Fin grid0.N, _)
theorem at23 : ∀ t : Fin cfg0.N, win0_23.index t 0 = 0 ∧ win0_23.index t 1 = t.val := (by decide +kernel : ∀ t : Fin grid0.N, _)
theorem at24 : ∀ t : Fin cfg0.N, win0_24.index t 0 = t.val ∧ win0_24.index t 1 = 0 := (by decide +kernel : ∀ t : Fin grid0.N, _)
theorem at25 : ∀ t : Fin cfg0.N, win0_25.index t 0 = 0 ∧ win0_25.index t 1 = t.val := (by decide +kernel : ∀ t : Fin grid0.N, _)
theorem at26 : ∀ t : Fin cfg0.N, win0_26.index t 0 = 0 ∧ win0_26.index t 1 = t.val := (by decide +kernel : ∀ t : Fin grid0.N, _)

/-- A step's tokens. -/
def tok (t : Fin cfg0.N) (r : Fin 512) : Fin 16384 := ⟨t.val * 512 + r.val, by have h : t.val < 32 := t.isLt; omega⟩

/-! ### The blocks read -/

theorem blk0 (t : Fin cfg0.N) (r : Fin 512) (q : Fin 1024) :
    (iblk m c 0 t : Vec Ideal S512x1024 .f32) (ix2 r q) = (V m c main_v102 : Vec Ideal S16384x1024 .f32) (ix2 (tok t r) q) := by
  refine congrArg (V m c main_v102 : Vec Ideal S16384x1024 .f32) (funext fun a => Fin.ext ?_)
  have h := at0 t
  match a with
  | ⟨0, _⟩ => show win0_0.index t 0 * 512 + 1 * r.val = t.val * 512 + r.val; rw [h.1]; omega
  | ⟨1, _⟩ => show win0_0.index t 1 * 1024 + 1 * q.val = q.val; rw [h.2]; omega

theorem blk1 (t : Fin cfg0.N) (r : Fin 1) (q : Fin 512) :
    (iblk m c 1 t : Vec Ideal S1x512 .i32) (ix2 r q) = (V m c main_v103 : Vec Ideal S1x16384 .i32) (ix2 r (tok t q)) := by
  refine congrArg (V m c main_v103 : Vec Ideal S1x16384 .i32) (funext fun a => Fin.ext ?_)
  have h := at1 t
  match a with
  | ⟨0, _⟩ => show win0_1.index t 0 * 1 + 1 * r.val = r.val; rw [h.1]; omega
  | ⟨1, _⟩ => show win0_1.index t 1 * 512 + 1 * q.val = t.val * 512 + q.val; rw [h.2]; omega

theorem blk2 (t : Fin cfg0.N) (r : Fin 3) (q : Fin 1024) :
    (iblk m c 2 t : Vec Ideal S3x1024 .f32) (ix2 r q) = (V m c main_v101 : Vec Ideal S3x1024 .f32) (ix2 r q) := by
  refine congrArg (V m c main_v101 : Vec Ideal S3x1024 .f32) (funext fun a => Fin.ext ?_)
  have h := at2 t
  match a with
  | ⟨0, _⟩ => show win0_2.index t 0 * 3 + 1 * r.val = r.val; rw [h.1]; omega
  | ⟨1, _⟩ => show win0_2.index t 1 * 1024 + 1 * q.val = q.val; rw [h.2]; omega

theorem blk3 (t : Fin cfg0.N) (r : Fin 128) (q : Fin 7) :
    (iblk m c 3 t : Vec Ideal S128x7 .f32) (ix2 r q) = (V m c main_v91 : Vec Ideal S128x7 .f32) (ix2 r q) := by
  refine congrArg (V m c main_v91 : Vec Ideal S128x7 .f32) (funext fun a => Fin.ext ?_)
  have h := at3 t
  match a with
  | ⟨0, _⟩ => show win0_3.index t 0 * 128 + 1 * r.val = r.val; rw [h.1]; omega
  | ⟨1, _⟩ => show win0_3.index t 1 * 7 + 1 * q.val = q.val; rw [h.2]; omega

theorem blk4 (t : Fin cfg0.N) (r : Fin 512) (q : Fin 1024) :
    (iblk m c 4 t : Vec Ideal S512x1024 .bf16) (ix2 r q) = (V m c main_v3 : Vec Ideal S512x1024 .bf16) (ix2 r q) := by
  refine congrArg (V m c main_v3 : Vec Ideal S512x1024 .bf16) (funext fun a => Fin.ext ?_)
  have h := at4 t
  match a with
  | ⟨0, _⟩ => show win0_4.index t 0 * 512 + 1 * r.val = r.val; rw [h.1]; omega
  | ⟨1, _⟩ => show win0_4.index t 1 * 1024 + 1 * q.val = q.val; rw [h.2]; omega

theorem blk5 (t : Fin cfg0.N) (r : Fin 512) (q : Fin 1024) :
    (iblk m c 5 t : Vec Ideal S512x1024 .bf16) (ix2 r q) = (V m c main_v12 : Vec Ideal S512x1024 .bf16) (ix2 r q) := by
  refine congrArg (V m c main_v12 : Vec Ideal S512x1024 .bf16) (funext fun a => Fin.ext ?_)
  have h := at5 t
  match a with
  | ⟨0, _⟩ => show win0_5.index t 0 * 512 + 1 * r.val = r.val; rw [h.1]; omega
  | ⟨1, _⟩ => show win0_5.index t 1 * 1024 + 1 * q.val = q.val; rw [h.2]; omega

theorem blk6 (t : Fin cfg0.N) (r : Fin 16) (q : Fin 1024) :
    (iblk m c 6 t : Vec Ideal S16x1024 .bf16) (ix2 r q) = (V m c main_v25 : Vec Ideal S16x1024 .bf16) (ix2 r q) := by
  refine congrArg (V m c main_v25 : Vec Ideal S16x1024 .bf16) (funext fun a => Fin.ext ?_)
  have h := at6 t
  match a with
  | ⟨0, _⟩ => show win0_6.index t 0 * 16 + 1 * r.val = r.val; rw [h.1]; omega
  | ⟨1, _⟩ => show win0_6.index t 1 * 1024 + 1 * q.val = q.val; rw [h.2]; omega

theorem blk7 (t : Fin cfg0.N) (r : Fin 512) (q : Fin 1024) :
    (iblk m c 7 t : Vec Ideal S512x1024 .bf16) (ix2 r q) = (V m c main_v6 : Vec Ideal S512x1024 .bf16) (ix2 r q) := by
  refine congrArg (V m c main_v6 : Vec Ideal S512x1024 .bf16) (funext fun a => Fin.ext ?_)
  have h := at7 t
  match a with
  | ⟨0, _⟩ => show win0_7.index t 0 * 512 + 1 * r.val = r.val; rw [h.1]; omega
  | ⟨1, _⟩ => show win0_7.index t 1 * 1024 + 1 * q.val = q.val; rw [h.2]; omega

theorem blk8 (t : Fin cfg0.N) (r : Fin 512) (q : Fin 1024) :
    (iblk m c 8 t : Vec Ideal S512x1024 .bf16) (ix2 r q) = (V m c main_v9 : Vec Ideal S512x1024 .bf16) (ix2 r q) := by
  refine congrArg (V m c main_v9 : Vec Ideal S512x1024 .bf16) (funext fun a => Fin.ext ?_)
  have h := at8 t
  match a with
  | ⟨0, _⟩ => show win0_8.index t 0 * 512 + 1 * r.val = r.val; rw [h.1]; omega
  | ⟨1, _⟩ => show win0_8.index t 1 * 1024 + 1 * q.val = q.val; rw [h.2]; omega

theorem blk9 (t : Fin cfg0.N) (r : Fin 64) (q : Fin 1024) :
    (iblk m c 9 t : Vec Ideal S64x1024 .bf16) (ix2 r q) = (V m c main_v18 : Vec Ideal S64x1024 .bf16) (ix2 r q) := by
  refine congrArg (V m c main_v18 : Vec Ideal S64x1024 .bf16) (funext fun a => Fin.ext ?_)
  have h := at9 t
  match a with
  | ⟨0, _⟩ => show win0_9.index t 0 * 64 + 1 * r.val = r.val; rw [h.1]; omega
  | ⟨1, _⟩ => show win0_9.index t 1 * 1024 + 1 * q.val = q.val; rw [h.2]; omega

theorem blk10 (t : Fin cfg0.N) (r : Fin 1024) (q : Fin 384) :
    (iblk m c 10 t : Vec Ideal S1024x384 .bf16) (ix2 r q) = (V m c main_v27 : Vec Ideal S1024x384 .bf16) (ix2 r q) := by
  refine congrArg (V m c main_v27 : Vec Ideal S1024x384 .bf16) (funext fun a => Fin.ext ?_)
  have h := at10 t
  match a with
  | ⟨0, _⟩ => show win0_10.index t 0 * 1024 + 1 * r.val = r.val; rw [h.1]; omega
  | ⟨1, _⟩ => show win0_10.index t 1 * 384 + 1 * q.val = q.val; rw [h.2]; omega

theorem blk11 (t : Fin cfg0.N) (r : Fin 1024) (q : Fin 256) :
    (iblk m c 11 t : Vec Ideal S1024x256 .bf16) (ix2 r q) = (V m c main_v29 : Vec Ideal S1024x256 .bf16) (ix2 r q) := by
  refine congrArg (V m c main_v29 : Vec Ideal S1024x256 .bf16) (funext fun a => Fin.ext ?_)
  have h := at11 t
  match a with
  | ⟨0, _⟩ => show win0_11.index t 0 * 1024 + 1 * r.val = r.val; rw [h.1]; omega
  | ⟨1, _⟩ => show win0_11.index t 1 * 256 + 1 * q.val = q.val; rw [h.2]; omega

theorem blk12 (t : Fin cfg0.N) (r : Fin 32) (q : Fin 1024) :
    (iblk m c 12 t : Vec Ideal S32x1024 .bf16) (ix2 r q) = (V m c main_v21 : Vec Ideal S32x1024 .bf16) (ix2 r q) := by
  refine congrArg (V m c main_v21 : Vec Ideal S32x1024 .bf16) (funext fun a => Fin.ext ?_)
  have h := at12 t
  match a with
  | ⟨0, _⟩ => show win0_12.index t 0 * 32 + 1 * r.val = r.val; rw [h.1]; omega
  | ⟨1, _⟩ => show win0_12.index t 1 * 1024 + 1 * q.val = q.val; rw [h.2]; omega

theorem blk13 (t : Fin cfg0.N) (r : Fin 512) (q : Fin 1024) :
    (iblk m c 13 t : Vec Ideal S512x1024 .bf16) (ix2 r q) = (V m c main_v15 : Vec Ideal S512x1024 .bf16) (ix2 r q) := by
  refine congrArg (V m c main_v15 : Vec Ideal S512x1024 .bf16) (funext fun a => Fin.ext ?_)
  have h := at13 t
  match a with
  | ⟨0, _⟩ => show win0_13.index t 0 * 512 + 1 * r.val = r.val; rw [h.1]; omega
  | ⟨1, _⟩ => show win0_13.index t 1 * 1024 + 1 * q.val = q.val; rw [h.2]; omega

theorem blk14 (t : Fin cfg0.N) (r : Fin 1024) (q : Fin 384) :
    (iblk m c 14 t : Vec Ideal S1024x384 .bf16) (ix2 r q) = (V m c main_v35 : Vec Ideal S1024x384 .bf16) (ix2 r q) := by
  refine congrArg (V m c main_v35 : Vec Ideal S1024x384 .bf16) (funext fun a => Fin.ext ?_)
  have h := at14 t
  match a with
  | ⟨0, _⟩ => show win0_14.index t 0 * 1024 + 1 * r.val = r.val; rw [h.1]; omega
  | ⟨1, _⟩ => show win0_14.index t 1 * 384 + 1 * q.val = q.val; rw [h.2]; omega

theorem blk15 (t : Fin cfg0.N) (r : Fin 512) (q : Fin 256) :
    (iblk m c 15 t : Vec Ideal S512x256 .bf16) (ix2 r q) = (V m c main_v41 : Vec Ideal S512x256 .bf16) (ix2 r q) := by
  refine congrArg (V m c main_v41 : Vec Ideal S512x256 .bf16) (funext fun a => Fin.ext ?_)
  have h := at15 t
  match a with
  | ⟨0, _⟩ => show win0_15.index t 0 * 512 + 1 * r.val = r.val; rw [h.1]; omega
  | ⟨1, _⟩ => show win0_15.index t 1 * 256 + 1 * q.val = q.val; rw [h.2]; omega

theorem blk16 (t : Fin cfg0.N) (r : Fin 512) (q : Fin 256) :
    (iblk m c 16 t : Vec Ideal S512x256 .bf16) (ix2 r q) = (V m c main_v45 : Vec Ideal S512x256 .bf16) (ix2 r q) := by
  refine congrArg (V m c main_v45 : Vec Ideal S512x256 .bf16) (funext fun a => Fin.ext ?_)
  have h := at16 t
  match a with
  | ⟨0, _⟩ => show win0_16.index t 0 * 512 + 1 * r.val = r.val; rw [h.1]; omega
  | ⟨1, _⟩ => show win0_16.index t 1 * 256 + 1 * q.val = q.val; rw [h.2]; omega

/-- A step's blocks hold the layer's arrays at its tokens. -/
theorem holds (t : Fin cfg0.N) : Holds (layer m c) (tok t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t) (iblk m
    c 13 t) (iblk m c 14 t) (iblk m c 15 t) (iblk m c 16 t) where
  x := fun r d => (blk0 m c t r d).trans (V_x m c _ d)
  pos := fun r => (blk1 m c t 0 r).trans (V_pos m c _)
  row0 := fun d => (blk2 m c t _ _).trans (V_row0 m c d)
  row1 := fun d => (blk2 m c t _ _).trans (V_row1 m c d)
  row2 := fun d => (blk2 m c t _ _).trans (V_row2 m c d)
  col0 := fun d => (blk3 m c t _ _).trans (V_col0 m c d)
  col1 := fun d => (blk3 m c t _ _).trans (V_col1 m c d)
  col2 := fun d => (blk3 m c t _ _).trans (V_col2 m c d)
  col3 := fun d => (blk3 m c t _ _).trans (V_col3 m c d)
  col4 := fun d => (blk3 m c t _ _).trans (V_col4 m c d)
  col5 := fun k p => congrArg (· * FloatOps.sitofp (F := Ideal) .f32 p) ((blk3 m c t _ _).trans (V_col5 m c k))
  col6 := fun k p => congrArg (· * FloatOps.sitofp (F := Ideal) .f32 p) ((blk3 m c t _ _).trans (V_col6 m c k))
  wqa := fun j d => (blk4 m c t j d).trans (V_wqa m c j d)
  wqi := fun j d => (blk5 m c t j d).trans (V_wqi m c j d)
  wka := fun j d => (blk7 m c t j d).trans (V_wka m c j d)
  wva := fun j d => (blk8 m c t j d).trans (V_wva m c j d)
  wki := fun j d => (blk9 m c t j d).trans (V_wki m c j d)
  wkr := fun j d => (blk12 m c t j d).trans (V_wkr m c j d)
  wqm := fun j d => (blk13 m c t j d).trans (V_wqm m c j d)
  wwi := fun j d => (blk6 m c t _ d).trans (V_wwi m c j d)
  wcq := fun d j => (blk10 m c t d j).trans (V_wcq m c d j)
  wckv := fun d j => (blk11 m c t d j).trans (V_wckv m c d j)
  wuq := fun h d k => (blk14 m c t _ k).trans (V_wuq m c h d k)
  wuk := fun h d k => (blk15 m c t _ k).trans (V_wuk m c h d k)
  wuv := fun h d k => (blk16 m c t _ k).trans (V_wuv m c h d k)

/-! ### The arrays written -/

def result_qa : Vec Ideal S1024x16384 .bf16 := fun i => (layer m c).outQa (i 0) (i 1)

theorem flushed_qa (t : Fin cfg0.N) : (dats m 0 c).flushed 17 t = ((cfg0.win 17).blk t).view.read (Elt Ideal) (result_qa m c) := by
  rw [Value.flushed17_A]
  funext y
  obtain ⟨a, b, rfl⟩ : ∃ (a : Fin 1024) (b : Fin 512), y = ix2 a b := ⟨y 0, y 1, eq_ix2 y⟩
  have hy : (((cfg0.win 17).blk t).view.read (Elt Ideal) (result_qa m c)) (ix2 a b) = result_qa m c (ix2 a (tok t b)) := by
    refine congrArg (result_qa m c) (funext fun x => Fin.ext ?_)
    have h := at17 t
    match x with
    | ⟨0, _⟩ => show win0_17.index t 0 * 1024 + 1 * a.val = a.val; rw [h.1]; omega
    | ⟨1, _⟩ => show win0_17.index t 1 * 512 + 1 * b.val = t.val * 512 + b.val; rw [h.2]; omega
  rw [hy]
  refine (out_qa c (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t) (ms0_16 t) (hs0_16
    t) (ms0_17 t) (hs0_17 t) (ms0_18 t) (hs0_18 t) (ms0_19 t) (hs0_19 t) (ms0_20 t) (hs0_20 t) (ms0_21 t) (hs0_21 t) (ms0_22 t)
    (hs0_22 t) (ms0_23 t) (hs0_23 t) (ms0_24 t) (hs0_24 t) (ms0_25 t) (hs0_25 t) (ms0_26 t) (hs0_26 t) (iblk m c 0 t) (iblk m c 1 t)
    (iblk m c 2 t) (iblk m c 3 t) (iblk m c 4 t) (iblk m c 5 t) (iblk m c 6 t) (iblk m c 7 t) (iblk m c 8 t) (iblk m c 9 t) (iblk m c
    10 t) (iblk m c 11 t) (iblk m c 12 t) (iblk m c 13 t) (iblk m c 14 t) (iblk m c 15 t) (iblk m c 16 t) a b).trans ?_
  exact step_qa (holds m c t) b a

theorem cover_qa (i : S1024x16384.Idx) : ∃ t : Fin cfg0.N, (cfg0.win 17).flush t = true ∧ i ∈ ((cfg0.win 17).blk t).view.set := by
  have h0 : (i 1 : Nat) < 16384 := (i 1).isLt
  let t : Fin cfg0.N := ⟨(i 1 : Nat) / 512, by show (i 1 : Nat) / 512 < 32; omega⟩
  refine ⟨t, flush0_17 _, ?_⟩
  show i ∈ ((View.whole main_v104_0).slice (win0_17.rect t)).set
  rw [View.set_slice_whole, Rect.mem_set_unit]
  intro a
  have h := at17 t
  match a with
  | ⟨0, _⟩ => show win0_17.index t 0 * 1024 ≤ (i 0 : Nat) ∧ (i 0 : Nat) < win0_17.index t 0 * 1024 + 1024
              rw [h.1, Nat.zero_mul, Nat.zero_add]; exact ⟨Nat.zero_le _, (i 0).isLt⟩
  | ⟨1, _⟩ => show win0_17.index t 1 * 512 ≤ (i 1 : Nat) ∧ (i 1 : Nat) < win0_17.index t 1 * 512 + 512
              rw [h.2]; exact ⟨by show (i 1 : Nat) / 512 * 512 ≤ _; omega, by show _ < (i 1 : Nat) / 512 * 512 + 512; omega⟩

theorem final_qa : (dats m 0 c).arrAt 17 cfg0.N = result_qa m c :=
  (dats m 0 c).arrAt_eq_of_cover 17 (result_qa m c) (fun t _ => flushed_qa m c t) cover_qa

def result_qi : Vec Ideal S64x128x2048 .bf16 := fun i => (layer m c).outQi (i 0) (i 1) (i 2)

theorem flushed_qi (t : Fin cfg0.N) : (dats m 0 c).flushed 18 t = ((cfg0.win 18).blk t).view.read (Elt Ideal) (result_qi m c) := by
  rw [Value.flushed18_A]
  funext y
  obtain ⟨a, b, d, rfl⟩ : ∃ (a : Fin 2) (b : Fin 128) (d : Fin 2048), y = ix3 a b d := ⟨y 0, y 1, y 2, eq_ix3 y⟩
  have hy : (((cfg0.win 18).blk t).view.read (Elt Ideal) (result_qi m c)) (ix3 a b d) = result_qi m c (ix3 ⟨t.val * 2 + a.val, by have h : t.val < 32 := t.isLt; omega⟩ b d) := by
    refine congrArg (result_qi m c) (funext fun x => Fin.ext ?_)
    have h := at18 t
    match x with
    | ⟨0, _⟩ => show win0_18.index t 0 * 2 + 1 * a.val = t.val * 2 + a.val; rw [h.1]; omega
    | ⟨1, _⟩ => show win0_18.index t 1 * 128 + 1 * b.val = b.val; rw [h.2.1]; omega
    | ⟨2, _⟩ => show win0_18.index t 2 * 2048 + 1 * d.val = d.val; rw [h.2.2]; omega
  rw [hy]
  refine (out_qi c (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t) (ms0_16 t) (hs0_16
    t) (ms0_17 t) (hs0_17 t) (ms0_18 t) (hs0_18 t) (ms0_19 t) (hs0_19 t) (ms0_20 t) (hs0_20 t) (ms0_21 t) (hs0_21 t) (ms0_22 t)
    (hs0_22 t) (ms0_23 t) (hs0_23 t) (ms0_24 t) (hs0_24 t) (ms0_25 t) (hs0_25 t) (ms0_26 t) (hs0_26 t) (iblk m c 0 t) (iblk m c 1 t)
    (iblk m c 2 t) (iblk m c 3 t) (iblk m c 4 t) (iblk m c 5 t) (iblk m c 6 t) (iblk m c 7 t) (iblk m c 8 t) (iblk m c 9 t) (iblk m c
    10 t) (iblk m c 11 t) (iblk m c 12 t) (iblk m c 13 t) (iblk m c 14 t) (iblk m c 15 t) (iblk m c 16 t) a b d).trans ?_
  exact step_qi (holds m c t) a b d ⟨t.val * 2 + a.val, by have h : t.val < 32 := t.isLt; omega⟩
    (fun x => by show t.val * 512 + (a.val * 256 + x.val) = (t.val * 2 + a.val) * 256 + x.val; omega)

theorem cover_qi (i : S64x128x2048.Idx) : ∃ t : Fin cfg0.N, (cfg0.win 18).flush t = true ∧ i ∈ ((cfg0.win 18).blk t).view.set := by
  have h0 : (i 0 : Nat) < 64 := (i 0).isLt
  let t : Fin cfg0.N := ⟨(i 0 : Nat) / 2, by show (i 0 : Nat) / 2 < 32; omega⟩
  refine ⟨t, flush0_18 _, ?_⟩
  show i ∈ ((View.whole main_v104_1).slice (win0_18.rect t)).set
  rw [View.set_slice_whole, Rect.mem_set_unit]
  intro a
  have h := at18 t
  match a with
  | ⟨0, _⟩ => show win0_18.index t 0 * 2 ≤ (i 0 : Nat) ∧ (i 0 : Nat) < win0_18.index t 0 * 2 + 2
              rw [h.1]; exact ⟨by show (i 0 : Nat) / 2 * 2 ≤ _; omega, by show _ < (i 0 : Nat) / 2 * 2 + 2; omega⟩
  | ⟨1, _⟩ => show win0_18.index t 1 * 128 ≤ (i 1 : Nat) ∧ (i 1 : Nat) < win0_18.index t 1 * 128 + 128
              rw [h.2.1, Nat.zero_mul, Nat.zero_add]; exact ⟨Nat.zero_le _, (i 1).isLt⟩
  | ⟨2, _⟩ => show win0_18.index t 2 * 2048 ≤ (i 2 : Nat) ∧ (i 2 : Nat) < win0_18.index t 2 * 2048 + 2048
              rw [h.2.2, Nat.zero_mul, Nat.zero_add]; exact ⟨Nat.zero_le _, (i 2).isLt⟩

theorem final_qi : (dats m 0 c).arrAt 18 cfg0.N = result_qi m c :=
  (dats m 0 c).arrAt_eq_of_cover 18 (result_qi m c) (fun t _ => flushed_qi m c t) cover_qi

def result_wt : Vec Ideal S8x16384 .f32 := fun i => (layer m c).outWt (i 0) (i 1)

theorem flushed_wt (t : Fin cfg0.N) : (dats m 0 c).flushed 19 t = ((cfg0.win 19).blk t).view.read (Elt Ideal) (result_wt m c) := by
  rw [Value.flushed19_A]
  funext y
  obtain ⟨a, b, rfl⟩ : ∃ (a : Fin 8) (b : Fin 512), y = ix2 a b := ⟨y 0, y 1, eq_ix2 y⟩
  have hy : (((cfg0.win 19).blk t).view.read (Elt Ideal) (result_wt m c)) (ix2 a b) = result_wt m c (ix2 a (tok t b)) := by
    refine congrArg (result_wt m c) (funext fun x => Fin.ext ?_)
    have h := at19 t
    match x with
    | ⟨0, _⟩ => show win0_19.index t 0 * 8 + 1 * a.val = a.val; rw [h.1]; omega
    | ⟨1, _⟩ => show win0_19.index t 1 * 512 + 1 * b.val = t.val * 512 + b.val; rw [h.2]; omega
  rw [hy]
  refine (out_wt c (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t) (ms0_16 t) (hs0_16
    t) (ms0_17 t) (hs0_17 t) (ms0_18 t) (hs0_18 t) (ms0_19 t) (hs0_19 t) (ms0_20 t) (hs0_20 t) (ms0_21 t) (hs0_21 t) (ms0_22 t)
    (hs0_22 t) (ms0_23 t) (hs0_23 t) (ms0_24 t) (hs0_24 t) (ms0_25 t) (hs0_25 t) (ms0_26 t) (hs0_26 t) (iblk m c 0 t) (iblk m c 1 t)
    (iblk m c 2 t) (iblk m c 3 t) (iblk m c 4 t) (iblk m c 5 t) (iblk m c 6 t) (iblk m c 7 t) (iblk m c 8 t) (iblk m c 9 t) (iblk m c
    10 t) (iblk m c 11 t) (iblk m c 12 t) (iblk m c 13 t) (iblk m c 14 t) (iblk m c 15 t) (iblk m c 16 t) a b).trans ?_
  exact step_wt (holds m c t) b a

theorem cover_wt (i : S8x16384.Idx) : ∃ t : Fin cfg0.N, (cfg0.win 19).flush t = true ∧ i ∈ ((cfg0.win 19).blk t).view.set := by
  have h0 : (i 1 : Nat) < 16384 := (i 1).isLt
  let t : Fin cfg0.N := ⟨(i 1 : Nat) / 512, by show (i 1 : Nat) / 512 < 32; omega⟩
  refine ⟨t, flush0_19 _, ?_⟩
  show i ∈ ((View.whole main_v104_2).slice (win0_19.rect t)).set
  rw [View.set_slice_whole, Rect.mem_set_unit]
  intro a
  have h := at19 t
  match a with
  | ⟨0, _⟩ => show win0_19.index t 0 * 8 ≤ (i 0 : Nat) ∧ (i 0 : Nat) < win0_19.index t 0 * 8 + 8
              rw [h.1, Nat.zero_mul, Nat.zero_add]; exact ⟨Nat.zero_le _, (i 0).isLt⟩
  | ⟨1, _⟩ => show win0_19.index t 1 * 512 ≤ (i 1 : Nat) ∧ (i 1 : Nat) < win0_19.index t 1 * 512 + 512
              rw [h.2]; exact ⟨by show (i 1 : Nat) / 512 * 512 ≤ _; omega, by show _ < (i 1 : Nat) / 512 * 512 + 512; omega⟩

theorem final_wt : (dats m 0 c).arrAt 19 cfg0.N = result_wt m c :=
  (dats m 0 c).arrAt_eq_of_cover 19 (result_wt m c) (fun t _ => flushed_wt m c t) cover_wt

def result_ka : Vec Ideal S4x16384x128 .bf16 := fun i => (layer m c).outKa (i 0) (i 1) (i 2)

theorem flushed_ka (t : Fin cfg0.N) : (dats m 0 c).flushed 20 t = ((cfg0.win 20).blk t).view.read (Elt Ideal) (result_ka m c) := by
  rw [Value.flushed20_A]
  funext y
  obtain ⟨a, b, d, rfl⟩ : ∃ (a : Fin 4) (b : Fin 512) (d : Fin 128), y = ix3 a b d := ⟨y 0, y 1, y 2, eq_ix3 y⟩
  have hy : (((cfg0.win 20).blk t).view.read (Elt Ideal) (result_ka m c)) (ix3 a b d) = result_ka m c (ix3 a (tok t b) d) := by
    refine congrArg (result_ka m c) (funext fun x => Fin.ext ?_)
    have h := at20 t
    match x with
    | ⟨0, _⟩ => show win0_20.index t 0 * 4 + 1 * a.val = a.val; rw [h.1]; omega
    | ⟨1, _⟩ => show win0_20.index t 1 * 512 + 1 * b.val = t.val * 512 + b.val; rw [h.2.1]; omega
    | ⟨2, _⟩ => show win0_20.index t 2 * 128 + 1 * d.val = d.val; rw [h.2.2]; omega
  rw [hy]
  refine (out_ka c (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t) (ms0_16 t) (hs0_16
    t) (ms0_17 t) (hs0_17 t) (ms0_18 t) (hs0_18 t) (ms0_19 t) (hs0_19 t) (ms0_20 t) (hs0_20 t) (ms0_21 t) (hs0_21 t) (ms0_22 t)
    (hs0_22 t) (ms0_23 t) (hs0_23 t) (ms0_24 t) (hs0_24 t) (ms0_25 t) (hs0_25 t) (ms0_26 t) (hs0_26 t) (iblk m c 0 t) (iblk m c 1 t)
    (iblk m c 2 t) (iblk m c 3 t) (iblk m c 4 t) (iblk m c 5 t) (iblk m c 6 t) (iblk m c 7 t) (iblk m c 8 t) (iblk m c 9 t) (iblk m c
    10 t) (iblk m c 11 t) (iblk m c 12 t) (iblk m c 13 t) (iblk m c 14 t) (iblk m c 15 t) (iblk m c 16 t) a b d).trans ?_
  exact step_ka (holds m c t) b a d

theorem cover_ka (i : S4x16384x128.Idx) : ∃ t : Fin cfg0.N, (cfg0.win 20).flush t = true ∧ i ∈ ((cfg0.win 20).blk t).view.set := by
  have h0 : (i 1 : Nat) < 16384 := (i 1).isLt
  let t : Fin cfg0.N := ⟨(i 1 : Nat) / 512, by show (i 1 : Nat) / 512 < 32; omega⟩
  refine ⟨t, flush0_20 _, ?_⟩
  show i ∈ ((View.whole main_v104_3).slice (win0_20.rect t)).set
  rw [View.set_slice_whole, Rect.mem_set_unit]
  intro a
  have h := at20 t
  match a with
  | ⟨0, _⟩ => show win0_20.index t 0 * 4 ≤ (i 0 : Nat) ∧ (i 0 : Nat) < win0_20.index t 0 * 4 + 4
              rw [h.1, Nat.zero_mul, Nat.zero_add]; exact ⟨Nat.zero_le _, (i 0).isLt⟩
  | ⟨1, _⟩ => show win0_20.index t 1 * 512 ≤ (i 1 : Nat) ∧ (i 1 : Nat) < win0_20.index t 1 * 512 + 512
              rw [h.2.1]; exact ⟨by show (i 1 : Nat) / 512 * 512 ≤ _; omega, by show _ < (i 1 : Nat) / 512 * 512 + 512; omega⟩
  | ⟨2, _⟩ => show win0_20.index t 2 * 128 ≤ (i 2 : Nat) ∧ (i 2 : Nat) < win0_20.index t 2 * 128 + 128
              rw [h.2.2, Nat.zero_mul, Nat.zero_add]; exact ⟨Nat.zero_le _, (i 2).isLt⟩

theorem final_ka : (dats m 0 c).arrAt 20 cfg0.N = result_ka m c :=
  (dats m 0 c).arrAt_eq_of_cover 20 (result_ka m c) (fun t _ => flushed_ka m c t) cover_ka

def result_va : Vec Ideal S512x16384 .bf16 := fun i => (layer m c).outVa (i 0) (i 1)

theorem flushed_va (t : Fin cfg0.N) : (dats m 0 c).flushed 21 t = ((cfg0.win 21).blk t).view.read (Elt Ideal) (result_va m c) := by
  rw [Value.flushed21_A]
  funext y
  obtain ⟨a, b, rfl⟩ : ∃ (a : Fin 512) (b : Fin 512), y = ix2 a b := ⟨y 0, y 1, eq_ix2 y⟩
  have hy : (((cfg0.win 21).blk t).view.read (Elt Ideal) (result_va m c)) (ix2 a b) = result_va m c (ix2 a (tok t b)) := by
    refine congrArg (result_va m c) (funext fun x => Fin.ext ?_)
    have h := at21 t
    match x with
    | ⟨0, _⟩ => show win0_21.index t 0 * 512 + 1 * a.val = a.val; rw [h.1]; omega
    | ⟨1, _⟩ => show win0_21.index t 1 * 512 + 1 * b.val = t.val * 512 + b.val; rw [h.2]; omega
  rw [hy]
  refine (out_va c (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t) (ms0_16 t) (hs0_16
    t) (ms0_17 t) (hs0_17 t) (ms0_18 t) (hs0_18 t) (ms0_19 t) (hs0_19 t) (ms0_20 t) (hs0_20 t) (ms0_21 t) (hs0_21 t) (ms0_22 t)
    (hs0_22 t) (ms0_23 t) (hs0_23 t) (ms0_24 t) (hs0_24 t) (ms0_25 t) (hs0_25 t) (ms0_26 t) (hs0_26 t) (iblk m c 0 t) (iblk m c 1 t)
    (iblk m c 2 t) (iblk m c 3 t) (iblk m c 4 t) (iblk m c 5 t) (iblk m c 6 t) (iblk m c 7 t) (iblk m c 8 t) (iblk m c 9 t) (iblk m c
    10 t) (iblk m c 11 t) (iblk m c 12 t) (iblk m c 13 t) (iblk m c 14 t) (iblk m c 15 t) (iblk m c 16 t) a b).trans ?_
  exact step_va (holds m c t) b a

theorem cover_va (i : S512x16384.Idx) : ∃ t : Fin cfg0.N, (cfg0.win 21).flush t = true ∧ i ∈ ((cfg0.win 21).blk t).view.set := by
  have h0 : (i 1 : Nat) < 16384 := (i 1).isLt
  let t : Fin cfg0.N := ⟨(i 1 : Nat) / 512, by show (i 1 : Nat) / 512 < 32; omega⟩
  refine ⟨t, flush0_21 _, ?_⟩
  show i ∈ ((View.whole main_v104_4).slice (win0_21.rect t)).set
  rw [View.set_slice_whole, Rect.mem_set_unit]
  intro a
  have h := at21 t
  match a with
  | ⟨0, _⟩ => show win0_21.index t 0 * 512 ≤ (i 0 : Nat) ∧ (i 0 : Nat) < win0_21.index t 0 * 512 + 512
              rw [h.1, Nat.zero_mul, Nat.zero_add]; exact ⟨Nat.zero_le _, (i 0).isLt⟩
  | ⟨1, _⟩ => show win0_21.index t 1 * 512 ≤ (i 1 : Nat) ∧ (i 1 : Nat) < win0_21.index t 1 * 512 + 512
              rw [h.2]; exact ⟨by show (i 1 : Nat) / 512 * 512 ≤ _; omega, by show _ < (i 1 : Nat) / 512 * 512 + 512; omega⟩

theorem final_va : (dats m 0 c).arrAt 21 cfg0.N = result_va m c :=
  (dats m 0 c).arrAt_eq_of_cover 21 (result_va m c) (fun t _ => flushed_va m c t) cover_va

def result_ki : Vec Ideal S16384x128 .bf16 := fun i => (layer m c).outKi (i 0) (i 1)

theorem flushed_ki (t : Fin cfg0.N) : (dats m 0 c).flushed 22 t = ((cfg0.win 22).blk t).view.read (Elt Ideal) (result_ki m c) := by
  rw [Value.flushed22_A]
  funext y
  obtain ⟨a, b, rfl⟩ : ∃ (a : Fin 512) (b : Fin 128), y = ix2 a b := ⟨y 0, y 1, eq_ix2 y⟩
  have hy : (((cfg0.win 22).blk t).view.read (Elt Ideal) (result_ki m c)) (ix2 a b) = result_ki m c (ix2 (tok t a) b) := by
    refine congrArg (result_ki m c) (funext fun x => Fin.ext ?_)
    have h := at22 t
    match x with
    | ⟨0, _⟩ => show win0_22.index t 0 * 512 + 1 * a.val = t.val * 512 + a.val; rw [h.1]; omega
    | ⟨1, _⟩ => show win0_22.index t 1 * 128 + 1 * b.val = b.val; rw [h.2]; omega
  rw [hy]
  refine (out_ki c (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t) (ms0_16 t) (hs0_16
    t) (ms0_17 t) (hs0_17 t) (ms0_18 t) (hs0_18 t) (ms0_19 t) (hs0_19 t) (ms0_20 t) (hs0_20 t) (ms0_21 t) (hs0_21 t) (ms0_22 t)
    (hs0_22 t) (ms0_23 t) (hs0_23 t) (ms0_24 t) (hs0_24 t) (ms0_25 t) (hs0_25 t) (ms0_26 t) (hs0_26 t) (iblk m c 0 t) (iblk m c 1 t)
    (iblk m c 2 t) (iblk m c 3 t) (iblk m c 4 t) (iblk m c 5 t) (iblk m c 6 t) (iblk m c 7 t) (iblk m c 8 t) (iblk m c 9 t) (iblk m c
    10 t) (iblk m c 11 t) (iblk m c 12 t) (iblk m c 13 t) (iblk m c 14 t) (iblk m c 15 t) (iblk m c 16 t) a b).trans ?_
  exact step_ki (holds m c t) a b

theorem cover_ki (i : S16384x128.Idx) : ∃ t : Fin cfg0.N, (cfg0.win 22).flush t = true ∧ i ∈ ((cfg0.win 22).blk t).view.set := by
  have h0 : (i 0 : Nat) < 16384 := (i 0).isLt
  let t : Fin cfg0.N := ⟨(i 0 : Nat) / 512, by show (i 0 : Nat) / 512 < 32; omega⟩
  refine ⟨t, flush0_22 _, ?_⟩
  show i ∈ ((View.whole main_v104_5).slice (win0_22.rect t)).set
  rw [View.set_slice_whole, Rect.mem_set_unit]
  intro a
  have h := at22 t
  match a with
  | ⟨0, _⟩ => show win0_22.index t 0 * 512 ≤ (i 0 : Nat) ∧ (i 0 : Nat) < win0_22.index t 0 * 512 + 512
              rw [h.1]; exact ⟨by show (i 0 : Nat) / 512 * 512 ≤ _; omega, by show _ < (i 0 : Nat) / 512 * 512 + 512; omega⟩
  | ⟨1, _⟩ => show win0_22.index t 1 * 128 ≤ (i 1 : Nat) ∧ (i 1 : Nat) < win0_22.index t 1 * 128 + 128
              rw [h.2, Nat.zero_mul, Nat.zero_add]; exact ⟨Nat.zero_le _, (i 1).isLt⟩

theorem final_ki : (dats m 0 c).arrAt 22 cfg0.N = result_ki m c :=
  (dats m 0 c).arrAt_eq_of_cover 22 (result_ki m c) (fun t _ => flushed_ki m c t) cover_ki

def result_qb : Vec Ideal S1024x16384 .bf16 := fun i => (layer m c).outQb (i 0) (i 1)

theorem flushed_qb (t : Fin cfg0.N) : (dats m 0 c).flushed 23 t = ((cfg0.win 23).blk t).view.read (Elt Ideal) (result_qb m c) := by
  rw [Value.flushed23_A]
  funext y
  obtain ⟨a, b, rfl⟩ : ∃ (a : Fin 1024) (b : Fin 512), y = ix2 a b := ⟨y 0, y 1, eq_ix2 y⟩
  have hy : (((cfg0.win 23).blk t).view.read (Elt Ideal) (result_qb m c)) (ix2 a b) = result_qb m c (ix2 a (tok t b)) := by
    refine congrArg (result_qb m c) (funext fun x => Fin.ext ?_)
    have h := at23 t
    match x with
    | ⟨0, _⟩ => show win0_23.index t 0 * 1024 + 1 * a.val = a.val; rw [h.1]; omega
    | ⟨1, _⟩ => show win0_23.index t 1 * 512 + 1 * b.val = t.val * 512 + b.val; rw [h.2]; omega
  rw [hy]
  refine (out_qb c (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t) (ms0_16 t) (hs0_16
    t) (ms0_17 t) (hs0_17 t) (ms0_18 t) (hs0_18 t) (ms0_19 t) (hs0_19 t) (ms0_20 t) (hs0_20 t) (ms0_21 t) (hs0_21 t) (ms0_22 t)
    (hs0_22 t) (ms0_23 t) (hs0_23 t) (ms0_24 t) (hs0_24 t) (ms0_25 t) (hs0_25 t) (ms0_26 t) (hs0_26 t) (iblk m c 0 t) (iblk m c 1 t)
    (iblk m c 2 t) (iblk m c 3 t) (iblk m c 4 t) (iblk m c 5 t) (iblk m c 6 t) (iblk m c 7 t) (iblk m c 8 t) (iblk m c 9 t) (iblk m c
    10 t) (iblk m c 11 t) (iblk m c 12 t) (iblk m c 13 t) (iblk m c 14 t) (iblk m c 15 t) (iblk m c 16 t) a b).trans ?_
  exact step_qb (holds m c t) b a

theorem cover_qb (i : S1024x16384.Idx) : ∃ t : Fin cfg0.N, (cfg0.win 23).flush t = true ∧ i ∈ ((cfg0.win 23).blk t).view.set := by
  have h0 : (i 1 : Nat) < 16384 := (i 1).isLt
  let t : Fin cfg0.N := ⟨(i 1 : Nat) / 512, by show (i 1 : Nat) / 512 < 32; omega⟩
  refine ⟨t, flush0_23 _, ?_⟩
  show i ∈ ((View.whole main_v104_6).slice (win0_23.rect t)).set
  rw [View.set_slice_whole, Rect.mem_set_unit]
  intro a
  have h := at23 t
  match a with
  | ⟨0, _⟩ => show win0_23.index t 0 * 1024 ≤ (i 0 : Nat) ∧ (i 0 : Nat) < win0_23.index t 0 * 1024 + 1024
              rw [h.1, Nat.zero_mul, Nat.zero_add]; exact ⟨Nat.zero_le _, (i 0).isLt⟩
  | ⟨1, _⟩ => show win0_23.index t 1 * 512 ≤ (i 1 : Nat) ∧ (i 1 : Nat) < win0_23.index t 1 * 512 + 512
              rw [h.2]; exact ⟨by show (i 1 : Nat) / 512 * 512 ≤ _; omega, by show _ < (i 1 : Nat) / 512 * 512 + 512; omega⟩

theorem final_qb : (dats m 0 c).arrAt 23 cfg0.N = result_qb m c :=
  (dats m 0 c).arrAt_eq_of_cover 23 (result_qb m c) (fun t _ => flushed_qb m c t) cover_qb

def result_kb : Vec Ideal S16384x1024 .bf16 := fun i => (layer m c).outKb (i 0) (i 1)

theorem flushed_kb (t : Fin cfg0.N) : (dats m 0 c).flushed 24 t = ((cfg0.win 24).blk t).view.read (Elt Ideal) (result_kb m c) := by
  rw [Value.flushed24_A]
  funext y
  obtain ⟨a, b, rfl⟩ : ∃ (a : Fin 512) (b : Fin 1024), y = ix2 a b := ⟨y 0, y 1, eq_ix2 y⟩
  have hy : (((cfg0.win 24).blk t).view.read (Elt Ideal) (result_kb m c)) (ix2 a b) = result_kb m c (ix2 (tok t a) b) := by
    refine congrArg (result_kb m c) (funext fun x => Fin.ext ?_)
    have h := at24 t
    match x with
    | ⟨0, _⟩ => show win0_24.index t 0 * 512 + 1 * a.val = t.val * 512 + a.val; rw [h.1]; omega
    | ⟨1, _⟩ => show win0_24.index t 1 * 1024 + 1 * b.val = b.val; rw [h.2]; omega
  rw [hy]
  refine (out_kb c (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t) (ms0_16 t) (hs0_16
    t) (ms0_17 t) (hs0_17 t) (ms0_18 t) (hs0_18 t) (ms0_19 t) (hs0_19 t) (ms0_20 t) (hs0_20 t) (ms0_21 t) (hs0_21 t) (ms0_22 t)
    (hs0_22 t) (ms0_23 t) (hs0_23 t) (ms0_24 t) (hs0_24 t) (ms0_25 t) (hs0_25 t) (ms0_26 t) (hs0_26 t) (iblk m c 0 t) (iblk m c 1 t)
    (iblk m c 2 t) (iblk m c 3 t) (iblk m c 4 t) (iblk m c 5 t) (iblk m c 6 t) (iblk m c 7 t) (iblk m c 8 t) (iblk m c 9 t) (iblk m c
    10 t) (iblk m c 11 t) (iblk m c 12 t) (iblk m c 13 t) (iblk m c 14 t) (iblk m c 15 t) (iblk m c 16 t) a b).trans ?_
  exact step_kb (holds m c t) a b

theorem cover_kb (i : S16384x1024.Idx) : ∃ t : Fin cfg0.N, (cfg0.win 24).flush t = true ∧ i ∈ ((cfg0.win 24).blk t).view.set := by
  have h0 : (i 0 : Nat) < 16384 := (i 0).isLt
  let t : Fin cfg0.N := ⟨(i 0 : Nat) / 512, by show (i 0 : Nat) / 512 < 32; omega⟩
  refine ⟨t, flush0_24 _, ?_⟩
  show i ∈ ((View.whole main_v104_7).slice (win0_24.rect t)).set
  rw [View.set_slice_whole, Rect.mem_set_unit]
  intro a
  have h := at24 t
  match a with
  | ⟨0, _⟩ => show win0_24.index t 0 * 512 ≤ (i 0 : Nat) ∧ (i 0 : Nat) < win0_24.index t 0 * 512 + 512
              rw [h.1]; exact ⟨by show (i 0 : Nat) / 512 * 512 ≤ _; omega, by show _ < (i 0 : Nat) / 512 * 512 + 512; omega⟩
  | ⟨1, _⟩ => show win0_24.index t 1 * 1024 ≤ (i 1 : Nat) ∧ (i 1 : Nat) < win0_24.index t 1 * 1024 + 1024
              rw [h.2, Nat.zero_mul, Nat.zero_add]; exact ⟨Nat.zero_le _, (i 1).isLt⟩

theorem final_kb : (dats m 0 c).arrAt 24 cfg0.N = result_kb m c :=
  (dats m 0 c).arrAt_eq_of_cover 24 (result_kb m c) (fun t _ => flushed_kb m c t) cover_kb

def result_vb : Vec Ideal S512x16384 .bf16 := fun i => (layer m c).outVb (i 0) (i 1)

theorem flushed_vb (t : Fin cfg0.N) : (dats m 0 c).flushed 25 t = ((cfg0.win 25).blk t).view.read (Elt Ideal) (result_vb m c) := by
  rw [Value.flushed25_A]
  funext y
  obtain ⟨a, b, rfl⟩ : ∃ (a : Fin 512) (b : Fin 512), y = ix2 a b := ⟨y 0, y 1, eq_ix2 y⟩
  have hy : (((cfg0.win 25).blk t).view.read (Elt Ideal) (result_vb m c)) (ix2 a b) = result_vb m c (ix2 a (tok t b)) := by
    refine congrArg (result_vb m c) (funext fun x => Fin.ext ?_)
    have h := at25 t
    match x with
    | ⟨0, _⟩ => show win0_25.index t 0 * 512 + 1 * a.val = a.val; rw [h.1]; omega
    | ⟨1, _⟩ => show win0_25.index t 1 * 512 + 1 * b.val = t.val * 512 + b.val; rw [h.2]; omega
  rw [hy]
  refine (out_vb c (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t) (ms0_16 t) (hs0_16
    t) (ms0_17 t) (hs0_17 t) (ms0_18 t) (hs0_18 t) (ms0_19 t) (hs0_19 t) (ms0_20 t) (hs0_20 t) (ms0_21 t) (hs0_21 t) (ms0_22 t)
    (hs0_22 t) (ms0_23 t) (hs0_23 t) (ms0_24 t) (hs0_24 t) (ms0_25 t) (hs0_25 t) (ms0_26 t) (hs0_26 t) (iblk m c 0 t) (iblk m c 1 t)
    (iblk m c 2 t) (iblk m c 3 t) (iblk m c 4 t) (iblk m c 5 t) (iblk m c 6 t) (iblk m c 7 t) (iblk m c 8 t) (iblk m c 9 t) (iblk m c
    10 t) (iblk m c 11 t) (iblk m c 12 t) (iblk m c 13 t) (iblk m c 14 t) (iblk m c 15 t) (iblk m c 16 t) a b).trans ?_
  exact step_vb (holds m c t) b a

theorem cover_vb (i : S512x16384.Idx) : ∃ t : Fin cfg0.N, (cfg0.win 25).flush t = true ∧ i ∈ ((cfg0.win 25).blk t).view.set := by
  have h0 : (i 1 : Nat) < 16384 := (i 1).isLt
  let t : Fin cfg0.N := ⟨(i 1 : Nat) / 512, by show (i 1 : Nat) / 512 < 32; omega⟩
  refine ⟨t, flush0_25 _, ?_⟩
  show i ∈ ((View.whole main_v104_8).slice (win0_25.rect t)).set
  rw [View.set_slice_whole, Rect.mem_set_unit]
  intro a
  have h := at25 t
  match a with
  | ⟨0, _⟩ => show win0_25.index t 0 * 512 ≤ (i 0 : Nat) ∧ (i 0 : Nat) < win0_25.index t 0 * 512 + 512
              rw [h.1, Nat.zero_mul, Nat.zero_add]; exact ⟨Nat.zero_le _, (i 0).isLt⟩
  | ⟨1, _⟩ => show win0_25.index t 1 * 512 ≤ (i 1 : Nat) ∧ (i 1 : Nat) < win0_25.index t 1 * 512 + 512
              rw [h.2]; exact ⟨by show (i 1 : Nat) / 512 * 512 ≤ _; omega, by show _ < (i 1 : Nat) / 512 * 512 + 512; omega⟩

theorem final_vb : (dats m 0 c).arrAt 25 cfg0.N = result_vb m c :=
  (dats m 0 c).arrAt_eq_of_cover 25 (result_vb m c) (fun t _ => flushed_vb m c t) cover_vb

def result_qm : Vec Ideal S512x16384 .bf16 := fun i => (layer m c).outQm (i 0) (i 1)

theorem flushed_qm (t : Fin cfg0.N) : (dats m 0 c).flushed 26 t = ((cfg0.win 26).blk t).view.read (Elt Ideal) (result_qm m c) := by
  rw [Value.flushed26_A]
  funext y
  obtain ⟨a, b, rfl⟩ : ∃ (a : Fin 512) (b : Fin 512), y = ix2 a b := ⟨y 0, y 1, eq_ix2 y⟩
  have hy : (((cfg0.win 26).blk t).view.read (Elt Ideal) (result_qm m c)) (ix2 a b) = result_qm m c (ix2 a (tok t b)) := by
    refine congrArg (result_qm m c) (funext fun x => Fin.ext ?_)
    have h := at26 t
    match x with
    | ⟨0, _⟩ => show win0_26.index t 0 * 512 + 1 * a.val = a.val; rw [h.1]; omega
    | ⟨1, _⟩ => show win0_26.index t 1 * 512 + 1 * b.val = t.val * 512 + b.val; rw [h.2]; omega
  rw [hy]
  refine (out_qm c (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t) (ms0_16 t) (hs0_16
    t) (ms0_17 t) (hs0_17 t) (ms0_18 t) (hs0_18 t) (ms0_19 t) (hs0_19 t) (ms0_20 t) (hs0_20 t) (ms0_21 t) (hs0_21 t) (ms0_22 t)
    (hs0_22 t) (ms0_23 t) (hs0_23 t) (ms0_24 t) (hs0_24 t) (ms0_25 t) (hs0_25 t) (ms0_26 t) (hs0_26 t) (iblk m c 0 t) (iblk m c 1 t)
    (iblk m c 2 t) (iblk m c 3 t) (iblk m c 4 t) (iblk m c 5 t) (iblk m c 6 t) (iblk m c 7 t) (iblk m c 8 t) (iblk m c 9 t) (iblk m c
    10 t) (iblk m c 11 t) (iblk m c 12 t) (iblk m c 13 t) (iblk m c 14 t) (iblk m c 15 t) (iblk m c 16 t) a b).trans ?_
  exact step_qm (holds m c t) b a

theorem cover_qm (i : S512x16384.Idx) : ∃ t : Fin cfg0.N, (cfg0.win 26).flush t = true ∧ i ∈ ((cfg0.win 26).blk t).view.set := by
  have h0 : (i 1 : Nat) < 16384 := (i 1).isLt
  let t : Fin cfg0.N := ⟨(i 1 : Nat) / 512, by show (i 1 : Nat) / 512 < 32; omega⟩
  refine ⟨t, flush0_26 _, ?_⟩
  show i ∈ ((View.whole main_v104_9).slice (win0_26.rect t)).set
  rw [View.set_slice_whole, Rect.mem_set_unit]
  intro a
  have h := at26 t
  match a with
  | ⟨0, _⟩ => show win0_26.index t 0 * 512 ≤ (i 0 : Nat) ∧ (i 0 : Nat) < win0_26.index t 0 * 512 + 512
              rw [h.1, Nat.zero_mul, Nat.zero_add]; exact ⟨Nat.zero_le _, (i 0).isLt⟩
  | ⟨1, _⟩ => show win0_26.index t 1 * 512 ≤ (i 1 : Nat) ∧ (i 1 : Nat) < win0_26.index t 1 * 512 + 512
              rw [h.2]; exact ⟨by show (i 1 : Nat) / 512 * 512 ≤ _; omega, by show _ < (i 1 : Nat) / 512 * 512 + 512; omega⟩

theorem final_qm : (dats m 0 c).arrAt 26 cfg0.N = result_qm m c :=
  (dats m 0 c).arrAt_eq_of_cover 26 (result_qm m c) (fun t _ => flushed_qm m c t) cover_qm

end Cert.Proof.Proj

end
-- ==== Proof.ProjRef.lean ====
/-
  Hand-written, untrusted. The plain text of the projection, read at one element of every intermediate and every result.
-/
module

public import proofs.«01_k».proof.Proof.ProjSpec
public import proofs.«01_k».proof.Proof.Gen.Reference3Ideal.Read
public import Idealize.ShloMosaic.Lib.Pointwise

@[expose] public section

noncomputable section

namespace Cert.Proof.Proj

open Idealize.ShloMosaic Idealize.SL.Sem Cert.Reference3Ideal Cert.Reference3Ideal.Gen Cert.Reference3Ideal.Read

variable (x0 : Vec Ideal S8x2048x1024 .f32) (x1 : Vec Ideal S8x2048 .i32) (x2 : Vec Ideal S1x1024 .f32)
  (x3 : Vec Ideal S1x1024x7912 .f32) (x4 x5 : Vec Ideal S1x64 .f32) (x6 : Vec Ideal S1x384 .f32) (x7 : Vec Ideal S1x256 .f32)
  (x8 : Vec Ideal S1x384x768 .f32) (x9 : Vec Ideal S1x256x1024 .f32) (x10 x11 : Vec Ideal S1x96 .f32) (x12 : Vec Ideal S1x128 .f32)

/-- The plain program's arguments, as the layer's inputs. -/
def given : Layer where
  x b s d := x0 (ix3 b s d)
  pos b s := x1 (ix2 b s)
  gNorm d := x2 (ix2 0 d)
  wIn d j := x3 (ix3 0 d j)
  gQa d := x4 (ix2 0 d)
  gKa d := x5 (ix2 0 d)
  gCq d := x6 (ix2 0 d)
  gCkv d := x7 (ix2 0 d)
  wUq k j := x8 (ix3 0 k j)
  wUkv k j := x9 (ix3 0 k j)
  gQb d := x10 (ix2 0 d)
  gKb d := x11 (ix2 0 d)
  gQm d := x12 (ix2 0 d)

variable (b : Fin 8) (s : Fin 2048)

set_option maxRecDepth 16384 in
theorem ref_h (d : Fin 1024) : val_main_v49 (F := Ideal) x0 x2 (ix3 b s d) = (given x0 x1 x2 x3 x4 x5 x6 x7 x8 x9 x10 x11 x12).h b s d
    := by
  pointwise [val_main_v37, val_main_cst_7, val_main_v38, val_main_v39, val_main_cst_8, val_main_v40, val_main_v41, val_main_cst_9,
    val_main_v42, val_main_v43, val_main_v44, val_main_v45, val_main_v46, val_main_v36, val_main_v47, val_main_v48, val_main_v49,
    Layer.h, given, normed, scaleOf]

set_option maxRecDepth 16384 in
theorem ref_col (j : Fin 7912) : val_main_v51 (F := Ideal) x0 x2 x3 (ix3 b s j) = (given x0 x1 x2 x3 x4 x5 x6 x7 x8 x9 x10 x11
    x12).col b s j.val j.isLt := by
  have h_v49 := fun d => ref_h x0 x1 x2 x3 x4 x5 x6 x7 x8 x9 x10 x11 x12 b s d
  generalize e_v49 : val_main_v49 (F := Ideal) x0 x2 = u_v49 at *
  pointwise [val_main_v50, val_main_v51, Layer.col, e_v49]
  simp only [h_v49]
  exact Finset.sum_congr rfl fun d _ => mul_comm _ _

set_option maxRecDepth 16384 in
theorem ref_cosA (k : Fin 8) : val_main_v16 (F := Ideal) x1 (ix3 b s k) = (given x0 x1 x2 x3 x4 x5 x6 x7 x8 x9 x10 x11 x12).cosA b s k
    := by
  pointwise [val_main_v10, val_main_v11, val_main_v13, val_main_cst_2, val_main_v8, val_main_cst_0, val_main_v3, val_main_cst,
    val_main_v1, val_main_v0, val_main_v2, val_main_v4, val_main_cst_1, val_main_v5, val_main_v6, val_main_v7, val_main_v9,
    val_main_v12, val_main_v14, val_main_v15, val_main_v16, Layer.cosA, given, angle]
  exact congrArg Ideal.cos (mul_comm _ _)

set_option maxRecDepth 16384 in
theorem ref_sinA (k : Fin 8) : val_main_v17 (F := Ideal) x1 (ix3 b s k) = (given x0 x1 x2 x3 x4 x5 x6 x7 x8 x9 x10 x11 x12).sinA b s k
    := by
  pointwise [val_main_v10, val_main_v11, val_main_v13, val_main_cst_2, val_main_v8, val_main_cst_0, val_main_v3, val_main_cst,
    val_main_v1, val_main_v0, val_main_v2, val_main_v4, val_main_cst_1, val_main_v5, val_main_v6, val_main_v7, val_main_v9,
    val_main_v12, val_main_v14, val_main_v15, val_main_v17, Layer.sinA, given, angle]
  exact congrArg Ideal.sin (mul_comm _ _)

set_option maxRecDepth 16384 in
theorem ref_cosB (k : Fin 16) : val_main_v34 (F := Ideal) x1 (ix3 b s k) = (given x0 x1 x2 x3 x4 x5 x6 x7 x8 x9 x10 x11 x12).cosB b s
    k := by
  pointwise [val_main_v28, val_main_v29, val_main_v31, val_main_cst_6, val_main_v26, val_main_cst_4, val_main_v21, val_main_cst_3,
    val_main_v19, val_main_v18, val_main_v20, val_main_v22, val_main_cst_5, val_main_v23, val_main_v24, val_main_v25, val_main_v27,
    val_main_v30, val_main_v32, val_main_v33, val_main_v34, Layer.cosB, given, angle]
  exact congrArg Ideal.cos (mul_comm _ _)

set_option maxRecDepth 16384 in
theorem ref_sinB (k : Fin 16) : val_main_v35 (F := Ideal) x1 (ix3 b s k) = (given x0 x1 x2 x3 x4 x5 x6 x7 x8 x9 x10 x11 x12).sinB b s
    k := by
  pointwise [val_main_v28, val_main_v29, val_main_v31, val_main_cst_6, val_main_v26, val_main_cst_4, val_main_v21, val_main_cst_3,
    val_main_v19, val_main_v18, val_main_v20, val_main_v22, val_main_cst_5, val_main_v23, val_main_v24, val_main_v25, val_main_v27,
    val_main_v30, val_main_v32, val_main_v33, val_main_v35, Layer.sinB, given, angle]
  exact congrArg Ideal.sin (mul_comm _ _)

set_option maxRecDepth 16384 in
theorem ref_qa0 (h : Fin 8) (d : Fin 64) : val_main_v76 (F := Ideal) x0 x2 x3 x4 (ix4 b s h d) = normed 0x42800000#32 (fun d => (given
    x0 x1 x2 x3 x4 x5 x6 x7 x8 x9 x10 x11 x12).col b s (h.val * 64 + d.val) (by omega)) (given x0 x1 x2 x3 x4 x5 x6 x7 x8 x9 x10 x11
    x12).gQa d := by
  have h_v51 := fun j => ref_col x0 x1 x2 x3 x4 x5 x6 x7 x8 x9 x10 x11 x12 b s j
  generalize e_v51 : val_main_v51 (F := Ideal) x0 x2 x3 = u_v51 at *
  pointwise [val_main_v52, val_main_v62, val_main_v64, val_main_cst_10, val_main_v65, val_main_v66, val_main_cst_11, val_main_v67,
    val_main_v68, val_main_cst_12, val_main_v69, val_main_v70, val_main_v71, val_main_v72, val_main_v73, val_main_v63, val_main_v74,
    val_main_v75, val_main_v76, normed, scaleOf, given, e_v51]
  simp only [h_v51]
  all_goals rfl

set_option maxRecDepth 16384 in
theorem ref_ka0 (h : Fin 8) (d : Fin 64) : val_main_v109 (F := Ideal) x0 x2 x3 x5 (ix4 b s h d) = normed 0x42800000#32 (fun d =>
    (given x0 x1 x2 x3 x4 x5 x6 x7 x8 x9 x10 x11 x12).col b s (512 + (h.val * 64 + d.val)) (by omega)) (given x0 x1 x2 x3 x4 x5 x6 x7
    x8 x9 x10 x11 x12).gKa d := by
  have h_v51 := fun j => ref_col x0 x1 x2 x3 x4 x5 x6 x7 x8 x9 x10 x11 x12 b s j
  generalize e_v51 : val_main_v51 (F := Ideal) x0 x2 x3 = u_v51 at *
  pointwise [val_main_v53, val_main_v95, val_main_v97, val_main_cst_13, val_main_v98, val_main_v99, val_main_cst_14, val_main_v100,
    val_main_v101, val_main_cst_15, val_main_v102, val_main_v103, val_main_v104, val_main_v105, val_main_v106, val_main_v96,
    val_main_v107, val_main_v108, val_main_v109, normed, scaleOf, given, e_v51]
  simp only [h_v51]
  all_goals rfl

set_option maxRecDepth 16384 in
theorem ref_qa (h : Fin 8) (d : Fin 64) : val_main_v94 (F := Ideal) x0 x1 x2 x3 x4 (ix4 b s h d) = (given x0 x1 x2 x3 x4 x5 x6 x7 x8
    x9 x10 x11 x12).qa b s h d := by
  have h_v76 := fun d => ref_qa0 x0 x1 x2 x3 x4 x5 x6 x7 x8 x9 x10 x11 x12 b s h d
  have h_v16 := fun k => ref_cosA x0 x1 x2 x3 x4 x5 x6 x7 x8 x9 x10 x11 x12 b s k
  have h_v17 := fun k => ref_sinA x0 x1 x2 x3 x4 x5 x6 x7 x8 x9 x10 x11 x12 b s k
  generalize e_v76 : val_main_v76 (F := Ideal) x0 x2 x3 x4 = u_v76 at *
  generalize e_v16 : val_main_v16 (F := Ideal) x1 = u_v16 at *
  generalize e_v17 : val_main_v17 (F := Ideal) x1 = u_v17 at *
  pointwise [val_main_v79, val_main_v80, val_main_v77, val_main_v82, val_main_v83, val_main_v81, val_main_v78, val_main_v84,
    val_main_v85, val_main_v86, val_main_v87, val_main_v88, val_main_v89, val_main_v90, val_main_v91, val_main_v92, val_main_v93,
    val_main_v94, Layer.qa, turned64, e_v76, e_v16, e_v17]
  by_cases h1 : d.val < 8
  · simp [h1, show d.val < 16 by omega, h_v76, h_v16, h_v17, Nat.add_comm 8]
  by_cases h2 : d.val < 16
  · simp [h1, h2, show d.val - 8 < 8 by omega, show 8 + (d.val - 8) = d.val by omega, h_v76, h_v16, h_v17]
  · simp [h1, h2, show 16 + (d.val - 16) = d.val by omega, h_v76, h_v16, h_v17]

set_option maxRecDepth 16384 in
theorem ref_ka (h : Fin 8) (d : Fin 64) : val_main_v127 (F := Ideal) x0 x1 x2 x3 x5 (ix4 b s h d) = (given x0 x1 x2 x3 x4 x5 x6 x7 x8
    x9 x10 x11 x12).ka b s h d := by
  have h_v109 := fun d => ref_ka0 x0 x1 x2 x3 x4 x5 x6 x7 x8 x9 x10 x11 x12 b s h d
  have h_v16 := fun k => ref_cosA x0 x1 x2 x3 x4 x5 x6 x7 x8 x9 x10 x11 x12 b s k
  have h_v17 := fun k => ref_sinA x0 x1 x2 x3 x4 x5 x6 x7 x8 x9 x10 x11 x12 b s k
  generalize e_v109 : val_main_v109 (F := Ideal) x0 x2 x3 x5 = u_v109 at *
  generalize e_v16 : val_main_v16 (F := Ideal) x1 = u_v16 at *
  generalize e_v17 : val_main_v17 (F := Ideal) x1 = u_v17 at *
  pointwise [val_main_v112, val_main_v113, val_main_v110, val_main_v115, val_main_v116, val_main_v114, val_main_v111, val_main_v117,
    val_main_v118, val_main_v119, val_main_v120, val_main_v121, val_main_v122, val_main_v123, val_main_v124, val_main_v125,
    val_main_v126, val_main_v127, Layer.ka, turned64, e_v109, e_v16, e_v17]
  by_cases h1 : d.val < 8
  · simp [h1, show d.val < 16 by omega, h_v109, h_v16, h_v17, Nat.add_comm 8]
  by_cases h2 : d.val < 16
  · simp [h1, h2, show d.val - 8 < 8 by omega, show 8 + (d.val - 8) = d.val by omega, h_v109, h_v16, h_v17]
  · simp [h1, h2, show 16 + (d.val - 16) = d.val by omega, h_v109, h_v16, h_v17]

set_option maxRecDepth 16384 in
theorem ref_qi (h : Fin 8) (d : Fin 64) : val_main_v148 (F := Ideal) x0 x1 x2 x3 (ix4 b s h d) = (given x0 x1 x2 x3 x4 x5 x6 x7 x8 x9
    x10 x11 x12).qi b s h d := by
  have h_v51 := fun j => ref_col x0 x1 x2 x3 x4 x5 x6 x7 x8 x9 x10 x11 x12 b s j
  have h_v16 := fun k => ref_cosA x0 x1 x2 x3 x4 x5 x6 x7 x8 x9 x10 x11 x12 b s k
  have h_v17 := fun k => ref_sinA x0 x1 x2 x3 x4 x5 x6 x7 x8 x9 x10 x11 x12 b s k
  generalize e_v51 : val_main_v51 (F := Ideal) x0 x2 x3 = u_v51 at *
  generalize e_v16 : val_main_v16 (F := Ideal) x1 = u_v16 at *
  generalize e_v17 : val_main_v17 (F := Ideal) x1 = u_v17 at *
  pointwise [val_main_v55, val_main_v128, val_main_v131, val_main_v132, val_main_v129, val_main_v134, val_main_v135, val_main_v133,
    val_main_v130, val_main_v136, val_main_v137, val_main_v138, val_main_v139, val_main_v140, val_main_v141, val_main_v142,
    val_main_v143, val_main_v144, val_main_v145, val_main_v146, val_main_cst_16, val_main_v147, val_main_v148, Layer.qi, turned64, e_v51, e_v16, e_v17]
  by_cases h1 : d.val < 8
  · simp [h1, show d.val < 16 by omega, h_v51, h_v16, h_v17, Nat.add_comm 8]
  by_cases h2 : d.val < 16
  · simp [h1, h2, show d.val - 8 < 8 by omega, show 8 + (d.val - 8) = d.val by omega, h_v51, h_v16, h_v17]
  · simp [h1, h2, show 16 + (d.val - 16) = d.val by omega, h_v51, h_v16, h_v17]

set_option maxRecDepth 16384 in
theorem ref_ki (d : Fin 64) : val_main_v160 (F := Ideal) x0 x1 x2 x3 (ix3 b s d) = (given x0 x1 x2 x3 x4 x5 x6 x7 x8 x9 x10 x11
    x12).ki b s d := by
  have h_v51 := fun j => ref_col x0 x1 x2 x3 x4 x5 x6 x7 x8 x9 x10 x11 x12 b s j
  have h_v16 := fun k => ref_cosA x0 x1 x2 x3 x4 x5 x6 x7 x8 x9 x10 x11 x12 b s k
  have h_v17 := fun k => ref_sinA x0 x1 x2 x3 x4 x5 x6 x7 x8 x9 x10 x11 x12 b s k
  generalize e_v51 : val_main_v51 (F := Ideal) x0 x2 x3 = u_v51 at *
  generalize e_v16 : val_main_v16 (F := Ideal) x1 = u_v16 at *
  generalize e_v17 : val_main_v17 (F := Ideal) x1 = u_v17 at *
  pointwise [val_main_v56, val_main_v149, val_main_v150, val_main_v152, val_main_v151, val_main_v153, val_main_v154, val_main_v155,
    val_main_v156, val_main_v157, val_main_v158, val_main_v159, val_main_v160, Layer.ki, turned64, e_v51, e_v16, e_v17]
  by_cases h1 : d.val < 8
  · simp [h1, show d.val < 16 by omega, h_v51, h_v16, h_v17, Nat.add_comm 8]
  by_cases h2 : d.val < 16
  · simp [h1, h2, show d.val - 8 < 8 by omega, show 8 + (d.val - 8) = d.val by omega, h_v51, h_v16, h_v17]
  · simp [h1, h2, show 16 + (d.val - 16) = d.val by omega, h_v51, h_v16, h_v17]

set_option maxRecDepth 16384 in
theorem ref_cq (d : Fin 384) : val_main_v176 (F := Ideal) x0 x2 x3 x6 (ix3 b s d) = normed 0x43C00000#32 (fun d => (given x0 x1 x2 x3
    x4 x5 x6 x7 x8 x9 x10 x11 x12).col b s (2632 + d.val) (by omega)) (given x0 x1 x2 x3 x4 x5 x6 x7 x8 x9 x10 x11 x12).gCq d := by
  have h_v51 := fun j => ref_col x0 x1 x2 x3 x4 x5 x6 x7 x8 x9 x10 x11 x12 b s j
  generalize e_v51 : val_main_v51 (F := Ideal) x0 x2 x3 = u_v51 at *
  pointwise [val_main_v58, val_main_v164, val_main_cst_18, val_main_v165, val_main_v166, val_main_cst_19, val_main_v167,
    val_main_v168, val_main_cst_20, val_main_v169, val_main_v170, val_main_v171, val_main_v172, val_main_v173, val_main_v163,
    val_main_v174, val_main_v175, val_main_v176, normed, scaleOf, given, e_v51]
  simp only [h_v51]
  all_goals rfl

set_option maxRecDepth 16384 in
theorem ref_ckv (d : Fin 256) : val_main_v193 (F := Ideal) x0 x2 x3 x7 (ix3 b s d) = normed 0x43800000#32 (fun d => (given x0 x1 x2 x3
    x4 x5 x6 x7 x8 x9 x10 x11 x12).col b s (3016 + d.val) (by omega)) (given x0 x1 x2 x3 x4 x5 x6 x7 x8 x9 x10 x11 x12).gCkv d := by
  have h_v51 := fun j => ref_col x0 x1 x2 x3 x4 x5 x6 x7 x8 x9 x10 x11 x12 b s j
  generalize e_v51 : val_main_v51 (F := Ideal) x0 x2 x3 = u_v51 at *
  pointwise [val_main_v59, val_main_v181, val_main_cst_21, val_main_v182, val_main_v183, val_main_cst_22, val_main_v184,
    val_main_v185, val_main_cst_23, val_main_v186, val_main_v187, val_main_v188, val_main_v189, val_main_v190, val_main_v180,
    val_main_v191, val_main_v192, val_main_v193, normed, scaleOf, given, e_v51]
  simp only [h_v51]
  all_goals rfl

set_option maxRecDepth 16384 in
theorem ref_qbRaw (h : Fin 8) (d : Fin 96) : val_main_v179 (F := Ideal) x0 x2 x3 x6 x8 (ix4 b s h d) = (given x0 x1 x2 x3 x4 x5 x6 x7
    x8 x9 x10 x11 x12).qbRaw b s h d := by
  have h_v176 := fun d => ref_cq x0 x1 x2 x3 x4 x5 x6 x7 x8 x9 x10 x11 x12 b s d
  generalize e_v176 : val_main_v176 (F := Ideal) x0 x2 x3 x6 = u_v176 at *
  pointwise [val_main_v177, val_main_v178, val_main_v179, Layer.qbRaw, Layer.cq, e_v176]
  simp only [h_v176]
  exact Finset.sum_congr rfl fun k _ => mul_comm _ _

set_option maxRecDepth 16384 in
theorem ref_kv (h : Fin 8) (d : Fin 128) : val_main_v196 (F := Ideal) x0 x2 x3 x7 x9 (ix4 b s h d) = (given x0 x1 x2 x3 x4 x5 x6 x7 x8
    x9 x10 x11 x12).kv b s (h.val * 128 + d.val) (by omega) := by
  have h_v193 := fun d => ref_ckv x0 x1 x2 x3 x4 x5 x6 x7 x8 x9 x10 x11 x12 b s d
  generalize e_v193 : val_main_v193 (F := Ideal) x0 x2 x3 x7 = u_v193 at *
  pointwise [val_main_v194, val_main_v195, val_main_v196, Layer.kv, Layer.ckv, e_v193]
  simp only [h_v193]
  exact Finset.sum_congr rfl fun k _ => mul_comm _ _

set_option maxRecDepth 16384 in
theorem ref_kbRaw (h : Fin 8) (d : Fin 96) : val_main_v201 (F := Ideal) x0 x2 x3 x7 x9 (ix4 b s h d) = (given x0 x1 x2 x3 x4 x5 x6 x7
    x8 x9 x10 x11 x12).kbRaw b s h d := by
  have h_v51 := fun j => ref_col x0 x1 x2 x3 x4 x5 x6 x7 x8 x9 x10 x11 x12 b s j
  have h_v196 := fun h d => ref_kv x0 x1 x2 x3 x4 x5 x6 x7 x8 x9 x10 x11 x12 b s h d
  generalize e_v51 : val_main_v51 (F := Ideal) x0 x2 x3 = u_v51 at *
  generalize e_v196 : val_main_v196 (F := Ideal) x0 x2 x3 x7 x9 = u_v196 at *
  pointwise [val_main_v197, val_main_v60, val_main_v199, val_main_v200, val_main_v201, Layer.kbRaw, e_v51, e_v196]
  simp only [h_v51, h_v196]

set_option maxRecDepth 16384 in
theorem ref_qb0 (h : Fin 8) (d : Fin 96) : val_main_v215 (F := Ideal) x0 x2 x3 x6 x8 x10 (ix4 b s h d) = normed 0x42C00000#32 ((given
    x0 x1 x2 x3 x4 x5 x6 x7 x8 x9 x10 x11 x12).qbRaw b s h) (given x0 x1 x2 x3 x4 x5 x6 x7 x8 x9 x10 x11 x12).gQb d := by
  have h_v179 := fun d => ref_qbRaw x0 x1 x2 x3 x4 x5 x6 x7 x8 x9 x10 x11 x12 b s h d
  generalize e_v179 : val_main_v179 (F := Ideal) x0 x2 x3 x6 x8 = u_v179 at *
  pointwise [val_main_v203, val_main_cst_24, val_main_v204, val_main_v205, val_main_cst_25, val_main_v206, val_main_v207,
    val_main_cst_26, val_main_v208, val_main_v209, val_main_v210, val_main_v211, val_main_v212, val_main_v202, val_main_v213,
    val_main_v214, val_main_v215, normed, scaleOf, given, e_v179]
  simp only [h_v179]
  all_goals rfl

set_option maxRecDepth 16384 in
theorem ref_kb0 (h : Fin 8) (d : Fin 96) : val_main_v229 (F := Ideal) x0 x2 x3 x7 x9 x11 (ix4 b s h d) = normed 0x42C00000#32 ((given
    x0 x1 x2 x3 x4 x5 x6 x7 x8 x9 x10 x11 x12).kbRaw b s h) (given x0 x1 x2 x3 x4 x5 x6 x7 x8 x9 x10 x11 x12).gKb d := by
  have h_v201 := fun d => ref_kbRaw x0 x1 x2 x3 x4 x5 x6 x7 x8 x9 x10 x11 x12 b s h d
  generalize e_v201 : val_main_v201 (F := Ideal) x0 x2 x3 x7 x9 = u_v201 at *
  pointwise [val_main_v217, val_main_cst_27, val_main_v218, val_main_v219, val_main_cst_28, val_main_v220, val_main_v221,
    val_main_cst_29, val_main_v222, val_main_v223, val_main_v224, val_main_v225, val_main_v226, val_main_v216, val_main_v227,
    val_main_v228, val_main_v229, normed, scaleOf, given, e_v201]
  simp only [h_v201]
  all_goals rfl

set_option maxRecDepth 16384 in
theorem ref_qb (h : Fin 8) (d : Fin 96) : val_main_v247 (F := Ideal) x0 x1 x2 x3 x6 x8 x10 (ix4 b s h d) = (given x0 x1 x2 x3 x4 x5 x6
    x7 x8 x9 x10 x11 x12).qb b s h d := by
  have h_v215 := fun d => ref_qb0 x0 x1 x2 x3 x4 x5 x6 x7 x8 x9 x10 x11 x12 b s h d
  have h_v34 := fun k => ref_cosB x0 x1 x2 x3 x4 x5 x6 x7 x8 x9 x10 x11 x12 b s k
  have h_v35 := fun k => ref_sinB x0 x1 x2 x3 x4 x5 x6 x7 x8 x9 x10 x11 x12 b s k
  generalize e_v215 : val_main_v215 (F := Ideal) x0 x2 x3 x6 x8 x10 = u_v215 at *
  generalize e_v34 : val_main_v34 (F := Ideal) x1 = u_v34 at *
  generalize e_v35 : val_main_v35 (F := Ideal) x1 = u_v35 at *
  pointwise [val_main_v230, val_main_v231, val_main_v234, val_main_v232, val_main_v236, val_main_v237, val_main_v235, val_main_v233,
    val_main_v238, val_main_v239, val_main_v240, val_main_v241, val_main_v242, val_main_v243, val_main_v244, val_main_v245,
    val_main_v246, val_main_v247, Layer.qb, turned, e_v215, e_v34, e_v35]
  by_cases h1 : d.val < 64
  · simp [h1, h_v215, h_v34, h_v35]
  by_cases h2 : d.val < 80
  · simp [h1, h2, show d.val - 64 < 16 by omega, show 64 + (d.val - 64) = d.val by omega, show 64 + (16 + (d.val - 64)) = d.val + 16 by omega, show 80 + (d.val - 64) = d.val + 16 by omega, h_v215, h_v34, h_v35]
  · simp [h1, h2, show ¬ d.val - 64 < 16 by omega, show d.val < 96 by omega, show d.val - 64 - 16 = d.val - 80 by omega,
      show 64 + (d.val - 80) = d.val - 16 by omega, show 64 + (16 + (d.val - 80)) = d.val by omega, show 80 + (d.val - 80) = d.val by omega, h_v215, h_v34, h_v35]

set_option maxRecDepth 16384 in
theorem ref_kb (h : Fin 8) (d : Fin 96) : val_main_v265 (F := Ideal) x0 x1 x2 x3 x7 x9 x11 (ix4 b s h d) = (given x0 x1 x2 x3 x4 x5 x6
    x7 x8 x9 x10 x11 x12).kb b s h d := by
  have h_v229 := fun d => ref_kb0 x0 x1 x2 x3 x4 x5 x6 x7 x8 x9 x10 x11 x12 b s h d
  have h_v34 := fun k => ref_cosB x0 x1 x2 x3 x4 x5 x6 x7 x8 x9 x10 x11 x12 b s k
  have h_v35 := fun k => ref_sinB x0 x1 x2 x3 x4 x5 x6 x7 x8 x9 x10 x11 x12 b s k
  generalize e_v229 : val_main_v229 (F := Ideal) x0 x2 x3 x7 x9 x11 = u_v229 at *
  generalize e_v34 : val_main_v34 (F := Ideal) x1 = u_v34 at *
  generalize e_v35 : val_main_v35 (F := Ideal) x1 = u_v35 at *
  pointwise [val_main_v248, val_main_v249, val_main_v252, val_main_v250, val_main_v254, val_main_v255, val_main_v253, val_main_v251,
    val_main_v256, val_main_v257, val_main_v258, val_main_v259, val_main_v260, val_main_v261, val_main_v262, val_main_v263,
    val_main_v264, val_main_v265, Layer.kb, turned, e_v229, e_v34, e_v35]
  by_cases h1 : d.val < 64
  · simp [h1, h_v229, h_v34, h_v35]
  by_cases h2 : d.val < 80
  · simp [h1, h2, show d.val - 64 < 16 by omega, show 64 + (d.val - 64) = d.val by omega, show 64 + (16 + (d.val - 64)) = d.val + 16 by omega, show 80 + (d.val - 64) = d.val + 16 by omega, h_v229, h_v34, h_v35]
  · simp [h1, h2, show ¬ d.val - 64 < 16 by omega, show d.val < 96 by omega, show d.val - 64 - 16 = d.val - 80 by omega,
      show 64 + (d.val - 80) = d.val - 16 by omega, show 64 + (16 + (d.val - 80)) = d.val by omega, show 80 + (d.val - 80) = d.val by omega, h_v229, h_v34, h_v35]

set_option maxRecDepth 16384 in
theorem ref_qm (h : Fin 4) (d : Fin 128) : val_main_v280 (F := Ideal) x0 x2 x3 x12 (ix4 b s h d) = (given x0 x1 x2 x3 x4 x5 x6 x7 x8
    x9 x10 x11 x12).qm b s h d := by
  have h_v51 := fun j => ref_col x0 x1 x2 x3 x4 x5 x6 x7 x8 x9 x10 x11 x12 b s j
  generalize e_v51 : val_main_v51 (F := Ideal) x0 x2 x3 = u_v51 at *
  pointwise [val_main_v61, val_main_v266, val_main_v268, val_main_cst_30, val_main_v269, val_main_v270, val_main_cst_31,
    val_main_v271, val_main_v272, val_main_cst_32, val_main_v273, val_main_v274, val_main_v275, val_main_v276, val_main_v277,
    val_main_v267, val_main_v278, val_main_v279, val_main_v280, Layer.qm, normed, scaleOf, given, e_v51]
  simp only [h_v51]
  all_goals rfl

/-! ### The results -/

theorem pad_zero : (FloatOps.sitofp (F := Ideal) FTy.f32 0#32 : EReal) = 0 := by
  show (((0#32).toInt : ℝ) : EReal) = 0
  simp

theorem qi_congr {L : Layer} {b b' : Fin 8} {s s' : Fin 2048} (h : Fin 8) (d : Fin 64) (hb : b = b') (hs : s = s') :
    L.qi b s h d = L.qi b' s' h d := by rw [hb, hs]

theorem qa_congr {L : Layer} {b : Fin 8} {s : Fin 2048} {h h' : Fin 8} {d d' : Fin 64} (hh : h = h') (hd : d = d') :
    L.qa b s h d = L.qa b s h' d' := by rw [hh, hd]

set_option maxRecDepth 16384 in
theorem res_qa (i : Fin 1024) (n : Fin 16384) : val_main_v293 (F := Ideal) x0 x1 x2 x3 x4 (ix2 i n) = (given x0 x1 x2 x3 x4 x5 x6 x7
    x8 x9 x10 x11 x12).outQa i n := by
  have hu := fun b s h d => ref_qa x0 x1 x2 x3 x4 x5 x6 x7 x8 x9 x10 x11 x12 b s h d
  generalize eu : val_main_v94 (F := Ideal) x0 x1 x2 x3 x4 = u at *
  pointwise [val_main_v281, val_main_v282, val_main_v283, val_main_c, val_main_call0_v0, val_main_v284, val_main_v288, val_main_v285,
    val_main_v286, val_main_c_33, val_main_call1_v0, val_main_v287, val_main_v289, val_main_v290, val_main_v291, val_main_v292,
    val_main_v293, eu, Layer.outQa, Layer.entryOf, Layer.placeOf]
  simp only [hu]
  by_cases hp : i.val / 128 % 2 < 1
  · refine (dif_pos hp).trans ?_
    by_cases hq : i.val % 128 < 64
    · refine (dif_pos (⟨by omega, hq⟩ : _ ∧ _)).trans (Eq.trans ?_ (if_pos (by omega)).symm)
      exact qa_congr (Fin.ext (by show i.val / 256 * 2 = i.val / 128; omega)) (Fin.ext (by show i.val % 128 = i.val % 64; omega))
    · exact (dif_neg (fun h => hq h.2)).trans (pad_zero.trans (if_neg (by omega)).symm)
  · refine (dif_neg hp).trans ?_
    by_cases hq : 64 ≤ i.val % 128
    · refine (dif_pos (⟨by omega, hq, by omega⟩ : _ ∧ _ ∧ _)).trans (Eq.trans ?_ (if_pos (by omega)).symm)
      exact qa_congr (Fin.ext (by show i.val / 256 * 2 + 1 = i.val / 128; omega))
        (Fin.ext (by show i.val % 128 - 64 = i.val % 64; omega))
    · exact (dif_neg (fun h => hq h.2.1)).trans (pad_zero.trans (if_neg (by omega)).symm)

set_option maxRecDepth 16384 in
theorem res_qi (q : Fin 64) (d : Fin 128) (l : Fin 2048) : val_main_v298 (F := Ideal) x0 x1 x2 x3 (ix3 q d l) = (given x0 x1 x2 x3 x4
    x5 x6 x7 x8 x9 x10 x11 x12).outQi q d l := by
  have hu := fun b s h d => ref_qi x0 x1 x2 x3 x4 x5 x6 x7 x8 x9 x10 x11 x12 b s h d
  generalize eu : val_main_v148 (F := Ideal) x0 x1 x2 x3 = u at *
  pointwise [val_main_c_34, val_main_call2_v0, val_main_v294, val_main_v295, val_main_v296, val_main_v297, val_main_v298, eu,
    Layer.outQi, Layer.entryOf, Layer.placeOf]
  simp only [hu]
  exact dite_congr (propext ⟨fun h => h.2.2.2, fun h => ⟨by omega, by omega, by omega, h⟩⟩)
    (fun _ => qi_congr _ _ (Fin.ext (by show q.val / 8 = (q.val * 256 + l.val % 256) / 2048; omega))
      (Fin.ext (by show q.val % 8 * 256 + l.val % 256 = (q.val * 256 + l.val % 256) % 2048; omega))) (fun _ => pad_zero)

set_option maxRecDepth 16384 in
theorem res_wt (h : Fin 8) (n : Fin 16384) : val_main_v300 (F := Ideal) x0 x2 x3 (ix2 h n) = (given x0 x1 x2 x3 x4 x5 x6 x7 x8 x9 x10
    x11 x12).outWt h n := by
  have hu := fun b s j => ref_col x0 x1 x2 x3 x4 x5 x6 x7 x8 x9 x10 x11 x12 b s j
  generalize eu : val_main_v51 (F := Ideal) x0 x2 x3 = u at *
  pointwise [val_main_v57, val_main_cst_17, val_main_v161, val_main_v162, val_main_v299, val_main_v300, eu, Layer.outWt, Layer.wt,
    Layer.entryOf, Layer.placeOf]
  simp only [hu]

set_option maxRecDepth 16384 in
theorem res_ka (p : Fin 4) (n : Fin 16384) (l : Fin 128) : val_main_v303 (F := Ideal) x0 x1 x2 x3 x5 (ix3 p n l) = (given x0 x1 x2 x3
    x4 x5 x6 x7 x8 x9 x10 x11 x12).outKa p n l := by
  have hu := fun b s h d => ref_ka x0 x1 x2 x3 x4 x5 x6 x7 x8 x9 x10 x11 x12 b s h d
  generalize eu : val_main_v127 (F := Ideal) x0 x1 x2 x3 x5 = u at *
  pointwise [val_main_v301, val_main_v302, val_main_v303, eu, Layer.outKa, Layer.entryOf, Layer.placeOf]
  simp only [hu]

set_option maxRecDepth 16384 in
theorem res_va (j : Fin 512) (n : Fin 16384) : val_main_v306 (F := Ideal) x0 x2 x3 (ix2 j n) = (given x0 x1 x2 x3 x4 x5 x6 x7 x8 x9
    x10 x11 x12).outVa j n := by
  have hu := fun b s j => ref_col x0 x1 x2 x3 x4 x5 x6 x7 x8 x9 x10 x11 x12 b s j
  generalize eu : val_main_v51 (F := Ideal) x0 x2 x3 = u at *
  pointwise [val_main_v54, val_main_v304, val_main_v305, val_main_v306, eu, Layer.outVa, Layer.va, Layer.entryOf, Layer.placeOf]
  simp only [hu]

set_option maxRecDepth 16384 in
theorem res_ki (n : Fin 16384) (d : Fin 128) : val_main_v309 (F := Ideal) x0 x1 x2 x3 (ix2 n d) = (given x0 x1 x2 x3 x4 x5 x6 x7 x8 x9
    x10 x11 x12).outKi n d := by
  have hu := fun b s d => ref_ki x0 x1 x2 x3 x4 x5 x6 x7 x8 x9 x10 x11 x12 b s d
  generalize eu : val_main_v160 (F := Ideal) x0 x1 x2 x3 = u at *
  pointwise [val_main_c_35, val_main_call3_v0, val_main_v307, val_main_v308, val_main_v309, eu, Layer.outKi, Layer.entryOf,
    Layer.placeOf]
  simp only [hu]
  exact dite_congr (propext ⟨fun h => h.2.2, fun h => ⟨by omega, by omega, h⟩⟩) (fun _ => rfl) (fun _ => pad_zero)

set_option maxRecDepth 16384 in
theorem res_qb (i : Fin 1024) (n : Fin 16384) : val_main_v313 (F := Ideal) x0 x1 x2 x3 x6 x8 x10 (ix2 i n) = (given x0 x1 x2 x3 x4 x5
    x6 x7 x8 x9 x10 x11 x12).outQb i n := by
  have hu := fun b s h d => ref_qb x0 x1 x2 x3 x4 x5 x6 x7 x8 x9 x10 x11 x12 b s h d
  generalize eu : val_main_v247 (F := Ideal) x0 x1 x2 x3 x6 x8 x10 = u at *
  pointwise [val_main_c_36, val_main_call4_v0, val_main_v310, val_main_v311, val_main_v312, val_main_v313, eu, Layer.outQb, padded,
    Layer.entryOf, Layer.placeOf]
  simp only [hu]
  exact dite_congr (propext ⟨fun h => h.2.2.2, fun h => ⟨by omega, by omega, by omega, h⟩⟩) (fun _ => rfl) (fun _ => pad_zero)

set_option maxRecDepth 16384 in
theorem res_kb (n : Fin 16384) (i : Fin 1024) : val_main_v316 (F := Ideal) x0 x1 x2 x3 x7 x9 x11 (ix2 n i) = (given x0 x1 x2 x3 x4 x5
    x6 x7 x8 x9 x10 x11 x12).outKb n i := by
  have hu := fun b s h d => ref_kb x0 x1 x2 x3 x4 x5 x6 x7 x8 x9 x10 x11 x12 b s h d
  generalize eu : val_main_v265 (F := Ideal) x0 x1 x2 x3 x7 x9 x11 = u at *
  pointwise [val_main_c_37, val_main_call5_v0, val_main_v314, val_main_v315, val_main_v316, eu, Layer.outKb, padded, Layer.entryOf,
    Layer.placeOf]
  simp only [hu]
  exact dite_congr (propext ⟨fun h => h.2.2.2, fun h => ⟨by omega, by omega, by omega, h⟩⟩) (fun _ => rfl) (fun _ => pad_zero)

set_option maxRecDepth 16384 in
theorem res_vb (i : Fin 512) (n : Fin 16384) : val_main_v319 (F := Ideal) x0 x2 x3 x7 x9 (ix2 i n) = (given x0 x1 x2 x3 x4 x5 x6 x7 x8
    x9 x10 x11 x12).outVb i n := by
  have hu := fun b s h d => ref_kv x0 x1 x2 x3 x4 x5 x6 x7 x8 x9 x10 x11 x12 b s h d
  generalize eu : val_main_v196 (F := Ideal) x0 x2 x3 x7 x9 = u at *
  pointwise [val_main_v198, val_main_v317, val_main_v318, val_main_v319, eu, Layer.outVb, Layer.vb, Layer.entryOf, Layer.placeOf]
  simp only [hu]

set_option maxRecDepth 16384 in
theorem res_qm (i : Fin 512) (n : Fin 16384) : val_main_v322 (F := Ideal) x0 x2 x3 x12 (ix2 i n) = (given x0 x1 x2 x3 x4 x5 x6 x7 x8
    x9 x10 x11 x12).outQm i n := by
  have hu := fun b s h d => ref_qm x0 x1 x2 x3 x4 x5 x6 x7 x8 x9 x10 x11 x12 b s h d
  generalize eu : val_main_v280 (F := Ideal) x0 x2 x3 x12 = u at *
  pointwise [val_main_v320, val_main_v321, val_main_v322, eu, Layer.outQm, Layer.entryOf, Layer.placeOf]
  simp only [hu]

end Cert.Proof.Proj

end
-- ==== Proof.ProjClaim.lean ====
/-
  Hand-written, untrusted. The claim about the projection: the kernel's program and the plain program end with the same ten
  results.
-/
module

public import proofs.«01_k».proof.Defs
public import proofs.«01_k».proof.Proof.ProjRun
public import proofs.«01_k».proof.Proof.ProjRef
public import proofs.«01_k».proof.Proof.Gen.Reference3Ideal

@[expose] public section

noncomputable section

namespace Cert.Proof.Proj

open Idealize.ShloMosaic Idealize.SL.Sem Cert.Kernel3Ideal Cert.Kernel3Ideal.Gen Idealize.ShloMosaic.TcCoe

section

variable (m : (ℓ : Loc nD τ sig) → Buf (Elt Ideal) ℓ) (c : Dev nD)

/-! ### The plain program's results at the kernel's arguments -/

theorem end_qa : Cert.Reference3Ideal.Read.val_main_v293 (F := Ideal) (argX m c) (argPos m c) (argGNorm m c) (argWIn m c) (argGQa m c)
    = result_qa m c := by
  funext y
  rw [eq_ix2 y]
  exact res_qa (argX m c) (argPos m c) (argGNorm m c) (argWIn m c) (argGQa m c) (argGKa m c) (argGCq m c) (argGCkv m c) (argWUq m c)
    (argWUkv m c) (argGQb m c) (argGKb m c) (argGQm m c) (y 0) (y 1)

theorem end_qi : Cert.Reference3Ideal.Read.val_main_v298 (F := Ideal) (argX m c) (argPos m c) (argGNorm m c) (argWIn m c) = result_qi
    m c := by
  funext y
  rw [eq_ix3 y]
  exact res_qi (argX m c) (argPos m c) (argGNorm m c) (argWIn m c) (argGQa m c) (argGKa m c) (argGCq m c) (argGCkv m c) (argWUq m c)
    (argWUkv m c) (argGQb m c) (argGKb m c) (argGQm m c) (y 0) (y 1) (y 2)

theorem end_wt : Cert.Reference3Ideal.Read.val_main_v300 (F := Ideal) (argX m c) (argGNorm m c) (argWIn m c) = result_wt m c := by
  funext y
  rw [eq_ix2 y]
  exact res_wt (argX m c) (argPos m c) (argGNorm m c) (argWIn m c) (argGQa m c) (argGKa m c) (argGCq m c) (argGCkv m c) (argWUq m c)
    (argWUkv m c) (argGQb m c) (argGKb m c) (argGQm m c) (y 0) (y 1)

theorem end_ka : Cert.Reference3Ideal.Read.val_main_v303 (F := Ideal) (argX m c) (argPos m c) (argGNorm m c) (argWIn m c) (argGKa m c)
    = result_ka m c := by
  funext y
  rw [eq_ix3 y]
  exact res_ka (argX m c) (argPos m c) (argGNorm m c) (argWIn m c) (argGQa m c) (argGKa m c) (argGCq m c) (argGCkv m c) (argWUq m c)
    (argWUkv m c) (argGQb m c) (argGKb m c) (argGQm m c) (y 0) (y 1) (y 2)

theorem end_va : Cert.Reference3Ideal.Read.val_main_v306 (F := Ideal) (argX m c) (argGNorm m c) (argWIn m c) = result_va m c := by
  funext y
  rw [eq_ix2 y]
  exact res_va (argX m c) (argPos m c) (argGNorm m c) (argWIn m c) (argGQa m c) (argGKa m c) (argGCq m c) (argGCkv m c) (argWUq m c)
    (argWUkv m c) (argGQb m c) (argGKb m c) (argGQm m c) (y 0) (y 1)

theorem end_ki : Cert.Reference3Ideal.Read.val_main_v309 (F := Ideal) (argX m c) (argPos m c) (argGNorm m c) (argWIn m c) = result_ki
    m c := by
  funext y
  rw [eq_ix2 y]
  exact res_ki (argX m c) (argPos m c) (argGNorm m c) (argWIn m c) (argGQa m c) (argGKa m c) (argGCq m c) (argGCkv m c) (argWUq m c)
    (argWUkv m c) (argGQb m c) (argGKb m c) (argGQm m c) (y 0) (y 1)

theorem end_qb : Cert.Reference3Ideal.Read.val_main_v313 (F := Ideal) (argX m c) (argPos m c) (argGNorm m c) (argWIn m c) (argGCq m c)
    (argWUq m c) (argGQb m c) = result_qb m c := by
  funext y
  rw [eq_ix2 y]
  exact res_qb (argX m c) (argPos m c) (argGNorm m c) (argWIn m c) (argGQa m c) (argGKa m c) (argGCq m c) (argGCkv m c) (argWUq m c)
    (argWUkv m c) (argGQb m c) (argGKb m c) (argGQm m c) (y 0) (y 1)

theorem end_kb : Cert.Reference3Ideal.Read.val_main_v316 (F := Ideal) (argX m c) (argPos m c) (argGNorm m c) (argWIn m c) (argGCkv m
    c) (argWUkv m c) (argGKb m c) = result_kb m c := by
  funext y
  rw [eq_ix2 y]
  exact res_kb (argX m c) (argPos m c) (argGNorm m c) (argWIn m c) (argGQa m c) (argGKa m c) (argGCq m c) (argGCkv m c) (argWUq m c)
    (argWUkv m c) (argGQb m c) (argGKb m c) (argGQm m c) (y 0) (y 1)

theorem end_vb : Cert.Reference3Ideal.Read.val_main_v319 (F := Ideal) (argX m c) (argGNorm m c) (argWIn m c) (argGCkv m c) (argWUkv m
    c) = result_vb m c := by
  funext y
  rw [eq_ix2 y]
  exact res_vb (argX m c) (argPos m c) (argGNorm m c) (argWIn m c) (argGQa m c) (argGKa m c) (argGCq m c) (argGCkv m c) (argWUq m c)
    (argWUkv m c) (argGQb m c) (argGKb m c) (argGQm m c) (y 0) (y 1)

theorem end_qm : Cert.Reference3Ideal.Read.val_main_v322 (F := Ideal) (argX m c) (argGNorm m c) (argWIn m c) (argGQm m c) = result_qm
    m c := by
  funext y
  rw [eq_ix2 y]
  exact res_qm (argX m c) (argPos m c) (argGNorm m c) (argWIn m c) (argGQa m c) (argGKa m c) (argGCq m c) (argGCkv m c) (argWUq m c)
    (argWUkv m c) (argGQb m c) (argGKb m c) (argGQm m c) (y 0) (y 1)

end

/-- The kernel's program and the plain program, started on the same arguments, end with the same ten results. -/
theorem algebraic : Cert.algebraic_Kernel3Ideal_Reference3Ideal := by
  intro m g m' g' _ hagree
  refine ⟨fun c => result_qa m c, fun c => result_qi m c, fun c => result_wt m c, fun c => result_ka m c, fun c => result_va m c, fun
    c => result_ki m c, fun c => result_qb m c, fun c => result_kb m c, fun c => result_vb m c, fun c => result_qm m c, ?_, ?_⟩
  · refine (θ_run defs _ _).mono (fun r h c => ?_) (Value.run_blocks m g)
    obtain ⟨h0, h1, h2, h3, h4, h5, h6, h7, h8, h9, kept⟩ := h c
    exact ⟨h0.trans (final_qa m c), h1.trans (final_qi m c), h2.trans (final_wt m c), h3.trans (final_ka m c), h4.trans (final_va m
      c), h5.trans (final_ki m c), h6.trans (final_qb m c), h7.trans (final_kb m c), h8.trans (final_vb m c), h9.trans (final_qm m c),
      kept⟩
  · refine (θ_run _ _ _).mono (fun r h c => ?_) (Cert.Reference3Ideal.Value.run (F := Ideal) m' g')
    obtain ⟨h0, h1, h2, h3, h4, h5, h6, h7, h8, h9, kept⟩ := h c
    obtain ⟨a0, a1, a2, a3, a4, a5, a6, a7, a8, a9, a10, a11, a12⟩ := hagree c
    have e0 : StableHlo.launchContents m' c (Proc.devRef .tc Cert.Reference3Ideal.main_arg0) = argX m c := a0
    have e1 : StableHlo.launchContents m' c (Proc.devRef .tc Cert.Reference3Ideal.main_arg1) = argPos m c := a1
    have e2 : StableHlo.launchContents m' c (Proc.devRef .tc Cert.Reference3Ideal.main_arg2) = argGNorm m c := a2
    have e3 : StableHlo.launchContents m' c (Proc.devRef .tc Cert.Reference3Ideal.main_arg3) = argWIn m c := a3
    have e4 : StableHlo.launchContents m' c (Proc.devRef .tc Cert.Reference3Ideal.main_arg4) = argGQa m c := a4
    have e5 : StableHlo.launchContents m' c (Proc.devRef .tc Cert.Reference3Ideal.main_arg5) = argGKa m c := a5
    have e6 : StableHlo.launchContents m' c (Proc.devRef .tc Cert.Reference3Ideal.main_arg6) = argGCq m c := a6
    have e7 : StableHlo.launchContents m' c (Proc.devRef .tc Cert.Reference3Ideal.main_arg7) = argGCkv m c := a7
    have e8 : StableHlo.launchContents m' c (Proc.devRef .tc Cert.Reference3Ideal.main_arg8) = argWUq m c := a8
    have e9 : StableHlo.launchContents m' c (Proc.devRef .tc Cert.Reference3Ideal.main_arg9) = argWUkv m c := a9
    have e10 : StableHlo.launchContents m' c (Proc.devRef .tc Cert.Reference3Ideal.main_arg10) = argGQb m c := a10
    have e11 : StableHlo.launchContents m' c (Proc.devRef .tc Cert.Reference3Ideal.main_arg11) = argGKb m c := a11
    have e12 : StableHlo.launchContents m' c (Proc.devRef .tc Cert.Reference3Ideal.main_arg12) = argGQm m c := a12
    refine ⟨?_, ?_, ?_, ?_, ?_, ?_, ?_, ?_, ?_, ?_, kept⟩
    · rw [h0, Cert.Reference3Ideal.Read.val_main_v293_eq, e0, e1, e2, e3, e4]
      exact end_qa m c
    · rw [h1, Cert.Reference3Ideal.Read.val_main_v298_eq, e0, e1, e2, e3]
      exact end_qi m c
    · rw [h2, Cert.Reference3Ideal.Read.val_main_v300_eq, e0, e2, e3]
      exact end_wt m c
    · rw [h3, Cert.Reference3Ideal.Read.val_main_v303_eq, e0, e1, e2, e3, e5]
      exact end_ka m c
    · rw [h4, Cert.Reference3Ideal.Read.val_main_v306_eq, e0, e2, e3]
      exact end_va m c
    · rw [h5, Cert.Reference3Ideal.Read.val_main_v309_eq, e0, e1, e2, e3]
      exact end_ki m c
    · rw [h6, Cert.Reference3Ideal.Read.val_main_v313_eq, e0, e1, e2, e3, e6, e8, e10]
      exact end_qb m c
    · rw [h7, Cert.Reference3Ideal.Read.val_main_v316_eq, e0, e1, e2, e3, e7, e9, e11]
      exact end_kb m c
    · rw [h8, Cert.Reference3Ideal.Read.val_main_v319_eq, e0, e2, e3, e7, e9]
      exact end_vb m c
    · rw [h9, Cert.Reference3Ideal.Read.val_main_v322_eq, e0, e2, e3, e12]
      exact end_qm m c

end Cert.Proof.Proj

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.FinalClaim
public import proofs.«01_k».proof.Proof.MlaClaim
public import proofs.«01_k».proof.Proof.ProjClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Proof.Mla.preFacts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2, sem_eq_zero_of_no_sems (by decide) r.2⟩)
    (Cert.ReferenceIdeal.Value.run (F := Ideal) m ρ),
  fun m ρ _ => (θ_run Cert.ReferenceIdeal.defs _ _).mono (fun r h => ⟨fun c => (h c).2, sem_eq_zero_of_no_sems (by decide) r.2⟩)
    (Cert.ReferenceIdeal.Value.run (F := Ideal) m ρ),
  fun m ρ _ => Cert.Kernel2.Gen.frame m ρ,
  fun m ρ _ => Cert.Kernel2Ideal.Gen.frame m ρ,
  fun m ρ _ => (θ_run Cert.Reference2Ideal.defs _ _).mono (fun r h => ⟨fun c => (h c).2, sem_eq_zero_of_no_sems (by decide) r.2⟩)
    (Cert.Reference2Ideal.Value.run (F := Ideal) m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2.2.2.2.2.2.2.2.2.2, sem_eq_zero_of_no_sems (by decide) r.2⟩)
    (Cert.Reference3Ideal.Value.run (F := Ideal) m ρ),
  IdealRules.named_const.statement Cert.KernelIdeal.κ "mask" .f32 0xF149F2CA#32 ⊥ rfl,
  Cert.Proof.Mla.algebraic,
  trivial,
  Cert.Proof.Final.algebraic,
  trivial,
  Cert.Proof.Proj.algebraic⟩

end Cert.Proof

end
